-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x1024 : Shape := ⟨2, ![4096, 1024]⟩
abbrev S4096 : Shape := ⟨1, ![4096]⟩
abbrev S1024 : Shape := ⟨1, ![1024]⟩
abbrev S_ : Shape := ⟨0, ![]⟩
abbrev S1 : Shape := ⟨1, ![1]⟩
abbrev S2 : Shape := ⟨1, ![2]⟩
abbrev S1x1x1 : Shape := ⟨3, ![1, 1, 1]⟩
abbrev S4096x100x1024 : Shape := ⟨3, ![4096, 100, 1024]⟩
abbrev S4096x1x1024 : Shape := ⟨3, ![4096, 1, 1024]⟩
abbrev S4096x100 : Shape := ⟨2, ![4096, 100]⟩
abbrev S4096x100x1 : Shape := ⟨3, ![4096, 100, 1]⟩
abbrev S100 : Shape := ⟨1, ![100]⟩
abbrev S1x100 : Shape := ⟨2, ![1, 100]⟩
abbrev S4096x1 : Shape := ⟨2, ![4096, 1]⟩

class Facts : Prop where
  bcast_S_S4096x1024 : S_.BroadcastsInDim S4096x1024 (![] : Fin 0 → Fin S4096x1024.rank)
  bcast_S_S1 : S_.BroadcastsInDim S1 (![] : Fin 0 → Fin S1.rank)
  concatenates_S1_S1_S2_d0 : Shape.Concatenates [S1, S1] S2 0
  bcast_S_S1x1x1 : S_.BroadcastsInDim S1x1x1 (![] : Fin 0 → Fin S1x1x1.rank)
  slices_S2_S1_0 : S2.Slices ![0] S1
  shapeCasts_S1_S_ : S1.ShapeCasts S_
  slices_S2_S1_1 : S2.Slices ![1] S1
  bcast_S_S4096x100x1024 : S_.BroadcastsInDim S4096x100x1024 (![] : Fin 0 → Fin S4096x100x1024.rank)
  natLt_32_64 : 32 < 64
  bcast_S1x1x1_S4096x100x1024_0_1_2 : S1x1x1.BroadcastsInDim S4096x100x1024 (![0, 1, 2] : Fin 3 → Fin S4096x100x1024.rank)
  bcast_S4096x1024_S4096x1x1024_0_2 : S4096x1024.BroadcastsInDim S4096x1x1024 (![0, 2] : Fin 2 → Fin S4096x1x1024.rank)
  bcast_S4096x1x1024_S4096x100x1024_0_1_2 : S4096x1x1024.BroadcastsInDim S4096x100x1024 (![0, 1, 2] : Fin 3 → Fin S4096x100x1024.rank)
  reducesTo_S4096x100x1024_S4096x100_d2 : S4096x100x1024.ReducesTo [2] S4096x100
  h_S_ : 0 < S_.numel
  bcast_S4096x100_S4096x100x1_0_1 : S4096x100.BroadcastsInDim S4096x100x1 (![0, 1] : Fin 2 → Fin S4096x100x1.rank)
  bcast_S4096x100x1_S4096x100x1024_0_1_2 : S4096x100x1.BroadcastsInDim S4096x100x1024 (![0, 1, 2] : Fin 3 → Fin S4096x100x1024.rank)
  natLt_1_32 : 1 < 32
  bcast_S100_S1x100_1 : S100.BroadcastsInDim S1x100 (![1] : Fin 1 → Fin S1x100.rank)
  bcast_S4096_S4096x1_0 : S4096.BroadcastsInDim S4096x1 (![0] : Fin 1 → Fin S4096x1.rank)
  bcast_S1x100_S4096x100_0_1 : S1x100.BroadcastsInDim S4096x100 (![0, 1] : Fin 2 → Fin S4096x100.rank)
  bcast_S4096x1_S4096x100_0_1 : S4096x1.BroadcastsInDim S4096x100 (![0, 1] : Fin 2 → Fin S4096x100.rank)
  bcast_S_S4096 : S_.BroadcastsInDim S4096 (![] : Fin 0 → Fin S4096.rank)
  bcast_S_S4096x100 : S_.BroadcastsInDim S4096x100 (![] : Fin 0 → Fin S4096x100.rank)

variable [Facts]

def fn_clip {F : FTy → Type} [FloatOps F] (arg0 : FVec F S4096x1024 .f32) (arg1 : FVec F S_ .f32) : FVec F S4096x1024 .f32 :=
  let v0 : FVec F S_ .f32 := id arg1
  let v1 : FVec F S4096x1024 .f32 := broadcastInDim S4096x1024 ![] bcast_S_S4096x1024 v0
  let v2 : FVec F S4096x1024 .f32 := maximumf v1 arg0
  v2

def fn_threefry2x32_part9 {F : FTy → Type} [FloatOps F] (arg0 : IVec S_ 32) (v163 : IVec S4096x100x1024 32) (v169 : IVec S4096x100x1024 32) (v170 : IVec S4096x100x1024 32) : IVec S4096x100x1024 32 × IVec S4096x100x1024 32 :=
  let v171 : IVec S4096x100x1024 32 := addi v163 v170
  let v172 : IVec S4096x100x1024 32 := broadcastInDim S4096x100x1024 ![] bcast_S_S4096x100x1024 arg0
  let v173 : IVec S4096x100x1024 32 := addi v169 v172
  let c_44 : IVec S_ 32 := constantI S_ 32 5#32
  let v174 : IVec S4096x100x1024 32 := broadcastInDim S4096x100x1024 ![] bcast_S_S4096x100x1024 c_44
  let v175 : IVec S4096x100x1024 32 := addi v173 v174
  (v171, v175)

def fn_threefry2x32_part8 {F : FTy → Type} [FloatOps F] (arg0 : IVec S_ 32) (v1 : IVec S_ 32) (v148 : IVec S4096x100x1024 32) (v149 : IVec S4096x100x1024 32) (v151 : IVec S4096x100x1024 32) : IVec S4096x100x1024 32 × IVec S4096x100x1024 32 :=
  let c_39 : IVec S_ 32 := constantI S_ 32 17#32
  let v152 : IVec S4096x100x1024 32 := broadcastInDim S4096x100x1024 ![] bcast_S_S4096x100x1024 c_39
  let v153 : IVec S4096x100x1024 32 := Host.shrui v148 v152
  let v154 : IVec S4096x100x1024 32 := ori v151 v153
  let v155 : IVec S4096x100x1024 32 := xori v149 v154
  let v156 : IVec S4096x100x1024 32 := addi v149 v155
  let c_40 : IVec S_ 32 := constantI S_ 32 26#32
  let v157 : IVec S4096x100x1024 32 := broadcastInDim S4096x100x1024 ![] bcast_S_S4096x100x1024 c_40
  let v158 : IVec S4096x100x1024 32 := Host.shli v155 v157
  let c_41 : IVec S_ 32 := constantI S_ 32 6#32
  let v159 : IVec S4096x100x1024 32 := broadcastInDim S4096x100x1024 ![] bcast_S_S4096x100x1024 c_41
  let v160 : IVec S4096x100x1024 32 := Host.shrui v155 v159
  let v161 : IVec S4096x100x1024 32 := ori v158 v160
  let v162 : IVec S4096x100x1024 32 := xori v156 v161
  let v163 : IVec S4096x100x1024 32 := addi v156 v162
  let c_42 : IVec S_ 32 := constantI S_ 32 6#32
  let v164 : IVec S4096x100x1024 32 := broadcastInDim S4096x100x1024 ![] bcast_S_S4096x100x1024 c_42
  let v165 : IVec S4096x100x1024 32 := Host.shli v162 v164
  let c_43 : IVec S_ 32 := constantI S_ 32 26#32
  let v166 : IVec S4096x100x1024 32 := broadcastInDim S4096x100x1024 ![] bcast_S_S4096x100x1024 c_43
  let v167 : IVec S4096x100x1024 32 := Host.shrui v162 v166
  let v168 : IVec S4096x100x1024 32 := ori v165 v167
  let v169 : IVec S4096x100x1024 32 := xori v163 v168
  let v170 : IVec S4096x100x1024 32 := broadcastInDim S4096x100x1024 ![] bcast_S_S4096x100x1024 v1
  fn_threefry2x32_part9 (F := F) arg0 v163 v169 v170

def fn_threefry2x32_part7 {F : FTy → Type} [FloatOps F] (arg0 : IVec S_ 32) (arg1 : IVec S_ 32) (v1 : IVec S_ 32) (v128 : IVec S4096x100x1024 32) (v129 : IVec S4096x100x1024 32) (v131 : IVec S4096x100x1024 32) (c_34 : IVec S_ 32) : IVec S4096x100x1024 32 × IVec S4096x100x1024 32 :=
  let v132 : IVec S4096x100x1024 32 := broadcastInDim S4096x100x1024 ![] bcast_S_S4096x100x1024 c_34
  let v133 : IVec S4096x100x1024 32 := Host.shrui v128 v132
  let v134 : IVec S4096x100x1024 32 := ori v131 v133
  let v135 : IVec S4096x100x1024 32 := xori v129 v134
  let v136 : IVec S4096x100x1024 32 := broadcastInDim S4096x100x1024 ![] bcast_S_S4096x100x1024 arg1
  let v137 : IVec S4096x100x1024 32 := addi v129 v136
  let v138 : IVec S4096x100x1024 32 := broadcastInDim S4096x100x1024 ![] bcast_S_S4096x100x1024 v1
  let v139 : IVec S4096x100x1024 32 := addi v135 v138
  let c_35 : IVec S_ 32 := constantI S_ 32 4#32
  let v140 : IVec S4096x100x1024 32 := broadcastInDim S4096x100x1024 ![] bcast_S_S4096x100x1024 c_35
  let v141 : IVec S4096x100x1024 32 := addi v139 v140
  let v142 : IVec S4096x100x1024 32 := addi v137 v141
  let c_36 : IVec S_ 32 := constantI S_ 32 13#32
  let v143 : IVec S4096x100x1024 32 := broadcastInDim S4096x100x1024 ![] bcast_S_S4096x100x1024 c_36
  let v144 : IVec S4096x100x1024 32 := Host.shli v141 v143
  let c_37 : IVec S_ 32 := constantI S_ 32 19#32
  let v145 : IVec S4096x100x1024 32 := broadcastInDim S4096x100x1024 ![] bcast_S_S4096x100x1024 c_37
  let v146 : IVec S4096x100x1024 32 := Host.shrui v141 v145
  let v147 : IVec S4096x100x1024 32 := ori v144 v146
  let v148 : IVec S4096x100x1024 32 := xori v142 v147
  let v149 : IVec S4096x100x1024 32 := addi v142 v148
  let c_38 : IVec S_ 32 := constantI S_ 32 15#32
  let v150 : IVec S4096x100x1024 32 := broadcastInDim S4096x100x1024 ![] bcast_S_S4096x100x1024 c_38
  let v151 : IVec S4096x100x1024 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S4096x100x1024 32) (v113 : IVec S4096x100x1024 32) : IVec S4096x100x1024 32 × IVec S4096x100x1024 32 :=
  let v114 : IVec S4096x100x1024 32 := xori v108 v113
  let v115 : IVec S4096x100x1024 32 := addi v108 v114
  let c_29 : IVec S_ 32 := constantI S_ 32 29#32
  let v116 : IVec S4096x100x1024 32 := broadcastInDim S4096x100x1024 ![] bcast_S_S4096x100x1024 c_29
  let v117 : IVec S4096x100x1024 32 := Host.shli v114 v116
  let c_30 : IVec S_ 32 := constantI S_ 32 3#32
  let v118 : IVec S4096x100x1024 32 := broadcastInDim S4096x100x1024 ![] bcast_S_S4096x100x1024 c_30
  let v119 : IVec S4096x100x1024 32 := Host.shrui v114 v118
  let v120 : IVec S4096x100x1024 32 := ori v117 v119
  let v121 : IVec S4096x100x1024 32 := xori v115 v120
  let v122 : IVec S4096x100x1024 32 := addi v115 v121
  let c_31 : IVec S_ 32 := constantI S_ 32 16#32
  let v123 : IVec S4096x100x1024 32 := broadcastInDim S4096x100x1024 ![] bcast_S_S4096x100x1024 c_31
  let v124 : IVec S4096x100x1024 32 := Host.shli v121 v123
  let c_32 : IVec S_ 32 := constantI S_ 32 16#32
  let v125 : IVec S4096x100x1024 32 := broadcastInDim S4096x100x1024 ![] bcast_S_S4096x100x1024 c_32
  let v126 : IVec S4096x100x1024 32 := Host.shrui v121 v125
  let v127 : IVec S4096x100x1024 32 := ori v124 v126
  let v128 : IVec S4096x100x1024 32 := xori v122 v127
  let v129 : IVec S4096x100x1024 32 := addi v122 v128
  let c_33 : IVec S_ 32 := constantI S_ 32 24#32
  let v130 : IVec S4096x100x1024 32 := broadcastInDim S4096x100x1024 ![] bcast_S_S4096x100x1024 c_33
  let v131 : IVec S4096x100x1024 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S4096x100x1024 32) (v94 : IVec S4096x100x1024 32) : IVec S4096x100x1024 32 × IVec S4096x100x1024 32 :=
  let v95 : IVec S4096x100x1024 32 := addi v88 v94
  let c_24 : IVec S_ 32 := constantI S_ 32 6#32
  let v96 : IVec S4096x100x1024 32 := broadcastInDim S4096x100x1024 ![] bcast_S_S4096x100x1024 c_24
  let v97 : IVec S4096x100x1024 32 := Host.shli v94 v96
  let c_25 : IVec S_ 32 := constantI S_ 32 26#32
  let v98 : IVec S4096x100x1024 32 := broadcastInDim S4096x100x1024 ![] bcast_S_S4096x100x1024 c_25
  let v99 : IVec S4096x100x1024 32 := Host.shrui v94 v98
  let v100 : IVec S4096x100x1024 32 := ori v97 v99
  let v101 : IVec S4096x100x1024 32 := xori v95 v100
  let v102 : IVec S4096x100x1024 32 := broadcastInDim S4096x100x1024 ![] bcast_S_S4096x100x1024 arg0
  let v103 : IVec S4096x100x1024 32 := addi v95 v102
  let v104 : IVec S4096x100x1024 32 := broadcastInDim S4096x100x1024 ![] bcast_S_S4096x100x1024 arg1
  let v105 : IVec S4096x100x1024 32 := addi v101 v104
  let c_26 : IVec S_ 32 := constantI S_ 32 3#32
  let v106 : IVec S4096x100x1024 32 := broadcastInDim S4096x100x1024 ![] bcast_S_S4096x100x1024 c_26
  let v107 : IVec S4096x100x1024 32 := addi v105 v106
  let v108 : IVec S4096x100x1024 32 := addi v103 v107
  let c_27 : IVec S_ 32 := constantI S_ 32 17#32
  let v109 : IVec S4096x100x1024 32 := broadcastInDim S4096x100x1024 ![] bcast_S_S4096x100x1024 c_27
  let v110 : IVec S4096x100x1024 32 := Host.shli v107 v109
  let c_28 : IVec S_ 32 := constantI S_ 32 15#32
  let v111 : IVec S4096x100x1024 32 := broadcastInDim S4096x100x1024 ![] bcast_S_S4096x100x1024 c_28
  let v112 : IVec S4096x100x1024 32 := Host.shrui v107 v111
  let v113 : IVec S4096x100x1024 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S4096x100x1024 32) (v74 : IVec S4096x100x1024 32) (v75 : IVec S4096x100x1024 32) : IVec S4096x100x1024 32 × IVec S4096x100x1024 32 :=
  let v76 : IVec S4096x100x1024 32 := Host.shli v73 v75
  let c_19 : IVec S_ 32 := constantI S_ 32 19#32
  let v77 : IVec S4096x100x1024 32 := broadcastInDim S4096x100x1024 ![] bcast_S_S4096x100x1024 c_19
  let v78 : IVec S4096x100x1024 32 := Host.shrui v73 v77
  let v79 : IVec S4096x100x1024 32 := ori v76 v78
  let v80 : IVec S4096x100x1024 32 := xori v74 v79
  let v81 : IVec S4096x100x1024 32 := addi v74 v80
  let c_20 : IVec S_ 32 := constantI S_ 32 15#32
  let v82 : IVec S4096x100x1024 32 := broadcastInDim S4096x100x1024 ![] bcast_S_S4096x100x1024 c_20
  let v83 : IVec S4096x100x1024 32 := Host.shli v80 v82
  let c_21 : IVec S_ 32 := constantI S_ 32 17#32
  let v84 : IVec S4096x100x1024 32 := broadcastInDim S4096x100x1024 ![] bcast_S_S4096x100x1024 c_21
  let v85 : IVec S4096x100x1024 32 := Host.shrui v80 v84
  let v86 : IVec S4096x100x1024 32 := ori v83 v85
  let v87 : IVec S4096x100x1024 32 := xori v81 v86
  let v88 : IVec S4096x100x1024 32 := addi v81 v87
  let c_22 : IVec S_ 32 := constantI S_ 32 26#32
  let v89 : IVec S4096x100x1024 32 := broadcastInDim S4096x100x1024 ![] bcast_S_S4096x100x1024 c_22
  let v90 : IVec S4096x100x1024 32 := Host.shli v87 v89
  let c_23 : IVec S_ 32 := constantI S_ 32 6#32
  let v91 : IVec S4096x100x1024 32 := broadcastInDim S4096x100x1024 ![] bcast_S_S4096x100x1024 c_23
  let v92 : IVec S4096x100x1024 32 := Host.shrui v87 v91
  let v93 : IVec S4096x100x1024 32 := ori v90 v92
  let v94 : IVec S4096x100x1024 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S4096x100x1024 32) (v54 : IVec S4096x100x1024 32) (v56 : IVec S4096x100x1024 32) : IVec S4096x100x1024 32 × IVec S4096x100x1024 32 :=
  let c_14 : IVec S_ 32 := constantI S_ 32 16#32
  let v57 : IVec S4096x100x1024 32 := broadcastInDim S4096x100x1024 ![] bcast_S_S4096x100x1024 c_14
  let v58 : IVec S4096x100x1024 32 := Host.shrui v53 v57
  let v59 : IVec S4096x100x1024 32 := ori v56 v58
  let v60 : IVec S4096x100x1024 32 := xori v54 v59
  let v61 : IVec S4096x100x1024 32 := addi v54 v60
  let c_15 : IVec S_ 32 := constantI S_ 32 24#32
  let v62 : IVec S4096x100x1024 32 := broadcastInDim S4096x100x1024 ![] bcast_S_S4096x100x1024 c_15
  let v63 : IVec S4096x100x1024 32 := Host.shli v60 v62
  let c_16 : IVec S_ 32 := constantI S_ 32 8#32
  let v64 : IVec S4096x100x1024 32 := broadcastInDim S4096x100x1024 ![] bcast_S_S4096x100x1024 c_16
  let v65 : IVec S4096x100x1024 32 := Host.shrui v60 v64
  let v66 : IVec S4096x100x1024 32 := ori v63 v65
  let v67 : IVec S4096x100x1024 32 := xori v61 v66
  let v68 : IVec S4096x100x1024 32 := broadcastInDim S4096x100x1024 ![] bcast_S_S4096x100x1024 v1
  let v69 : IVec S4096x100x1024 32 := addi v61 v68
  let v70 : IVec S4096x100x1024 32 := broadcastInDim S4096x100x1024 ![] bcast_S_S4096x100x1024 arg0
  let v71 : IVec S4096x100x1024 32 := addi v67 v70
  let c_17 : IVec S_ 32 := constantI S_ 32 2#32
  let v72 : IVec S4096x100x1024 32 := broadcastInDim S4096x100x1024 ![] bcast_S_S4096x100x1024 c_17
  let v73 : IVec S4096x100x1024 32 := addi v71 v72
  let v74 : IVec S4096x100x1024 32 := addi v69 v73
  let c_18 : IVec S_ 32 := constantI S_ 32 13#32
  let v75 : IVec S4096x100x1024 32 := broadcastInDim S4096x100x1024 ![] bcast_S_S4096x100x1024 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S4096x100x1024 32) (v37 : IVec S4096x100x1024 32) (c_8 : IVec S_ 32) : IVec S4096x100x1024 32 × IVec S4096x100x1024 32 :=
  let v38 : IVec S4096x100x1024 32 := broadcastInDim S4096x100x1024 ![] bcast_S_S4096x100x1024 c_8
  let v39 : IVec S4096x100x1024 32 := addi v37 v38
  let v40 : IVec S4096x100x1024 32 := addi v35 v39
  let c_9 : IVec S_ 32 := constantI S_ 32 17#32
  let v41 : IVec S4096x100x1024 32 := broadcastInDim S4096x100x1024 ![] bcast_S_S4096x100x1024 c_9
  let v42 : IVec S4096x100x1024 32 := Host.shli v39 v41
  let c_10 : IVec S_ 32 := constantI S_ 32 15#32
  let v43 : IVec S4096x100x1024 32 := broadcastInDim S4096x100x1024 ![] bcast_S_S4096x100x1024 c_10
  let v44 : IVec S4096x100x1024 32 := Host.shrui v39 v43
  let v45 : IVec S4096x100x1024 32 := ori v42 v44
  let v46 : IVec S4096x100x1024 32 := xori v40 v45
  let v47 : IVec S4096x100x1024 32 := addi v40 v46
  let c_11 : IVec S_ 32 := constantI S_ 32 29#32
  let v48 : IVec S4096x100x1024 32 := broadcastInDim S4096x100x1024 ![] bcast_S_S4096x100x1024 c_11
  let v49 : IVec S4096x100x1024 32 := Host.shli v46 v48
  let c_12 : IVec S_ 32 := constantI S_ 32 3#32
  let v50 : IVec S4096x100x1024 32 := broadcastInDim S4096x100x1024 ![] bcast_S_S4096x100x1024 c_12
  let v51 : IVec S4096x100x1024 32 := Host.shrui v46 v50
  let v52 : IVec S4096x100x1024 32 := ori v49 v51
  let v53 : IVec S4096x100x1024 32 := xori v47 v52
  let v54 : IVec S4096x100x1024 32 := addi v47 v53
  let c_13 : IVec S_ 32 := constantI S_ 32 16#32
  let v55 : IVec S4096x100x1024 32 := broadcastInDim S4096x100x1024 ![] bcast_S_S4096x100x1024 c_13
  let v56 : IVec S4096x100x1024 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S4096x100x1024 32) (v18 : IVec S4096x100x1024 32) : IVec S4096x100x1024 32 × IVec S4096x100x1024 32 :=
  let v19 : IVec S4096x100x1024 32 := xori v13 v18
  let v20 : IVec S4096x100x1024 32 := addi v13 v19
  let c_4 : IVec S_ 32 := constantI S_ 32 26#32
  let v21 : IVec S4096x100x1024 32 := broadcastInDim S4096x100x1024 ![] bcast_S_S4096x100x1024 c_4
  let v22 : IVec S4096x100x1024 32 := Host.shli v19 v21
  let c_5 : IVec S_ 32 := constantI S_ 32 6#32
  let v23 : IVec S4096x100x1024 32 := broadcastInDim S4096x100x1024 ![] bcast_S_S4096x100x1024 c_5
  let v24 : IVec S4096x100x1024 32 := Host.shrui v19 v23
  let v25 : IVec S4096x100x1024 32 := ori v22 v24
  let v26 : IVec S4096x100x1024 32 := xori v20 v25
  let v27 : IVec S4096x100x1024 32 := addi v20 v26
  let c_6 : IVec S_ 32 := constantI S_ 32 6#32
  let v28 : IVec S4096x100x1024 32 := broadcastInDim S4096x100x1024 ![] bcast_S_S4096x100x1024 c_6
  let v29 : IVec S4096x100x1024 32 := Host.shli v26 v28
  let c_7 : IVec S_ 32 := constantI S_ 32 26#32
  let v30 : IVec S4096x100x1024 32 := broadcastInDim S4096x100x1024 ![] bcast_S_S4096x100x1024 c_7
  let v31 : IVec S4096x100x1024 32 := Host.shrui v26 v30
  let v32 : IVec S4096x100x1024 32 := ori v29 v31
  let v33 : IVec S4096x100x1024 32 := xori v27 v32
  let v34 : IVec S4096x100x1024 32 := broadcastInDim S4096x100x1024 ![] bcast_S_S4096x100x1024 arg1
  let v35 : IVec S4096x100x1024 32 := addi v27 v34
  let v36 : IVec S4096x100x1024 32 := broadcastInDim S4096x100x1024 ![] bcast_S_S4096x100x1024 v1
  let v37 : IVec S4096x100x1024 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S4096x100x1024 32) (arg3 : IVec S4096x100x1024 32) : IVec S4096x100x1024 32 × IVec S4096x100x1024 32 :=
  let v0 : IVec S_ 32 := xori arg0 arg1
  let c : IVec S_ 32 := constantI S_ 32 466688986#32
  let v1 : IVec S_ 32 := xori v0 c
  let v2 : IVec S4096x100x1024 32 := broadcastInDim S4096x100x1024 ![] bcast_S_S4096x100x1024 arg0
  let v3 : IVec S4096x100x1024 32 := addi arg2 v2
  let v4 : IVec S4096x100x1024 32 := broadcastInDim S4096x100x1024 ![] bcast_S_S4096x100x1024 arg1
  let v5 : IVec S4096x100x1024 32 := addi arg3 v4
  let v6 : IVec S4096x100x1024 32 := addi v3 v5
  let c_0 : IVec S_ 32 := constantI S_ 32 13#32
  let v7 : IVec S4096x100x1024 32 := broadcastInDim S4096x100x1024 ![] bcast_S_S4096x100x1024 c_0
  let v8 : IVec S4096x100x1024 32 := Host.shli v5 v7
  let c_1 : IVec S_ 32 := constantI S_ 32 19#32
  let v9 : IVec S4096x100x1024 32 := broadcastInDim S4096x100x1024 ![] bcast_S_S4096x100x1024 c_1
  let v10 : IVec S4096x100x1024 32 := Host.shrui v5 v9
  let v11 : IVec S4096x100x1024 32 := ori v8 v10
  let v12 : IVec S4096x100x1024 32 := xori v6 v11
  let v13 : IVec S4096x100x1024 32 := addi v6 v12
  let c_2 : IVec S_ 32 := constantI S_ 32 15#32
  let v14 : IVec S4096x100x1024 32 := broadcastInDim S4096x100x1024 ![] bcast_S_S4096x100x1024 c_2
  let v15 : IVec S4096x100x1024 32 := Host.shli v12 v14
  let c_3 : IVec S_ 32 := constantI S_ 32 17#32
  let v16 : IVec S4096x100x1024 32 := broadcastInDim S4096x100x1024 ![] bcast_S_S4096x100x1024 c_3
  let v17 : IVec S4096x100x1024 32 := Host.shrui v12 v16
  let v18 : IVec S4096x100x1024 32 := ori v15 v17
  fn_threefry2x32_part1 (F := F) arg0 arg1 v1 v13 v18

def fn_uniform_part1 {F : FTy → Type} [FloatOps F] (v2 : FVec F S1x1x1 .f32) (v3 : FVec F S1x1x1 .f32) (v5 : IVec S_ 32) (v7 : IVec S_ 32) (v18 : IVec S4096x100x1024 64) (v19 : IVec S4096x100x1024 64) : FVec F S4096x100x1024 .f32 :=
  let v20 : IVec S4096x100x1024 64 := Host.shrui v18 v19
  let v21 : IVec S4096x100x1024 32 := (trunci 32 · natLt_32_64) v18
  let v22 : IVec S4096x100x1024 32 := (trunci 32 · natLt_32_64) v20
  let v23_0 : IVec S4096x100x1024 32 := (fn_threefry2x32 (F := F) v5 v7 v22 v21).1
  let v23_1 : IVec S4096x100x1024 32 := (fn_threefry2x32 (F := F) v5 v7 v22 v21).2
  let v24 : IVec S4096x100x1024 32 := xori v23_0 v23_1
  let c_3 : IVec S_ 32 := constantI S_ 32 9#32
  let v25 : IVec S4096x100x1024 32 := broadcastInDim S4096x100x1024 ![] bcast_S_S4096x100x1024 c_3
  let v26 : IVec S4096x100x1024 32 := Host.shrui v24 v25
  let c_4 : IVec S_ 32 := constantI S_ 32 1065353216#32
  let v27 : IVec S4096x100x1024 32 := broadcastInDim S4096x100x1024 ![] bcast_S_S4096x100x1024 c_4
  let v28 : IVec S4096x100x1024 32 := ori v26 v27
  let v29 : FVec F S4096x100x1024 .f32 := bitcastToFloat .f32 v28
  let cst : FVec F S_ .f32 := constant S_ .f32 0x3F800000#32
  let v30 : FVec F S4096x100x1024 .f32 := broadcastInDim S4096x100x1024 ![] bcast_S_S4096x100x1024 cst
  let v31 : FVec F S4096x100x1024 .f32 := subf v29 v30
  let v32 : FVec F S1x1x1 .f32 := subf v3 v2
  let v33 : FVec F S4096x100x1024 .f32 := broadcastInDim S4096x100x1024 ![0, 1, 2] bcast_S1x1x1_S4096x100x1024_0_1_2 v32
  let v34 : FVec F S4096x100x1024 .f32 := mulf v31 v33
  let v35 : FVec F S4096x100x1024 .f32 := broadcastInDim S4096x100x1024 ![0, 1, 2] bcast_S1x1x1_S4096x100x1024_0_1_2 v2
  let v36 : FVec F S4096x100x1024 .f32 := addf v34 v35
  let v37 : FVec F S4096x100x1024 .f32 := broadcastInDim S4096x100x1024 ![0, 1, 2] bcast_S1x1x1_S4096x100x1024_0_1_2 v2
  let v38 : FVec F S4096x100x1024 .f32 := maximumf v37 v36
  v38

def fn_uniform {F : FTy → Type} [FloatOps F] (arg0 : IVec S2 32) (arg1 : FVec F S_ .f32) (arg2 : FVec F S_ .f32) : FVec F S4096x100x1024 .f32 :=
  let v0 : FVec F S_ .f32 := id arg1
  let v1 : FVec F S_ .f32 := id arg2
  let v2 : FVec F S1x1x1 .f32 := broadcastInDim S1x1x1 ![] bcast_S_S1x1x1 v0
  let v3 : FVec F S1x1x1 .f32 := broadcastInDim S1x1x1 ![] bcast_S_S1x1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S4096x100x1024 64 := iotaInDim S4096x100x1024 64 0
  let v9 : IVec S4096x100x1024 64 := iotaInDim S4096x100x1024 64 1
  let v10 : IVec S4096x100x1024 64 := iotaInDim S4096x100x1024 64 2
  let c : IVec S_ 64 := constantI S_ 64 102400#64
  let v11 : IVec S4096x100x1024 64 := broadcastInDim S4096x100x1024 ![] bcast_S_S4096x100x1024 c
  let v12 : IVec S4096x100x1024 64 := muli v11 v8
  let c_0 : IVec S_ 64 := constantI S_ 64 1024#64
  let v13 : IVec S4096x100x1024 64 := broadcastInDim S4096x100x1024 ![] bcast_S_S4096x100x1024 c_0
  let v14 : IVec S4096x100x1024 64 := muli v13 v9
  let c_1 : IVec S_ 64 := constantI S_ 64 1#64
  let v15 : IVec S4096x100x1024 64 := broadcastInDim S4096x100x1024 ![] bcast_S_S4096x100x1024 c_1
  let v16 : IVec S4096x100x1024 64 := muli v15 v10
  let v17 : IVec S4096x100x1024 64 := addi v12 v14
  let v18 : IVec S4096x100x1024 64 := addi v17 v16
  let c_2 : IVec S_ 64 := constantI S_ 64 32#64
  let v19 : IVec S4096x100x1024 64 := broadcastInDim S4096x100x1024 ![] bcast_S_S4096x100x1024 c_2
  fn_uniform_part1 (F := F) v2 v3 v5 v7 v18 v19

def fn_part2 {F : FTy → Type} [FloatOps F] (main_arg1 : FVec F S4096 .f32) (main_v0 : IVec S4096 32) (main_v27 : IVec S4096x100 32) (main_v33 : IVec S4096x100 1) (main_v35 : IVec S4096x1024 1) (main_v36 : FVec F S4096 .f32) : IVec S4096x1024 1 × IVec S4096 1 × IVec S4096 1 × IVec S4096x100 1 :=
  let main_v37 : IVec S4096 1 := cmpf .oeq main_v36 main_arg1
  let main_c_9 : IVec S_ 32 := constantI S_ 32 100#32
  let main_v38 : IVec S4096 32 := broadcastInDim S4096 ![] bcast_S_S4096 main_c_9
  let main_v39 : IVec S4096 1 := cmpi .sle main_v0 main_v38
  let main_c_10 : IVec S_ 32 := constantI S_ 32 1#32
  let main_v40 : IVec S4096x100 32 := broadcastInDim S4096x100 ![] bcast_S_S4096x100 main_c_10
  let main_v41 : IVec S4096x100 1 := cmpi .eq main_v27 main_v40
  let main_v42 : IVec S4096x100 1 := ori main_v41 main_v33
  (main_v35, main_v37, main_v39, main_v42)

def fn_part1 {F : FTy → Type} [FloatOps F] (main_arg0 : FVec F S4096x1024 .f32) (main_arg1 : FVec F S4096 .f32) (main_v0 : IVec S4096 32) (main_v2 : FVec F S4096x1024 .f32) (main_v15 : FVec F S4096x100x1024 .f32) : IVec S4096x1024 1 × IVec S4096 1 × IVec S4096 1 × IVec S4096x100 1 :=
  let main_v16 : FVec F S4096x100x1024 .f32 := Host.negf main_v15
  let main_v17 : FVec F S4096x100x1024 .f32 := Host.log main_v16
  let main_v18 : FVec F S4096x100x1024 .f32 := Host.negf main_v17
  let main_v19 : FVec F S4096x1x1024 .f32 := broadcastInDim S4096x1x1024 ![0, 2] bcast_S4096x1024_S4096x1x1024_0_2 main_v2
  let main_v20 : FVec F S4096x100x1024 .f32 := broadcastInDim S4096x100x1024 ![0, 1, 2] bcast_S4096x1x1024_S4096x100x1024_0_1_2 main_v19
  let main_v21 : FVec F S4096x100x1024 .f32 := addf main_v18 main_v20
  let main_cst_6 : FVec F S_ .f32 := constant S_ .f32 0xFF800000#32
  let main_v22 : FVec F S4096x100 .f32 := (fun x v => Host.reduce FloatOps.maximumf x v reducesTo_S4096x100x1024_S4096x100_d2 h_S_) main_v21 main_cst_6
  let main_v23 : FVec F S4096x100x1 .f32 := broadcastInDim S4096x100x1 ![0, 1] bcast_S4096x100_S4096x100x1_0_1 main_v22
  let main_v24 : FVec F S4096x100x1024 .f32 := broadcastInDim S4096x100x1024 ![0, 1, 2] bcast_S4096x100x1_S4096x100x1024_0_1_2 main_v23
  let main_v25 : IVec S4096x100x1024 1 := cmpf .oeq main_v21 main_v24
  let main_v26 : IVec S4096x100x1024 32 := (extui 32 · natLt_1_32) main_v25
  let main_c_7 : IVec S_ 32 := constantI S_ 32 0#32
  let main_v27 : IVec S4096x100 32 := (fun x v => Host.reduce IntOp.addi x v reducesTo_S4096x100x1024_S4096x100_d2 h_S_) main_v26 main_c_7
  let main_v28 : IVec S100 32 := iotaInDim S100 32 0
  let main_v29 : IVec S1x100 32 := broadcastInDim S1x100 ![1] bcast_S100_S1x100_1 main_v28
  let main_v30 : IVec S4096x1 32 := broadcastInDim S4096x1 ![0] bcast_S4096_S4096x1_0 main_v0
  let main_v31 : IVec S4096x100 32 := broadcastInDim S4096x100 ![0, 1] bcast_S1x100_S4096x100_0_1 main_v29
  let main_v32 : IVec S4096x100 32 := broadcastInDim S4096x100 ![0, 1] bcast_S4096x1_S4096x100_0_1 main_v30
  let main_v33 : IVec S4096x100 1 := cmpi .sge main_v31 main_v32
  let main_cst_8 : FVec F S_ .f32 := constant S_ .f32 0x0DA24260#32
  let main_v34 : FVec F S4096x1024 .f32 := broadcastInDim S4096x1024 ![] bcast_S_S4096x1024 main_cst_8
  let main_v35 : IVec S4096x1024 1 := cmpf .oge main_arg0 main_v34
  let main_v36 : FVec F S4096 .f32 := sitofp .f32 main_v0
  fn_part2 (F := F) main_arg1 main_v0 main_v27 main_v33 main_v35 main_v36

def fn {F : FTy → Type} [FloatOps F] (main_arg0 : FVec F S4096x1024 .f32) (main_arg1 : FVec F S4096 .f32) (main_arg2 : FVec F S1024 .f32) (main_arg3 : FVec F S_ .f32) : IVec S4096x1024 1 × IVec S4096 1 × IVec S4096 1 × IVec S4096x100 1 :=
  let main_v0 : IVec S4096 32 := fptosi 32 main_arg1
  let main_cst : FVec F S_ .f32 := constant S_ .f32 0x0DA24260#32
  let main_v1 : FVec F S4096x1024 .f32 := fn_clip (F := F) main_arg0 main_cst
  let main_v2 : FVec F S4096x1024 .f32 := Host.log main_v1
  let main_c : IVec S_ 32 := constantI S_ 32 42#32
  let main_c_0 : IVec S_ 32 := constantI S_ 32 32#32
  let main_v3 : IVec S_ 32 := Host.shrui main_c main_c_0
  let main_v4 : IVec S_ 32 := id main_v3
  let main_v5 : IVec S1 32 := broadcastInDim S1 ![] bcast_S_S1 main_v4
  let main_c_1 : IVec S_ 32 := constantI S_ 32 4294967295#32
  let main_v6 : IVec S_ 32 := andi main_c main_c_1
  let main_v7 : IVec S_ 32 := id main_v6
  let main_v8 : IVec S1 32 := broadcastInDim S1 ![] bcast_S_S1 main_v7
  let main_v9 : IVec S2 32 := (fun a b => concatenate S2 0 [⟨S1, a⟩, ⟨S1, b⟩] concatenates_S1_S1_S2_d0) main_v5 main_v8
  let main_cst_2 : FVec F S_ .f32 := constant S_ .f32 0x00000000#32
  let main_cst_3 : FVec F S_ .f32 := constant S_ .f32 0x3F800000#32
  let main_v10 : FVec F S4096x100x1024 .f32 := fn_uniform (F := F) main_v9 main_cst_2 main_cst_3
  let main_cst_4 : FVec F S_ .f32 := constant S_ .f32 0x00800000#32
  let main_v11 : FVec F S4096x100x1024 .f32 := broadcastInDim S4096x100x1024 ![] bcast_S_S4096x100x1024 main_cst_4
  let main_v12 : FVec F S4096x100x1024 .f32 := addf main_v10 main_v11
  let main_cst_5 : FVec F S_ .f32 := constant S_ .f32 0x00800000#32
  let main_v13 : FVec F S4096x100x1024 .f32 := broadcastInDim S4096x100x1024 ![] bcast_S_S4096x100x1024 main_cst_5
  let main_v14 : FVec F S4096x100x1024 .f32 := maximumf main_v13 main_v12
  let main_v15 : FVec F S4096x100x1024 .f32 := Host.log main_v14
  fn_part1 (F := F) main_arg0 main_arg1 main_v0 main_v2 main_v15
-- ==== Kernel.lean ====
abbrev S4096x1024 : Shape := ⟨2, ![4096, 1024]⟩
abbrev S4096 : Shape := ⟨1, ![4096]⟩
abbrev S1024 : Shape := ⟨1, ![1024]⟩
abbrev S_ : Shape := ⟨0, ![]⟩
abbrev S512x1x8 : Shape := ⟨3, ![512, 1, 8]⟩
abbrev S1x1024 : Shape := ⟨2, ![1, 1024]⟩
abbrev S1x1 : Shape := ⟨2, ![1, 1]⟩
abbrev S8x1024 : Shape := ⟨2, ![8, 1024]⟩
abbrev S1x1x8 : Shape := ⟨3, ![1, 1, 8]⟩
abbrev S2 : Shape := ⟨1, ![2]⟩
abbrev S1 : Shape := ⟨1, ![1]⟩
abbrev S8 : Shape := ⟨1, ![8]⟩
abbrev S8x8x1024 : Shape := ⟨3, ![8, 8, 1024]⟩
abbrev S8x1x1024 : Shape := ⟨3, ![8, 1, 1024]⟩
abbrev S8x8 : Shape := ⟨2, ![8, 8]⟩
abbrev S8x8x1 : Shape := ⟨3, ![8, 8, 1]⟩
abbrev S8x1x1 : Shape := ⟨3, ![8, 1, 1]⟩
abbrev S1x8x1024 : Shape := ⟨3, ![1, 8, 1024]⟩
abbrev S1x1x1 : Shape := ⟨3, ![1, 1, 1]⟩
abbrev S1x8 : Shape := ⟨2, ![1, 8]⟩
abbrev S1x1x1024 : Shape := ⟨3, ![1, 1, 1024]⟩

abbrev nBuf : Space → Nat
  | .hbm => 10
  | .vmem => 8
  | .smem => 3
  | _ => 0

abbrev bufTy : (tb : Table) → Fin (tcTables nBuf tb) → BufTy
  | .hbm, ⟨0, _⟩ => ⟨S4096x1024, .f32⟩
  | .hbm, ⟨1, _⟩ => ⟨S4096, .f32⟩
  | .hbm, ⟨2, _⟩ => ⟨S1024, .f32⟩
  | .hbm, ⟨3, _⟩ => ⟨S_, .f32⟩
  | .hbm, ⟨4, _⟩ => ⟨S512x1x8, .f32⟩
  | .hbm, ⟨5, _⟩ => ⟨S1x1024, .f32⟩
  | .hbm, ⟨6, _⟩ => ⟨S1x1, .f32⟩
  | .hbm, ⟨7, _⟩ => ⟨S4096x1024, .f32⟩
  | .hbm, ⟨8, _⟩ => ⟨S1x1, .f32⟩
  | .hbm, ⟨9, _⟩ => ⟨S_, .f32⟩
  | .local _ .vmem, ⟨0, _⟩ => ⟨S8x1024, .f32⟩
  | .local _ .vmem, ⟨1, _⟩ => ⟨S8x1024, .f32⟩
  | .local _ .vmem, ⟨2, _⟩ => ⟨S1x1x8, .f32⟩
  | .local _ .vmem, ⟨3, _⟩ => ⟨S1x1x8, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S2, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg3_0 : Ref sig .tc := ⟨.smem, 0, rfl⟩
abbrev cc0_stg5_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32_6 : BitVec 32 := 0#32
  let c13_i32 : BitVec 32 := 13#32
  let v14 : BitVec 32 := Scalar.addi c0_i32_6 c13_i32
  let c1_i32 : BitVec 32 := 1#32
  ⟨c0_i32_6, v14, c1_i32⟩
def k0_cond2 (i : grid0.Coords) : BitVec 1 :=
  let arg0 : BitVec 32 := BitVec.ofNat 32 (i 0).val
  let c511_i32 : BitVec 32 := 511#32
  let v52 : BitVec 1 := Scalar.cmpi .eq arg0 c511_i32
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S4096 : Shape := ⟨1, ![4096]⟩
abbrev S1024 : Shape := ⟨1, ![1024]⟩
abbrev S_ : Shape := ⟨0, ![]⟩
abbrev S1 : Shape := ⟨1, ![1]⟩
abbrev S2 : Shape := ⟨1, ![2]⟩
abbrev S1x1x1 : Shape := ⟨3, ![1, 1, 1]⟩
abbrev S4096x100x1024 : Shape := ⟨3, ![4096, 100, 1024]⟩
abbrev S4096x1x1024 : Shape := ⟨3, ![4096, 1, 1024]⟩
abbrev S4096x100 : Shape := ⟨2, ![4096, 100]⟩
abbrev S100 : Shape := ⟨1, ![100]⟩
abbrev S1x100 : Shape := ⟨2, ![1, 100]⟩
abbrev S4096x1 : Shape := ⟨2, ![4096, 1]⟩
abbrev S4096x100x1 : Shape := ⟨3, ![4096, 100, 1]⟩
abbrev S4096x100x2 : Shape := ⟨3, ![4096, 100, 2]⟩

abbrev nBuf : Space → Nat
  | .hbm => 370
  | .vmem => 0
  | .smem => 0
  | _ => 0

abbrev hbmTy0_0 (i : Nat) : BufTy := match i % 128 with
  | 0 => ⟨S4096x1024, .f32⟩
  | 1 => ⟨S4096, .f32⟩
  | 2 => ⟨S1024, .f32⟩
  | 3 => ⟨S_, .f32⟩
  | 4 => ⟨S4096, .i32⟩
  | 5 => ⟨S_, .f32⟩
  | 6 => ⟨S_, .f32⟩
  | 7 => ⟨S4096x1024, .f32⟩
  | 8 => ⟨S4096x1024, .f32⟩
  | 9 => ⟨S4096x1024, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S_, .f32⟩
  | 21 => ⟨S_, .f32⟩
  | 22 => ⟨S_, .f32⟩
  | 23 => ⟨S_, .f32⟩
  | 24 => ⟨S1x1x1, .f32⟩
  | 25 => ⟨S1x1x1, .f32⟩
  | 26 => ⟨S1, .i32⟩
  | 27 => ⟨S_, .i32⟩
  | 28 => ⟨S1, .i32⟩
  | 29 => ⟨S_, .i32⟩
  | 30 => ⟨S4096x100x1024, .i64⟩
  | 31 => ⟨S4096x100x1024, .i64⟩
  | 32 => ⟨S4096x100x1024, .i64⟩
  | 33 => ⟨S_, .i64⟩
  | 34 => ⟨S4096x100x1024, .i64⟩
  | 35 => ⟨S4096x100x1024, .i64⟩
  | 36 => ⟨S_, .i64⟩
  | 37 => ⟨S4096x100x1024, .i64⟩
  | 38 => ⟨S4096x100x1024, .i64⟩
  | 39 => ⟨S_, .i64⟩
  | 40 => ⟨S4096x100x1024, .i64⟩
  | 41 => ⟨S4096x100x1024, .i64⟩
  | 42 => ⟨S4096x100x1024, .i64⟩
  | 43 => ⟨S4096x100x1024, .i64⟩
  | 44 => ⟨S_, .i64⟩
  | 45 => ⟨S4096x100x1024, .i64⟩
  | 46 => ⟨S4096x100x1024, .i64⟩
  | 47 => ⟨S4096x100x1024, .i32⟩
  | 48 => ⟨S4096x100x1024, .i32⟩
  | 49 => ⟨S_, .i32⟩
  | 50 => ⟨S_, .i32⟩
  | 51 => ⟨S_, .i32⟩
  | 52 => ⟨S4096x100x1024, .i32⟩
  | 53 => ⟨S4096x100x1024, .i32⟩
  | 54 => ⟨S4096x100x1024, .i32⟩
  | 55 => ⟨S4096x100x1024, .i32⟩
  | 56 => ⟨S4096x100x1024, .i32⟩
  | 57 => ⟨S_, .i32⟩
  | 58 => ⟨S4096x100x1024, .i32⟩
  | 59 => ⟨S4096x100x1024, .i32⟩
  | 60 => ⟨S_, .i32⟩
  | 61 => ⟨S4096x100x1024, .i32⟩
  | 62 => ⟨S4096x100x1024, .i32⟩
  | 63 => ⟨S4096x100x1024, .i32⟩
  | 64 => ⟨S4096x100x1024, .i32⟩
  | 65 => ⟨S4096x100x1024, .i32⟩
  | 66 => ⟨S_, .i32⟩
  | 67 => ⟨S4096x100x1024, .i32⟩
  | 68 => ⟨S4096x100x1024, .i32⟩
  | 69 => ⟨S_, .i32⟩
  | 70 => ⟨S4096x100x1024, .i32⟩
  | 71 => ⟨S4096x100x1024, .i32⟩
  | 72 => ⟨S4096x100x1024, .i32⟩
  | 73 => ⟨S4096x100x1024, .i32⟩
  | 74 => ⟨S4096x100x1024, .i32⟩
  | 75 => ⟨S_, .i32⟩
  | 76 => ⟨S4096x100x1024, .i32⟩
  | 77 => ⟨S4096x100x1024, .i32⟩
  | 78 => ⟨S_, .i32⟩
  | 79 => ⟨S4096x100x1024, .i32⟩
  | 80 => ⟨S4096x100x1024, .i32⟩
  | 81 => ⟨S4096x100x1024, .i32⟩
  | 82 => ⟨S4096x100x1024, .i32⟩
  | 83 => ⟨S4096x100x1024, .i32⟩
  | 84 => ⟨S_, .i32⟩
  | 85 => ⟨S4096x100x1024, .i32⟩
  | 86 => ⟨S4096x100x1024, .i32⟩
  | 87 => ⟨S_, .i32⟩
  | 88 => ⟨S4096x100x1024, .i32⟩
  | 89 => ⟨S4096x100x1024, .i32⟩
  | 90 => ⟨S4096x100x1024, .i32⟩
  | 91 => ⟨S4096x100x1024, .i32⟩
  | 92 => ⟨S4096x100x1024, .i32⟩
  | 93 => ⟨S4096x100x1024, .i32⟩
  | 94 => ⟨S4096x100x1024, .i32⟩
  | 95 => ⟨S4096x100x1024, .i32⟩
  | 96 => ⟨S_, .i32⟩
  | 97 => ⟨S4096x100x1024, .i32⟩
  | 98 => ⟨S4096x100x1024, .i32⟩
  | 99 => ⟨S4096x100x1024, .i32⟩
  | 100 => ⟨S_, .i32⟩
  | 101 => ⟨S4096x100x1024, .i32⟩
  | 102 => ⟨S4096x100x1024, .i32⟩
  | 103 => ⟨S_, .i32⟩
  | 104 => ⟨S4096x100x1024, .i32⟩
  | 105 => ⟨S4096x100x1024, .i32⟩
  | 106 => ⟨S4096x100x1024, .i32⟩
  | 107 => ⟨S4096x100x1024, .i32⟩
  | 108 => ⟨S4096x100x1024, .i32⟩
  | 109 => ⟨S_, .i32⟩
  | 110 => ⟨S4096x100x1024, .i32⟩
  | 111 => ⟨S4096x100x1024, .i32⟩
  | 112 => ⟨S_, .i32⟩
  | 113 => ⟨S4096x100x1024, .i32⟩
  | 114 => ⟨S4096x100x1024, .i32⟩
  | 115 => ⟨S4096x100x1024, .i32⟩
  | 116 => ⟨S4096x100x1024, .i32⟩
  | 117 => ⟨S4096x100x1024, .i32⟩
  | 118 => ⟨S_, .i32⟩
  | 119 => ⟨S4096x100x1024, .i32⟩
  | 120 => ⟨S4096x100x1024, .i32⟩
  | 121 => ⟨S_, .i32⟩
  | 122 => ⟨S4096x100x1024, .i32⟩
  | 123 => ⟨S4096x100x1024, .i32⟩
  | 124 => ⟨S4096x100x1024, .i32⟩
  | 125 => ⟨S4096x100x1024, .i32⟩
  | 126 => ⟨S4096x100x1024, .i32⟩
  | 127 => ⟨S_, .i32⟩
  | _ => ⟨S4096x1024, .f32⟩

abbrev hbmTy0_1 (i : Nat) : BufTy := match i % 128 with
  | 0 => ⟨S4096x100x1024, .i32⟩
  | 1 => ⟨S4096x100x1024, .i32⟩
  | 2 => ⟨S_, .i32⟩
  | 3 => ⟨S4096x100x1024, .i32⟩
  | 4 => ⟨S4096x100x1024, .i32⟩
  | 5 => ⟨S4096x100x1024, .i32⟩
  | 6 => ⟨S4096x100x1024, .i32⟩
  | 7 => ⟨S4096x100x1024, .i32⟩
  | 8 => ⟨S4096x100x1024, .i32⟩
  | 9 => ⟨S4096x100x1024, .i32⟩
  | 10 => ⟨S4096x100x1024, .i32⟩
  | 11 => ⟨S_, .i32⟩
  | 12 => ⟨S4096x100x1024, .i32⟩
  | 13 => ⟨S4096x100x1024, .i32⟩
  | 14 => ⟨S4096x100x1024, .i32⟩
  | 15 => ⟨S_, .i32⟩
  | 16 => ⟨S4096x100x1024, .i32⟩
  | 17 => ⟨S4096x100x1024, .i32⟩
  | 18 => ⟨S_, .i32⟩
  | 19 => ⟨S4096x100x1024, .i32⟩
  | 20 => ⟨S4096x100x1024, .i32⟩
  | 21 => ⟨S4096x100x1024, .i32⟩
  | 22 => ⟨S4096x100x1024, .i32⟩
  | 23 => ⟨S4096x100x1024, .i32⟩
  | 24 => ⟨S_, .i32⟩
  | 25 => ⟨S4096x100x1024, .i32⟩
  | 26 => ⟨S4096x100x1024, .i32⟩
  | 27 => ⟨S_, .i32⟩
  | 28 => ⟨S4096x100x1024, .i32⟩
  | 29 => ⟨S4096x100x1024, .i32⟩
  | 30 => ⟨S4096x100x1024, .i32⟩
  | 31 => ⟨S4096x100x1024, .i32⟩
  | 32 => ⟨S4096x100x1024, .i32⟩
  | 33 => ⟨S_, .i32⟩
  | 34 => ⟨S4096x100x1024, .i32⟩
  | 35 => ⟨S4096x100x1024, .i32⟩
  | 36 => ⟨S_, .i32⟩
  | 37 => ⟨S4096x100x1024, .i32⟩
  | 38 => ⟨S4096x100x1024, .i32⟩
  | 39 => ⟨S4096x100x1024, .i32⟩
  | 40 => ⟨S4096x100x1024, .i32⟩
  | 41 => ⟨S4096x100x1024, .i32⟩
  | 42 => ⟨S_, .i32⟩
  | 43 => ⟨S4096x100x1024, .i32⟩
  | 44 => ⟨S4096x100x1024, .i32⟩
  | 45 => ⟨S_, .i32⟩
  | 46 => ⟨S4096x100x1024, .i32⟩
  | 47 => ⟨S4096x100x1024, .i32⟩
  | 48 => ⟨S4096x100x1024, .i32⟩
  | 49 => ⟨S4096x100x1024, .i32⟩
  | 50 => ⟨S4096x100x1024, .i32⟩
  | 51 => ⟨S4096x100x1024, .i32⟩
  | 52 => ⟨S4096x100x1024, .i32⟩
  | 53 => ⟨S4096x100x1024, .i32⟩
  | 54 => ⟨S_, .i32⟩
  | 55 => ⟨S4096x100x1024, .i32⟩
  | 56 => ⟨S4096x100x1024, .i32⟩
  | 57 => ⟨S4096x100x1024, .i32⟩
  | 58 => ⟨S_, .i32⟩
  | 59 => ⟨S4096x100x1024, .i32⟩
  | 60 => ⟨S4096x100x1024, .i32⟩
  | 61 => ⟨S_, .i32⟩
  | 62 => ⟨S4096x100x1024, .i32⟩
  | 63 => ⟨S4096x100x1024, .i32⟩
  | 64 => ⟨S4096x100x1024, .i32⟩
  | 65 => ⟨S4096x100x1024, .i32⟩
  | 66 => ⟨S4096x100x1024, .i32⟩
  | 67 => ⟨S_, .i32⟩
  | 68 => ⟨S4096x100x1024, .i32⟩
  | 69 => ⟨S4096x100x1024, .i32⟩
  | 70 => ⟨S_, .i32⟩
  | 71 => ⟨S4096x100x1024, .i32⟩
  | 72 => ⟨S4096x100x1024, .i32⟩
  | 73 => ⟨S4096x100x1024, .i32⟩
  | 74 => ⟨S4096x100x1024, .i32⟩
  | 75 => ⟨S4096x100x1024, .i32⟩
  | 76 => ⟨S_, .i32⟩
  | 77 => ⟨S4096x100x1024, .i32⟩
  | 78 => ⟨S4096x100x1024, .i32⟩
  | 79 => ⟨S_, .i32⟩
  | 80 => ⟨S4096x100x1024, .i32⟩
  | 81 => ⟨S4096x100x1024, .i32⟩
  | 82 => ⟨S4096x100x1024, .i32⟩
  | 83 => ⟨S4096x100x1024, .i32⟩
  | 84 => ⟨S4096x100x1024, .i32⟩
  | 85 => ⟨S_, .i32⟩
  | 86 => ⟨S4096x100x1024, .i32⟩
  | 87 => ⟨S4096x100x1024, .i32⟩
  | 88 => ⟨S_, .i32⟩
  | 89 => ⟨S4096x100x1024, .i32⟩
  | 90 => ⟨S4096x100x1024, .i32⟩
  | 91 => ⟨S4096x100x1024, .i32⟩
  | 92 => ⟨S4096x100x1024, .i32⟩
  | 93 => ⟨S4096x100x1024, .i32⟩
  | 94 => ⟨S4096x100x1024, .i32⟩
  | 95 => ⟨S4096x100x1024, .i32⟩
  | 96 => ⟨S4096x100x1024, .i32⟩
  | 97 => ⟨S_, .i32⟩
  | 98 => ⟨S4096x100x1024, .i32⟩
  | 99 => ⟨S4096x100x1024, .i32⟩
  | 100 => ⟨S4096x100x1024, .i32⟩
  | 101 => ⟨S_, .i32⟩
  | 102 => ⟨S4096x100x1024, .i32⟩
  | 103 => ⟨S4096x100x1024, .i32⟩
  | 104 => ⟨S_, .i32⟩
  | 105 => ⟨S4096x100x1024, .i32⟩
  | 106 => ⟨S4096x100x1024, .i32⟩
  | 107 => ⟨S4096x100x1024, .i32⟩
  | 108 => ⟨S4096x100x1024, .i32⟩
  | 109 => ⟨S4096x100x1024, .i32⟩
  | 110 => ⟨S_, .i32⟩
  | 111 => ⟨S4096x100x1024, .i32⟩
  | 112 => ⟨S4096x100x1024, .i32⟩
  | 113 => ⟨S_, .i32⟩
  | 114 => ⟨S4096x100x1024, .i32⟩
  | 115 => ⟨S4096x100x1024, .i32⟩
  | 116 => ⟨S4096x100x1024, .i32⟩
  | 117 => ⟨S4096x100x1024, .i32⟩
  | 118 => ⟨S4096x100x1024, .i32⟩
  | 119 => ⟨S_, .i32⟩
  | 120 => ⟨S4096x100x1024, .i32⟩
  | 121 => ⟨S4096x100x1024, .i32⟩
  | 122 => ⟨S_, .i32⟩
  | 123 => ⟨S4096x100x1024, .i32⟩
  | 124 => ⟨S4096x100x1024, .i32⟩
  | 125 => ⟨S4096x100x1024, .i32⟩
  | 126 => ⟨S4096x100x1024, .i32⟩
  | 127 => ⟨S4096x100x1024, .i32⟩
  | _ => ⟨S4096x1024, .f32⟩

abbrev hbmTy0_2 (i : Nat) : BufTy := match i % 128 with
  | 0 => ⟨S_, .i32⟩
  | 1 => ⟨S4096x100x1024, .i32⟩
  | 2 => ⟨S4096x100x1024, .i32⟩
  | 3 => ⟨S_, .i32⟩
  | 4 => ⟨S4096x100x1024, .i32⟩
  | 5 => ⟨S4096x100x1024, .i32⟩
  | 6 => ⟨S4096x100x1024, .i32⟩
  | 7 => ⟨S4096x100x1024, .i32⟩
  | 8 => ⟨S4096x100x1024, .i32⟩
  | 9 => ⟨S4096x100x1024, .i32⟩
  | 10 => ⟨S4096x100x1024, .i32⟩
  | 11 => ⟨S4096x100x1024, .i32⟩
  | 12 => ⟨S_, .i32⟩
  | 13 => ⟨S4096x100x1024, .i32⟩
  | 14 => ⟨S4096x100x1024, .i32⟩
  | 15 => ⟨S4096x100x1024, .i32⟩
  | 16 => ⟨S_, .i32⟩
  | 17 => ⟨S4096x100x1024, .i32⟩
  | 18 => ⟨S4096x100x1024, .i32⟩
  | 19 => ⟨S_, .i32⟩
  | 20 => ⟨S4096x100x1024, .i32⟩
  | 21 => ⟨S4096x100x1024, .i32⟩
  | 22 => ⟨S4096x100x1024, .f32⟩
  | 23 => ⟨S_, .f32⟩
  | 24 => ⟨S4096x100x1024, .f32⟩
  | 25 => ⟨S4096x100x1024, .f32⟩
  | 26 => ⟨S1x1x1, .f32⟩
  | 27 => ⟨S4096x100x1024, .f32⟩
  | 28 => ⟨S4096x100x1024, .f32⟩
  | 29 => ⟨S4096x100x1024, .f32⟩
  | 30 => ⟨S4096x100x1024, .f32⟩
  | 31 => ⟨S4096x100x1024, .f32⟩
  | 32 => ⟨S4096x100x1024, .f32⟩
  | 33 => ⟨S_, .f32⟩
  | 34 => ⟨S4096x100x1024, .f32⟩
  | 35 => ⟨S4096x100x1024, .f32⟩
  | 36 => ⟨S_, .f32⟩
  | 37 => ⟨S4096x100x1024, .f32⟩
  | 38 => ⟨S4096x100x1024, .f32⟩
  | 39 => ⟨S4096x100x1024, .f32⟩
  | 40 => ⟨S4096x100x1024, .f32⟩
  | 41 => ⟨S4096x100x1024, .f32⟩
  | 42 => ⟨S4096x100x1024, .f32⟩
  | 43 => ⟨S4096x1x1024, .f32⟩
  | 44 => ⟨S4096x100x1024, .f32⟩
  | 45 => ⟨S4096x100x1024, .f32⟩
  | 46 => ⟨S4096x100x1024, .i32⟩
  | 47 => ⟨S_, .f32⟩
  | 48 => ⟨S_, .i32⟩
  | 49 => ⟨S4096x100, .f32⟩
  | 50 => ⟨S4096x100, .i32⟩
  | 51 => ⟨S100, .i32⟩
  | 52 => ⟨S1x100, .i32⟩
  | 53 => ⟨S4096x1, .i32⟩
  | 54 => ⟨S4096x100, .i32⟩
  | 55 => ⟨S4096x100, .i32⟩
  | 56 => ⟨S4096x100, .i1⟩
  | 57 => ⟨S4096x100, .f32⟩
  | 58 => ⟨S_, .f32⟩
  | 59 => ⟨S4096x1024, .f32⟩
  | 60 => ⟨S4096, .i32⟩
  | 61 => ⟨S4096x1, .i32⟩
  | 62 => ⟨S_, .i32⟩
  | 63 => ⟨S4096x1, .i32⟩
  | 64 => ⟨S4096x1, .i1⟩
  | 65 => ⟨S_, .i32⟩
  | 66 => ⟨S4096x1, .i32⟩
  | 67 => ⟨S4096x1, .i32⟩
  | 68 => ⟨S4096x1, .i32⟩
  | 69 => ⟨S_, .i32⟩
  | 70 => ⟨S4096x100, .i32⟩
  | 71 => ⟨S4096x100, .i1⟩
  | 72 => ⟨S_, .i32⟩
  | 73 => ⟨S4096x100, .i32⟩
  | 74 => ⟨S4096x100, .i32⟩
  | 75 => ⟨S4096x100, .i32⟩
  | 76 => ⟨S4096x100, .i32⟩
  | 77 => ⟨S4096x100x1, .i32⟩
  | 78 => ⟨S4096x100x1, .i32⟩
  | 79 => ⟨S4096x100x2, .i32⟩
  | 80 => ⟨S4096x1024, .f32⟩
  | 81 => ⟨S4096x1024, .f32⟩
  | 82 => ⟨S_, .f32⟩
  | 83 => ⟨S_, .f32⟩
  | 84 => ⟨S4096x1024, .f32⟩
  | 85 => ⟨S4096x1024, .f32⟩
  | 86 => ⟨S4096x1024, .f32⟩
  | 87 => ⟨S_, .f32⟩
  | 88 => ⟨S_, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S_, .f32⟩
  | 98 => ⟨S_, .f32⟩
  | 99 => ⟨S4096, .f32⟩
  | 100 => ⟨S4096, .f32⟩
  | 101 => ⟨S4096, .f32⟩
  | 102 => ⟨S_, .f32⟩
  | 103 => ⟨S_, .f32⟩
  | 104 => ⟨S_, .f32⟩
  | 105 => ⟨S1024, .f32⟩
  | 106 => ⟨S1024, .f32⟩
  | 107 => ⟨S1024, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c : Ref sig .tc := ⟨.hbm, 33, rfl⟩
abbrev main_call1_v11 : Ref sig .tc := ⟨.hbm, 34, rfl⟩
abbrev main_call1_v12 : Ref sig .tc := ⟨.hbm, 35, rfl⟩
abbrev main_call1_c_0 : Ref sig .tc := ⟨.hbm, 36, rfl⟩
abbrev main_call1_v13 : Ref sig .tc := ⟨.hbm, 37, rfl⟩
abbrev main_call1_v14 : Ref sig .tc := ⟨.hbm, 38, rfl⟩
abbrev main_call1_c_1 : Ref sig .tc := ⟨.hbm, 39, rfl⟩
abbrev main_call1_v15 : Ref sig .tc := ⟨.hbm, 40, rfl⟩
abbrev main_call1_v16 : Ref sig .tc := ⟨.hbm, 41, rfl⟩
abbrev main_call1_v17 : Ref sig .tc := ⟨.hbm, 42, rfl⟩
abbrev main_call1_v18 : Ref sig .tc := ⟨.hbm, 43, rfl⟩
abbrev main_call1_c_2 : Ref sig .tc := ⟨.hbm, 44, rfl⟩
abbrev main_call1_v19 : Ref sig .tc := ⟨.hbm, 45, rfl⟩
abbrev main_call1_v20 : Ref sig .tc := ⟨.hbm, 46, rfl⟩
abbrev main_call1_v21 : Ref sig .tc := ⟨.hbm, 47, rfl⟩
abbrev main_call1_v22 : Ref sig .tc := ⟨.hbm, 48, rfl⟩
abbrev main_call1_call0_v0 : Ref sig .tc := ⟨.hbm, 49, rfl⟩
abbrev main_call1_call0_c : Ref sig .tc := ⟨.hbm, 50, rfl⟩
abbrev main_call1_call0_v1 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_c_0 : Ref sig .tc := ⟨.hbm, 57, rfl⟩
abbrev main_call1_call0_v7 : Ref sig .tc := ⟨.hbm, 58, rfl⟩
abbrev main_call1_call0_v8 : Ref sig .tc := ⟨.hbm, 59, rfl⟩
abbrev main_call1_call0_c_1 : Ref sig .tc := ⟨.hbm, 60, rfl⟩
abbrev main_call1_call0_v9 : Ref sig .tc := ⟨.hbm, 61, rfl⟩
abbrev main_call1_call0_v10 : Ref sig .tc := ⟨.hbm, 62, rfl⟩
abbrev main_call1_call0_v11 : Ref sig .tc := ⟨.hbm, 63, rfl⟩
abbrev main_call1_call0_v12 : Ref sig .tc := ⟨.hbm, 64, rfl⟩
abbrev main_call1_call0_v13 : Ref sig .tc := ⟨.hbm, 65, rfl⟩
abbrev main_call1_call0_c_2 : Ref sig .tc := ⟨.hbm, 66, rfl⟩
abbrev main_call1_call0_v14 : Ref sig .tc := ⟨.hbm, 67, rfl⟩
abbrev main_call1_call0_v15 : Ref sig .tc := ⟨.hbm, 68, rfl⟩
abbrev main_call1_call0_c_3 : Ref sig .tc := ⟨.hbm, 69, rfl⟩
abbrev main_call1_call0_v16 : Ref sig .tc := ⟨.hbm, 70, rfl⟩
abbrev main_call1_call0_v17 : Ref sig .tc := ⟨.hbm, 71, rfl⟩
abbrev main_call1_call0_v18 : Ref sig .tc := ⟨.hbm, 72, rfl⟩
abbrev main_call1_call0_v19 : Ref sig .tc := ⟨.hbm, 73, rfl⟩
abbrev main_call1_call0_v20 : Ref sig .tc := ⟨.hbm, 74, rfl⟩
abbrev main_call1_call0_c_4 : Ref sig .tc := ⟨.hbm, 75, rfl⟩
abbrev main_call1_call0_v21 : Ref sig .tc := ⟨.hbm, 76, rfl⟩
abbrev main_call1_call0_v22 : Ref sig .tc := ⟨.hbm, 77, rfl⟩
abbrev main_call1_call0_c_5 : Ref sig .tc := ⟨.hbm, 78, rfl⟩
abbrev main_call1_call0_v23 : Ref sig .tc := ⟨.hbm, 79, rfl⟩
abbrev main_call1_call0_v24 : Ref sig .tc := ⟨.hbm, 80, rfl⟩
abbrev main_call1_call0_v25 : Ref sig .tc := ⟨.hbm, 81, rfl⟩
abbrev main_call1_call0_v26 : Ref sig .tc := ⟨.hbm, 82, rfl⟩
abbrev main_call1_call0_v27 : Ref sig .tc := ⟨.hbm, 83, rfl⟩
abbrev main_call1_call0_c_6 : Ref sig .tc := ⟨.hbm, 84, rfl⟩
abbrev main_call1_call0_v28 : Ref sig .tc := ⟨.hbm, 85, rfl⟩
abbrev main_call1_call0_v29 : Ref sig .tc := ⟨.hbm, 86, rfl⟩
abbrev main_call1_call0_c_7 : Ref sig .tc := ⟨.hbm, 87, rfl⟩
abbrev main_call1_call0_v30 : Ref sig .tc := ⟨.hbm, 88, rfl⟩
abbrev main_call1_call0_v31 : Ref sig .tc := ⟨.hbm, 89, rfl⟩
abbrev main_call1_call0_v32 : Ref sig .tc := ⟨.hbm, 90, rfl⟩
abbrev main_call1_call0_v33 : Ref sig .tc := ⟨.hbm, 91, rfl⟩
abbrev main_call1_call0_v34 : Ref sig .tc := ⟨.hbm, 92, rfl⟩
abbrev main_call1_call0_v35 : Ref sig .tc := ⟨.hbm, 93, rfl⟩
abbrev main_call1_call0_v36 : Ref sig .tc := ⟨.hbm, 94, rfl⟩
abbrev main_call1_call0_v37 : Ref sig .tc := ⟨.hbm, 95, rfl⟩
abbrev main_call1_call0_c_8 : Ref sig .tc := ⟨.hbm, 96, rfl⟩
abbrev main_call1_call0_v38 : Ref sig .tc := ⟨.hbm, 97, rfl⟩
abbrev main_call1_call0_v39 : Ref sig .tc := ⟨.hbm, 98, rfl⟩
abbrev main_call1_call0_v40 : Ref sig .tc := ⟨.hbm, 99, rfl⟩
abbrev main_call1_call0_c_9 : Ref sig .tc := ⟨.hbm, 100, rfl⟩
abbrev main_call1_call0_v41 : Ref sig .tc := ⟨.hbm, 101, rfl⟩
abbrev main_call1_call0_v42 : Ref sig .tc := ⟨.hbm, 102, rfl⟩
abbrev main_call1_call0_c_10 : Ref sig .tc := ⟨.hbm, 103, rfl⟩
abbrev main_call1_call0_v43 : Ref sig .tc := ⟨.hbm, 104, rfl⟩
abbrev main_call1_call0_v44 : Ref sig .tc := ⟨.hbm, 105, rfl⟩
abbrev main_call1_call0_v45 : Ref sig .tc := ⟨.hbm, 106, rfl⟩
abbrev main_call1_call0_v46 : Ref sig .tc := ⟨.hbm, 107, rfl⟩
abbrev main_call1_call0_v47 : Ref sig .tc := ⟨.hbm, 108, rfl⟩
abbrev main_call1_call0_c_11 : Ref sig .tc := ⟨.hbm, 109, rfl⟩
abbrev main_call1_call0_v48 : Ref sig .tc := ⟨.hbm, 110, rfl⟩
abbrev main_call1_call0_v49 : Ref sig .tc := ⟨.hbm, 111, rfl⟩
abbrev main_call1_call0_c_12 : Ref sig .tc := ⟨.hbm, 112, rfl⟩
abbrev main_call1_call0_v50 : Ref sig .tc := ⟨.hbm, 113, rfl⟩
abbrev main_call1_call0_v51 : Ref sig .tc := ⟨.hbm, 114, rfl⟩
abbrev main_call1_call0_v52 : Ref sig .tc := ⟨.hbm, 115, rfl⟩
abbrev main_call1_call0_v53 : Ref sig .tc := ⟨.hbm, 116, rfl⟩
abbrev main_call1_call0_v54 : Ref sig .tc := ⟨.hbm, 117, rfl⟩
abbrev main_call1_call0_c_13 : Ref sig .tc := ⟨.hbm, 118, rfl⟩
abbrev main_call1_call0_v55 : Ref sig .tc := ⟨.hbm, 119, rfl⟩
abbrev main_call1_call0_v56 : Ref sig .tc := ⟨.hbm, 120, rfl⟩
abbrev main_call1_call0_c_14 : Ref sig .tc := ⟨.hbm, 121, rfl⟩
abbrev main_call1_call0_v57 : Ref sig .tc := ⟨.hbm, 122, rfl⟩
abbrev main_call1_call0_v58 : Ref sig .tc := ⟨.hbm, 123, rfl⟩
abbrev main_call1_call0_v59 : Ref sig .tc := ⟨.hbm, 124, rfl⟩
abbrev main_call1_call0_v60 : Ref sig .tc := ⟨.hbm, 125, rfl⟩
abbrev main_call1_call0_v61 : Ref sig .tc := ⟨.hbm, 126, rfl⟩
abbrev main_call1_call0_c_15 : Ref sig .tc := ⟨.hbm, 127, rfl⟩
abbrev main_call1_call0_v62 : Ref sig .tc := ⟨.hbm, 128, rfl⟩
abbrev main_call1_call0_v63 : Ref sig .tc := ⟨.hbm, 129, rfl⟩
abbrev main_call1_call0_c_16 : Ref sig .tc := ⟨.hbm, 130, rfl⟩
abbrev main_call1_call0_v64 : Ref sig .tc := ⟨.hbm, 131, rfl⟩
abbrev main_call1_call0_v65 : Ref sig .tc := ⟨.hbm, 132, rfl⟩
abbrev main_call1_call0_v66 : Ref sig .tc := ⟨.hbm, 133, rfl⟩
abbrev main_call1_call0_v67 : Ref sig .tc := ⟨.hbm, 134, rfl⟩
abbrev main_call1_call0_v68 : Ref sig .tc := ⟨.hbm, 135, rfl⟩
abbrev main_call1_call0_v69 : Ref sig .tc := ⟨.hbm, 136, rfl⟩
abbrev main_call1_call0_v70 : Ref sig .tc := ⟨.hbm, 137, rfl⟩
abbrev main_call1_call0_v71 : Ref sig .tc := ⟨.hbm, 138, rfl⟩
abbrev main_call1_call0_c_17 : Ref sig .tc := ⟨.hbm, 139, rfl⟩
abbrev main_call1_call0_v72 : Ref sig .tc := ⟨.hbm, 140, rfl⟩
abbrev main_call1_call0_v73 : Ref sig .tc := ⟨.hbm, 141, rfl⟩
abbrev main_call1_call0_v74 : Ref sig .tc := ⟨.hbm, 142, rfl⟩
abbrev main_call1_call0_c_18 : Ref sig .tc := ⟨.hbm, 143, rfl⟩
abbrev main_call1_call0_v75 : Ref sig .tc := ⟨.hbm, 144, rfl⟩
abbrev main_call1_call0_v76 : Ref sig .tc := ⟨.hbm, 145, rfl⟩
abbrev main_call1_call0_c_19 : Ref sig .tc := ⟨.hbm, 146, rfl⟩
abbrev main_call1_call0_v77 : Ref sig .tc := ⟨.hbm, 147, rfl⟩
abbrev main_call1_call0_v78 : Ref sig .tc := ⟨.hbm, 148, rfl⟩
abbrev main_call1_call0_v79 : Ref sig .tc := ⟨.hbm, 149, rfl⟩
abbrev main_call1_call0_v80 : Ref sig .tc := ⟨.hbm, 150, rfl⟩
abbrev main_call1_call0_v81 : Ref sig .tc := ⟨.hbm, 151, rfl⟩
abbrev main_call1_call0_c_20 : Ref sig .tc := ⟨.hbm, 152, rfl⟩
abbrev main_call1_call0_v82 : Ref sig .tc := ⟨.hbm, 153, rfl⟩
abbrev main_call1_call0_v83 : Ref sig .tc := ⟨.hbm, 154, rfl⟩
abbrev main_call1_call0_c_21 : Ref sig .tc := ⟨.hbm, 155, rfl⟩
abbrev main_call1_call0_v84 : Ref sig .tc := ⟨.hbm, 156, rfl⟩
abbrev main_call1_call0_v85 : Ref sig .tc := ⟨.hbm, 157, rfl⟩
abbrev main_call1_call0_v86 : Ref sig .tc := ⟨.hbm, 158, rfl⟩
abbrev main_call1_call0_v87 : Ref sig .tc := ⟨.hbm, 159, rfl⟩
abbrev main_call1_call0_v88 : Ref sig .tc := ⟨.hbm, 160, rfl⟩
abbrev main_call1_call0_c_22 : Ref sig .tc := ⟨.hbm, 161, rfl⟩
abbrev main_call1_call0_v89 : Ref sig .tc := ⟨.hbm, 162, rfl⟩
abbrev main_call1_call0_v90 : Ref sig .tc := ⟨.hbm, 163, rfl⟩
abbrev main_call1_call0_c_23 : Ref sig .tc := ⟨.hbm, 164, rfl⟩
abbrev main_call1_call0_v91 : Ref sig .tc := ⟨.hbm, 165, rfl⟩
abbrev main_call1_call0_v92 : Ref sig .tc := ⟨.hbm, 166, rfl⟩
abbrev main_call1_call0_v93 : Ref sig .tc := ⟨.hbm, 167, rfl⟩
abbrev main_call1_call0_v94 : Ref sig .tc := ⟨.hbm, 168, rfl⟩
abbrev main_call1_call0_v95 : Ref sig .tc := ⟨.hbm, 169, rfl⟩
abbrev main_call1_call0_c_24 : Ref sig .tc := ⟨.hbm, 170, rfl⟩
abbrev main_call1_call0_v96 : Ref sig .tc := ⟨.hbm, 171, rfl⟩
abbrev main_call1_call0_v97 : Ref sig .tc := ⟨.hbm, 172, rfl⟩
abbrev main_call1_call0_c_25 : Ref sig .tc := ⟨.hbm, 173, rfl⟩
abbrev main_call1_call0_v98 : Ref sig .tc := ⟨.hbm, 174, rfl⟩
abbrev main_call1_call0_v99 : Ref sig .tc := ⟨.hbm, 175, rfl⟩
abbrev main_call1_call0_v100 : Ref sig .tc := ⟨.hbm, 176, rfl⟩
abbrev main_call1_call0_v101 : Ref sig .tc := ⟨.hbm, 177, rfl⟩
abbrev main_call1_call0_v102 : Ref sig .tc := ⟨.hbm, 178, rfl⟩
abbrev main_call1_call0_v103 : Ref sig .tc := ⟨.hbm, 179, rfl⟩
abbrev main_call1_call0_v104 : Ref sig .tc := ⟨.hbm, 180, rfl⟩
abbrev main_call1_call0_v105 : Ref sig .tc := ⟨.hbm, 181, rfl⟩
abbrev main_call1_call0_c_26 : Ref sig .tc := ⟨.hbm, 182, rfl⟩
abbrev main_call1_call0_v106 : Ref sig .tc := ⟨.hbm, 183, rfl⟩
abbrev main_call1_call0_v107 : Ref sig .tc := ⟨.hbm, 184, rfl⟩
abbrev main_call1_call0_v108 : Ref sig .tc := ⟨.hbm, 185, rfl⟩
abbrev main_call1_call0_c_27 : Ref sig .tc := ⟨.hbm, 186, rfl⟩
abbrev main_call1_call0_v109 : Ref sig .tc := ⟨.hbm, 187, rfl⟩
abbrev main_call1_call0_v110 : Ref sig .tc := ⟨.hbm, 188, rfl⟩
abbrev main_call1_call0_c_28 : Ref sig .tc := ⟨.hbm, 189, rfl⟩
abbrev main_call1_call0_v111 : Ref sig .tc := ⟨.hbm, 190, rfl⟩
abbrev main_call1_call0_v112 : Ref sig .tc := ⟨.hbm, 191, rfl⟩
abbrev main_call1_call0_v113 : Ref sig .tc := ⟨.hbm, 192, rfl⟩
abbrev main_call1_call0_v114 : Ref sig .tc := ⟨.hbm, 193, rfl⟩
abbrev main_call1_call0_v115 : Ref sig .tc := ⟨.hbm, 194, rfl⟩
abbrev main_call1_call0_c_29 : Ref sig .tc := ⟨.hbm, 195, rfl⟩
abbrev main_call1_call0_v116 : Ref sig .tc := ⟨.hbm, 196, rfl⟩
abbrev main_call1_call0_v117 : Ref sig .tc := ⟨.hbm, 197, rfl⟩
abbrev main_call1_call0_c_30 : Ref sig .tc := ⟨.hbm, 198, rfl⟩
abbrev main_call1_call0_v118 : Ref sig .tc := ⟨.hbm, 199, rfl⟩
abbrev main_call1_call0_v119 : Ref sig .tc := ⟨.hbm, 200, rfl⟩
abbrev main_call1_call0_v120 : Ref sig .tc := ⟨.hbm, 201, rfl⟩
abbrev main_call1_call0_v121 : Ref sig .tc := ⟨.hbm, 202, rfl⟩
abbrev main_call1_call0_v122 : Ref sig .tc := ⟨.hbm, 203, rfl⟩
abbrev main_call1_call0_c_31 : Ref sig .tc := ⟨.hbm, 204, rfl⟩
abbrev main_call1_call0_v123 : Ref sig .tc := ⟨.hbm, 205, rfl⟩
abbrev main_call1_call0_v124 : Ref sig .tc := ⟨.hbm, 206, rfl⟩
abbrev main_call1_call0_c_32 : Ref sig .tc := ⟨.hbm, 207, rfl⟩
abbrev main_call1_call0_v125 : Ref sig .tc := ⟨.hbm, 208, rfl⟩
abbrev main_call1_call0_v126 : Ref sig .tc := ⟨.hbm, 209, rfl⟩
abbrev main_call1_call0_v127 : Ref sig .tc := ⟨.hbm, 210, rfl⟩
abbrev main_call1_call0_v128 : Ref sig .tc := ⟨.hbm, 211, rfl⟩
abbrev main_call1_call0_v129 : Ref sig .tc := ⟨.hbm, 212, rfl⟩
abbrev main_call1_call0_c_33 : Ref sig .tc := ⟨.hbm, 213, rfl⟩
abbrev main_call1_call0_v130 : Ref sig .tc := ⟨.hbm, 214, rfl⟩
abbrev main_call1_call0_v131 : Ref sig .tc := ⟨.hbm, 215, rfl⟩
abbrev main_call1_call0_c_34 : Ref sig .tc := ⟨.hbm, 216, rfl⟩
abbrev main_call1_call0_v132 : Ref sig .tc := ⟨.hbm, 217, rfl⟩
abbrev main_call1_call0_v133 : Ref sig .tc := ⟨.hbm, 218, rfl⟩
abbrev main_call1_call0_v134 : Ref sig .tc := ⟨.hbm, 219, rfl⟩
abbrev main_call1_call0_v135 : Ref sig .tc := ⟨.hbm, 220, rfl⟩
abbrev main_call1_call0_v136 : Ref sig .tc := ⟨.hbm, 221, rfl⟩
abbrev main_call1_call0_v137 : Ref sig .tc := ⟨.hbm, 222, rfl⟩
abbrev main_call1_call0_v138 : Ref sig .tc := ⟨.hbm, 223, rfl⟩
abbrev main_call1_call0_v139 : Ref sig .tc := ⟨.hbm, 224, rfl⟩
abbrev main_call1_call0_c_35 : Ref sig .tc := ⟨.hbm, 225, rfl⟩
abbrev main_call1_call0_v140 : Ref sig .tc := ⟨.hbm, 226, rfl⟩
abbrev main_call1_call0_v141 : Ref sig .tc := ⟨.hbm, 227, rfl⟩
abbrev main_call1_call0_v142 : Ref sig .tc := ⟨.hbm, 228, rfl⟩
abbrev main_call1_call0_c_36 : Ref sig .tc := ⟨.hbm, 229, rfl⟩
abbrev main_call1_call0_v143 : Ref sig .tc := ⟨.hbm, 230, rfl⟩
abbrev main_call1_call0_v144 : Ref sig .tc := ⟨.hbm, 231, rfl⟩
abbrev main_call1_call0_c_37 : Ref sig .tc := ⟨.hbm, 232, rfl⟩
abbrev main_call1_call0_v145 : Ref sig .tc := ⟨.hbm, 233, rfl⟩
abbrev main_call1_call0_v146 : Ref sig .tc := ⟨.hbm, 234, rfl⟩
abbrev main_call1_call0_v147 : Ref sig .tc := ⟨.hbm, 235, rfl⟩
abbrev main_call1_call0_v148 : Ref sig .tc := ⟨.hbm, 236, rfl⟩
abbrev main_call1_call0_v149 : Ref sig .tc := ⟨.hbm, 237, rfl⟩
abbrev main_call1_call0_c_38 : Ref sig .tc := ⟨.hbm, 238, rfl⟩
abbrev main_call1_call0_v150 : Ref sig .tc := ⟨.hbm, 239, rfl⟩
abbrev main_call1_call0_v151 : Ref sig .tc := ⟨.hbm, 240, rfl⟩
abbrev main_call1_call0_c_39 : Ref sig .tc := ⟨.hbm, 241, rfl⟩
abbrev main_call1_call0_v152 : Ref sig .tc := ⟨.hbm, 242, rfl⟩
abbrev main_call1_call0_v153 : Ref sig .tc := ⟨.hbm, 243, rfl⟩
abbrev main_call1_call0_v154 : Ref sig .tc := ⟨.hbm, 244, rfl⟩
abbrev main_call1_call0_v155 : Ref sig .tc := ⟨.hbm, 245, rfl⟩
abbrev main_call1_call0_v156 : Ref sig .tc := ⟨.hbm, 246, rfl⟩
abbrev main_call1_call0_c_40 : Ref sig .tc := ⟨.hbm, 247, rfl⟩
abbrev main_call1_call0_v157 : Ref sig .tc := ⟨.hbm, 248, rfl⟩
abbrev main_call1_call0_v158 : Ref sig .tc := ⟨.hbm, 249, rfl⟩
abbrev main_call1_call0_c_41 : Ref sig .tc := ⟨.hbm, 250, rfl⟩
abbrev main_call1_call0_v159 : Ref sig .tc := ⟨.hbm, 251, rfl⟩
abbrev main_call1_call0_v160 : Ref sig .tc := ⟨.hbm, 252, rfl⟩
abbrev main_call1_call0_v161 : Ref sig .tc := ⟨.hbm, 253, rfl⟩
abbrev main_call1_call0_v162 : Ref sig .tc := ⟨.hbm, 254, rfl⟩
abbrev main_call1_call0_v163 : Ref sig .tc := ⟨.hbm, 255, rfl⟩
abbrev main_call1_call0_c_42 : Ref sig .tc := ⟨.hbm, 256, rfl⟩
abbrev main_call1_call0_v164 : Ref sig .tc := ⟨.hbm, 257, rfl⟩
abbrev main_call1_call0_v165 : Ref sig .tc := ⟨.hbm, 258, rfl⟩
abbrev main_call1_call0_c_43 : Ref sig .tc := ⟨.hbm, 259, rfl⟩
abbrev main_call1_call0_v166 : Ref sig .tc := ⟨.hbm, 260, rfl⟩
abbrev main_call1_call0_v167 : Ref sig .tc := ⟨.hbm, 261, rfl⟩
abbrev main_call1_call0_v168 : Ref sig .tc := ⟨.hbm, 262, rfl⟩
abbrev main_call1_call0_v169 : Ref sig .tc := ⟨.hbm, 263, rfl⟩
abbrev main_call1_call0_v170 : Ref sig .tc := ⟨.hbm, 264, rfl⟩
abbrev main_call1_v23_0 : Ref sig .tc := ⟨.hbm, 265, rfl⟩
abbrev main_call1_call0_v172 : Ref sig .tc := ⟨.hbm, 266, rfl⟩
abbrev main_call1_call0_v173 : Ref sig .tc := ⟨.hbm, 267, rfl⟩
abbrev main_call1_call0_c_44 : Ref sig .tc := ⟨.hbm, 268, rfl⟩
abbrev main_call1_call0_v174 : Ref sig .tc := ⟨.hbm, 269, rfl⟩
abbrev main_call1_v23_1 : Ref sig .tc := ⟨.hbm, 270, rfl⟩
abbrev main_call1_v24 : Ref sig .tc := ⟨.hbm, 271, rfl⟩
abbrev main_call1_c_3 : Ref sig .tc := ⟨.hbm, 272, rfl⟩
abbrev main_call1_v25 : Ref sig .tc := ⟨.hbm, 273, rfl⟩
abbrev main_call1_v26 : Ref sig .tc := ⟨.hbm, 274, rfl⟩
abbrev main_call1_c_4 : Ref sig .tc := ⟨.hbm, 275, rfl⟩
abbrev main_call1_v27 : Ref sig .tc := ⟨.hbm, 276, rfl⟩
abbrev main_call1_v28 : Ref sig .tc := ⟨.hbm, 277, rfl⟩
abbrev main_call1_v29 : Ref sig .tc := ⟨.hbm, 278, rfl⟩
abbrev main_call1_cst : Ref sig .tc := ⟨.hbm, 279, rfl⟩
abbrev main_call1_v30 : Ref sig .tc := ⟨.hbm, 280, rfl⟩
abbrev main_call1_v31 : Ref sig .tc := ⟨.hbm, 281, rfl⟩
abbrev main_call1_v32 : Ref sig .tc := ⟨.hbm, 282, rfl⟩
abbrev main_call1_v33 : Ref sig .tc := ⟨.hbm, 283, rfl⟩
abbrev main_call1_v34 : Ref sig .tc := ⟨.hbm, 284, rfl⟩
abbrev main_call1_v35 : Ref sig .tc := ⟨.hbm, 285, rfl⟩
abbrev main_call1_v36 : Ref sig .tc := ⟨.hbm, 286, rfl⟩
abbrev main_call1_v37 : Ref sig .tc := ⟨.hbm, 287, rfl⟩
abbrev main_v10 : Ref sig .tc := ⟨.hbm, 288, rfl⟩
abbrev main_cst_4 : Ref sig .tc := ⟨.hbm, 289, rfl⟩
abbrev main_v11 : Ref sig .tc := ⟨.hbm, 290, rfl⟩
abbrev main_v12 : Ref sig .tc := ⟨.hbm, 291, rfl⟩
abbrev main_cst_5 : Ref sig .tc := ⟨.hbm, 292, rfl⟩
abbrev main_v13 : Ref sig .tc := ⟨.hbm, 293, rfl⟩
abbrev main_v14 : Ref sig .tc := ⟨.hbm, 294, rfl⟩
abbrev main_v15 : Ref sig .tc := ⟨.hbm, 295, rfl⟩
abbrev main_v16 : Ref sig .tc := ⟨.hbm, 296, rfl⟩
abbrev main_v17 : Ref sig .tc := ⟨.hbm, 297, rfl⟩
abbrev main_v18 : Ref sig .tc := ⟨.hbm, 298, rfl⟩
abbrev main_v19 : Ref sig .tc := ⟨.hbm, 299, rfl⟩
abbrev main_v20 : Ref sig .tc := ⟨.hbm, 300, rfl⟩
abbrev main_v21 : Ref sig .tc := ⟨.hbm, 301, rfl⟩
abbrev main_call2_v0 : Ref sig .tc := ⟨.hbm, 302, rfl⟩
abbrev main_call2_cst : Ref sig .tc := ⟨.hbm, 303, rfl⟩
abbrev main_call2_c : Ref sig .tc := ⟨.hbm, 304, rfl⟩
abbrev main_call2_v1_0 : Ref sig .tc := ⟨.hbm, 305, rfl⟩
abbrev main_v22 : Ref sig .tc := ⟨.hbm, 306, rfl⟩
abbrev main_v23 : Ref sig .tc := ⟨.hbm, 307, rfl⟩
abbrev main_v24 : Ref sig .tc := ⟨.hbm, 308, rfl⟩
abbrev main_v25 : Ref sig .tc := ⟨.hbm, 309, rfl⟩
abbrev main_v26 : Ref sig .tc := ⟨.hbm, 310, rfl⟩
abbrev main_v27 : Ref sig .tc := ⟨.hbm, 311, rfl⟩
abbrev main_v28 : Ref sig .tc := ⟨.hbm, 312, rfl⟩
abbrev main_v29 : Ref sig .tc := ⟨.hbm, 313, rfl⟩
abbrev main_cst_6 : Ref sig .tc := ⟨.hbm, 314, rfl⟩
abbrev main_v30 : Ref sig .tc := ⟨.hbm, 315, rfl⟩
abbrev main_v31 : Ref sig .tc := ⟨.hbm, 316, rfl⟩
abbrev main_v32 : Ref sig .tc := ⟨.hbm, 317, rfl⟩
abbrev main_c_7 : Ref sig .tc := ⟨.hbm, 318, rfl⟩
abbrev main_v33 : Ref sig .tc := ⟨.hbm, 319, rfl⟩
abbrev main_v34 : Ref sig .tc := ⟨.hbm, 320, rfl⟩
abbrev main_c_8 : Ref sig .tc := ⟨.hbm, 321, rfl⟩
abbrev main_v35 : Ref sig .tc := ⟨.hbm, 322, rfl⟩
abbrev main_v36 : Ref sig .tc := ⟨.hbm, 323, rfl⟩
abbrev main_v37 : Ref sig .tc := ⟨.hbm, 324, rfl⟩
abbrev main_c_9 : Ref sig .tc := ⟨.hbm, 325, rfl⟩
abbrev main_v38 : Ref sig .tc := ⟨.hbm, 326, rfl⟩
abbrev main_v39 : Ref sig .tc := ⟨.hbm, 327, rfl⟩
abbrev main_c_10 : Ref sig .tc := ⟨.hbm, 328, rfl⟩
abbrev main_v40 : Ref sig .tc := ⟨.hbm, 329, rfl⟩
abbrev main_v41 : Ref sig .tc := ⟨.hbm, 330, rfl⟩
abbrev main_v42 : Ref sig .tc := ⟨.hbm, 331, rfl⟩
abbrev main_v43 : Ref sig .tc := ⟨.hbm, 332, rfl⟩
abbrev main_v44 : Ref sig .tc := ⟨.hbm, 333, rfl⟩
abbrev main_v45 : Ref sig .tc := ⟨.hbm, 334, rfl⟩
abbrev main_v46 : Ref sig .tc := ⟨.hbm, 335, rfl⟩
abbrev main_v47 : Ref sig .tc := ⟨.hbm, 336, rfl⟩
abbrev main_v48 : Ref sig .tc := ⟨.hbm, 337, rfl⟩
abbrev main_cst_11 : Ref sig .tc := ⟨.hbm, 338, rfl⟩
abbrev main_call3_v0 : Ref sig .tc := ⟨.hbm, 339, rfl⟩
abbrev main_call3_v1 : Ref sig .tc := ⟨.hbm, 340, rfl⟩
abbrev main_v49 : Ref sig .tc := ⟨.hbm, 341, rfl⟩
abbrev main_v50 : Ref sig .tc := ⟨.hbm, 342, rfl⟩
abbrev main_cst_12 : Ref sig .tc := ⟨.hbm, 343, rfl⟩
abbrev main_call4_v0 : Ref sig .tc := ⟨.hbm, 344, rfl⟩
abbrev main_call4_v1 : Ref sig .tc := ⟨.hbm, 345, rfl⟩
abbrev main_v51 : Ref sig .tc := ⟨.hbm, 346, rfl⟩
abbrev main_cst_13 : Ref sig .tc := ⟨.hbm, 347, rfl⟩
abbrev main_v52 : Ref sig .tc := ⟨.hbm, 348, rfl⟩
abbrev main_v53 : Ref sig .tc := ⟨.hbm, 349, rfl⟩
abbrev main_v54 : Ref sig .tc := ⟨.hbm, 350, rfl⟩
abbrev main_v55 : Ref sig .tc := ⟨.hbm, 351, rfl⟩
abbrev main_cst_14 : Ref sig .tc := ⟨.hbm, 352, rfl⟩
abbrev main_v56 : Ref sig .tc := ⟨.hbm, 353, rfl⟩
abbrev main_cst_15 : Ref sig .tc := ⟨.hbm, 354, rfl⟩
abbrev main_v57 : Ref sig .tc := ⟨.hbm, 355, rfl⟩
abbrev main_v58 : Ref sig .tc := ⟨.hbm, 356, rfl⟩
abbrev main_v59 : Ref sig .tc := ⟨.hbm, 357, rfl⟩
abbrev main_cst_16 : Ref sig .tc := ⟨.hbm, 358, rfl⟩
abbrev main_v60 : Ref sig .tc := ⟨.hbm, 359, rfl⟩
abbrev main_cst_17 : Ref sig .tc := ⟨.hbm, 360, rfl⟩
abbrev main_v61 : Ref sig .tc := ⟨.hbm, 361, rfl⟩
abbrev main_v62 : Ref sig .tc := ⟨.hbm, 362, rfl⟩
abbrev main_v63 : Ref sig .tc := ⟨.hbm, 363, rfl⟩
abbrev main_cst_18 : Ref sig .tc := ⟨.hbm, 364, rfl⟩
abbrev main_v64 : Ref sig .tc := ⟨.hbm, 365, rfl⟩
abbrev main_v65 : Ref sig .tc := ⟨.hbm, 366, rfl⟩
abbrev main_v66 : Ref sig .tc := ⟨.hbm, 367, rfl⟩
abbrev main_v67 : Ref sig .tc := ⟨.hbm, 368, rfl⟩
abbrev main_v68 : Ref sig .tc := ⟨.hbm, 369, rfl⟩

abbrev nD : Nat := 1
abbrev τ : Topo := Topo.v7x

variable {F : FTy → Type} [FloatOps F]
-- ==== Proof.KiBody.lean ====
/- One grid point of the kernel body of `KernelIdeal`: the draws of a block of eight rows (`blockCounts`), the column sums and the two
   running scalars the block adds to, the loss the last point writes, and the body's triple in its three cases (first point, a
   point between, last point). -/
module

public import proofs.«01_k».proof.Proof.Gen.KernelIdeal.Frame
public import proofs.«01_k».proof.Proof.Gen.KernelIdeal.Skeleton
public import Idealize.ShloMosaic.Lib.VecWindow
public import Idealize.ShloMosaic.Lib.CellWrites

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What one block computes -/

/-- The counts after one trip of the loop over the draws, over the index tables the loop reads. -/
def tripOf (v9 v10 v11 : IVec S8x8x1024 32) (v12 : BitVec 32) (x0 : Vec F S8x1024 .f32) (x1 : Vec F S1x1x8 .f32) (k : Fin k0_t1_loop.trips)
    (acc : FVec F S8x1024 .f32) : FVec F S8x1024 .f32 :=
  let v96 := k0_pay13 v9 v10 v11 v12 0#32 1#32 k
  let v98 := k0_pay14 v9 v10 v11 v12 0#32 1#32 k
  let v141 := k0_pay25 v96 v98 1#32
  let v142 := k0_pay26 v96 v98 1#32
  let v144 := k0_pay27 v96 v98 1#32
  let v189 := k0_pay38 v141 v142 v144
  let v190 := k0_pay39 v141 v142 v144
  k0_pay53 x0 x1 acc (k0_pay5 v10 0#32 1#32 k) (k0_pay48 v189 v190) (k0_pay49 v189 v190) 5#32

/-- The counts of a block over the loop's index tables: the thirteen trips over the draws, from zero. -/
def countsOf (v9 v10 v11 : IVec S8x8x1024 32) (v12 : BitVec 32) (x0 : Vec F S8x1024 .f32) (x1 : Vec F S1x1x8 .f32) : FVec F S8x1024 .f32 :=
  Scf.fold (fun k acc => tripOf v9 v10 v11 v12 x0 x1 k acc) k0_pay52

/-- The counts of a block: the thirteen trips over the draws, from zero. -/
def blockCounts (i : grid0.Coords) (x0 : Vec F S8x1024 .f32) (x1 : Vec F S1x1x8 .f32) : FVec F S8x1024 .f32 :=
  countsOf (iota .tc S8x8x1024 32 [0] iota_S8x8x1024_d0_w32) (iota .tc S8x8x1024 32 [1] iota_S8x8x1024_d1_w32)
    (iota .tc S8x8x1024 32 [2] iota_S8x8x1024_d2_w32) (Scalar.muli (BitVec.ofNat 32 (i 0).val) 8#32) x0 x1

/-- The first running scalar's place. -/
def cell0 : S2.Idx := fun a => ⟨0, by fin_cases a; decide⟩
/-- The second running scalar's place. -/
def cell1 : S2.Idx := fun a => ⟨1, by fin_cases a; decide⟩

/-- The one entry of a 1×1 array. -/
def entry : S1x1.Idx := fun a => ⟨0, by fin_cases a <;> decide⟩

/-- The two running scalars after a block with parameters `x0`, counts' wants `x1` and draws `z`. -/
def accNext (x0 : Vec F S8x1024 .f32) (x1 : Vec F S1x1x8 .f32) (z : FVec F S8x1024 .f32) (a : Vec F S2 .f32) : Vec F S2 .f32 :=
  fun j => if (j 0).val = 1 then k0_pay2 (k0_pay55 x1 z) (a cell1) else k0_pay1 (k0_pay54 x0 z) (a cell0)

/-- The running scalars' start. -/
def zeroAcc : Vec F S2 .f32 := fun _ => Scalar.ofBits .f32 0x00000000#32

/-- The loss from the wants `x2`, the factor `x3`, the column sums and the running scalars. -/
def lossOf (x2 : Vec F S1x1024 .f32) (x3 : Vec F S1x1 .f32) (cs : Vec F S1x1024 .f32) (a : Vec F S2 .f32) : Vec F S1x1 .f32 :=
  fun _ => k0_pay4 cs x2 (a cell0) (x3 entry) (a cell1)

/-- The loop's region as a function of the carried counts. -/
theorem t1_body_eq (i : grid0.Coords) (arg1 : Memref sig .tc .vmem S8x1024 .f32) (harg1 : arg1.IsWhole) (arg2 : Memref sig .tc .vmem S1x1x8 .f32) (harg2 : arg2.IsWhole) (arg3 : Memref sig .tc .vmem S1x1024 .f32) (harg3 : arg3.IsWhole) (arg4 : Memref sig .tc .smem S1x1 .f32) (harg4 : arg4.IsWhole) (arg5 : Memref sig .tc .vmem S8x1024 .f32) (harg5 : arg5.IsWhole) (arg6 : Memref sig .tc .smem S1x1 .f32) (harg6 : arg6.IsWhole) (arg7 : Memref sig .tc .vmem S1x1024 .f32) (harg7 : arg7.IsWhole) (arg8 : Memref sig .tc .smem S2 .f32) (harg8 : arg8.IsWhole) (v3 : Vec F S8x1024 .f32) (v6 : Vec F S1x1x8 .f32) (v9 v10 v11 : IVec S8x8x1024 32) (v12 : BitVec 32) :
    k0_t1_body (F := F) i arg1 harg1 arg2 harg2 arg3 harg3 arg4 harg4 arg5 harg5 arg6 harg6 arg7 harg7 arg8 harg8 v3 v6
        v9 v10 v11 v12
      = fun k acc => .ret (tripOf v9 v10 v11 v12 v3 v6 k acc) := by
  funext k acc
  unfold k0_t1_body
  simp only [k0_part1_eq_skeleton, k0_part2_eq_skeleton, k0_part3_eq_skeleton, k0_part4_eq_skeleton]
  rfl

/-- The loop is the return of its counts. -/
theorem t1_loop_eq (i : grid0.Coords) (arg1 : Memref sig .tc .vmem S8x1024 .f32) (harg1 : arg1.IsWhole) (arg2 : Memref sig .tc .vmem S1x1x8 .f32) (harg2 : arg2.IsWhole) (arg3 : Memref sig .tc .vmem S1x1024 .f32) (harg3 : arg3.IsWhole) (arg4 : Memref sig .tc .smem S1x1 .f32) (harg4 : arg4.IsWhole) (arg5 : Memref sig .tc .vmem S8x1024 .f32) (harg5 : arg5.IsWhole) (arg6 : Memref sig .tc .smem S1x1 .f32) (harg6 : arg6.IsWhole) (arg7 : Memref sig .tc .vmem S1x1024 .f32) (harg7 : arg7.IsWhole) (arg8 : Memref sig .tc .smem S2 .f32) (harg8 : arg8.IsWhole) (v3 : Vec F S8x1024 .f32) (v6 : Vec F S1x1x8 .f32) (v9 v10 v11 : IVec S8x8x1024 32) (v12 : BitVec 32) :
    Scf.Loop.for k0_t1_loop k0_t1_ok (k0_pay52 (F := F)) (k0_t1_body (F := F) i arg1 harg1 arg2 harg2 arg3 harg3 arg4 harg4 arg5 harg5 arg6 harg6 arg7 harg7 arg8 harg8 v3 v6 v9 v10 v11 v12)
      = .ret (countsOf v9 v10 v11 v12 v3 v6) := by
  rw [t1_body_eq]
  exact Scf.for_pure _ _ _ _ _ _ (fun k acc => tripOf v9 v10 v11 v12 v3 v6 k acc) fun _ _ => rfl

/-- The body's first condition: the point is the first of its row of points. -/
abbrev cond0 (i : grid0.Coords) : Prop := (Scalar.cmpi .ne (Scalar.extui (Scalar.cmpi .eq (BitVec.ofNat 32 (i 0).val) 0#32)) 0#32) = 1#1
/-- The body's second condition: the point is the last. -/
abbrev cond1 (i : grid0.Coords) : Prop := k0_cond2 i = 1#1

/-! ## Reading whole buffers and single cells -/

/-- A load of a whole buffer's own sizes reads the contents it holds. -/
theorem ld_full {sp : Space} {s : Shape} {e : EltTy} {m : Memref sig .tc sp s e} (h : m.IsWhole) (x : Vec F s e) {off : Fin s.rank → ℕ}
    (inb : ∀ a, off a + s.size a ≤ s.size a) : m.view.readAt (Elt F) (Rect.unit off s.size inb).toLoadRect (h.unread x) = x :=
  (View.readAt_full _ _ _).trans (h.read_unread x)

/-- A load of the first running scalar reads it. -/
theorem ld_cell0 {m : Memref sig .tc .smem S2 .f32} (h : m.IsWhole) (x : Vec F S2 .f32) (y : S1.Idx) :
    m.view.readAt (Elt F) (Rect.unit (s := S2) ![0] S1.size inb_S2_S1_0).toLoadRect (h.unread x) y = x cell0 := by
  show m.view.read (Elt F) (h.unread x) _ = _
  rw [h.read_unread]
  congr 1; funext a; apply Fin.ext; fin_cases a
  have := (y 0).isLt
  show 0 + 1 * (y 0).val = 0
  have h1 : (y 0).val < 1 := (y 0).isLt
  omega

/-- A load of the second running scalar reads it. -/
theorem ld_cell1 {m : Memref sig .tc .smem S2 .f32} (h : m.IsWhole) (x : Vec F S2 .f32) (y : S1.Idx) :
    m.view.readAt (Elt F) (Rect.unit (s := S2) ![1] S1.size inb_S2_S1_1).toLoadRect (h.unread x) y = x cell1 := by
  show m.view.read (Elt F) (h.unread x) _ = _
  rw [h.read_unread]
  congr 1; funext a; apply Fin.ext; fin_cases a
  have h1 : (y 0).val < 1 := (y 0).isLt
  show 1 + 1 * (y 0).val = 1
  omega

/-- A load of the 1×1 operand reads its one entry. -/
theorem ld_one {m : Memref sig .tc .smem S1x1 .f32} (h : m.IsWhole) (x : Vec F S1x1 .f32) (y : S1x1.Idx) :
    m.view.readAt (Elt F) (Rect.unit (s := S1x1) ![0, 0] S1x1.size inb_S1x1_S1x1_0_0).toLoadRect (h.unread x) y = x entry := by
  rw [ld_full h x]
  congr 1; funext a; apply Fin.ext
  have h1 := (y a).isLt
  fin_cases a <;> exact Nat.lt_one_iff.mp h1

/-- The scalars' buffer after the body's two stores: cell 1 holds the second store's word, cell 0 the first's. -/
theorem read_cells {m : Memref sig .tc .smem S2 .f32} (f : m.view.ty.Contents (Elt F)) (p q : F .f32)
    (L : List (View.Piece (Elt F) S2 .f32)) :
    m.view.read (Elt F) (m.view.writes (Elt F) f (⟨Rect.unit (s := S2) ![1] S1.size inb_S2_S1_1, fun _ => p⟩ :: ⟨Rect.unit (s := S2) ![0] S1.size inb_S2_S1_0, fun _ => q⟩ :: L))
      = fun j => if (j 0).val = 1 then p else q := by
  funext j
  refine (View.read_writes_cons_cell (d := ![2]) m.view f inb_S2_S1_1 p _ j).trans ?_
  show (if (j 0).val = 1 then p else _) = _
  by_cases h : (j 0).val = 1
  · rw [if_pos h, if_pos h]
  · rw [if_neg h, if_neg h]
    refine (View.read_writes_cons_cell (d := ![2]) m.view f inb_S2_S1_0 q _ j).trans ?_
    have : (j 0).val < 2 := (j 0).isLt
    exact if_pos (show (j 0).val = 0 by omega)

set_option maxHeartbeats 4000000 in
/-- A point between the first and the last: the counts, the column sums and the running scalars of the block added. -/
theorem body_B (c : Dev nD) (i : grid0.Coords) (arg1 : Memref sig .tc .vmem S8x1024 .f32) (harg1 : arg1.IsWhole) (arg2 : Memref sig .tc .vmem S1x1x8 .f32) (harg2 : arg2.IsWhole) (arg3 : Memref sig .tc .vmem S1x1024 .f32) (harg3 : arg3.IsWhole) (arg4 : Memref sig .tc .smem S1x1 .f32) (harg4 : arg4.IsWhole) (arg5 : Memref sig .tc .vmem S8x1024 .f32) (harg5 : arg5.IsWhole) (arg6 : Memref sig .tc .smem S1x1 .f32) (harg6 : arg6.IsWhole) (arg7 : Memref sig .tc .vmem S1x1024 .f32) (harg7 : arg7.IsWhole) (arg8 : Memref sig .tc .smem S2 .f32) (harg8 : arg8.IsWhole) (hc0 : ¬cond0 i) (hc1 : ¬cond1 i)
    (x0 : Vec F S8x1024 .f32) (x1 : Vec F S1x1x8 .f32) (x2 : Vec F S1x1024 .f32) (x3 : Vec F S1x1 .f32) (xi5 : Vec F S1x1 .f32) (xs0 : Vec F S1x1024 .f32) (xs1 : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockCounts i x0 x1) ∗ owns (c : Thread nD τ) arg6 fullShare xi5 ∗ owns (c : Thread nD τ) arg7 fullShare (k0_pay3 (blockCounts i x0 x1) xs0) ∗ owns (c : Thread nD τ) arg8 fullShare (accNext x0 x1 (blockCounts i x0 x1) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part5_eq_skeleton]; unfold k0_part5_skel
  simp only [t1_loop_eq]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e0 := ld_full harg1 x0 inb_S8x1024_S8x1024_0_0
  have e1 := ld_full harg2 x1 inb_S1x1x8_S1x1x8_0_0_0
  isplitl [H4]
  · iexists _; isplitr
    swap; · iexact H4
    ipureintro
    exact (View.read_writes_full _ _ _ _ _).trans (congrArg₂ (fun a b => blockCounts i a b) e0 e1)
  isplitl [H5]
  · iexists _; isplitr; · ipureintro; exact harg6.read_unread _
    iexact H5
  isplitl [HS0]
  · iexists _; isplitr
    swap; · iexact HS0
    ipureintro
    refine (View.read_writes_full _ _ _ _ _).trans ?_
    exact congrArg₂ (fun a b => k0_pay3 a b) (congrArg₂ (fun a b => blockCounts i a b) e0 e1) (ld_full harg7 xs0 inb_S1x1024_S1x1024_0_0)
  iexists _; isplitr
  swap; · iexact HS1
  ipureintro
  refine (read_cells _ _ _ _).trans ?_
  funext j
  have ez := congrArg₂ (fun a b => blockCounts i a b) e0 e1
  have p := congrArg₂ (fun a b => k0_pay2 a b) (congrArg₂ (fun a b => k0_pay55 a b) e1 ez) (ld_cell1 harg8 xs1 (fun a => ⟨0, by fin_cases a; decide⟩))
  have q := congrArg₂ (fun a b => k0_pay1 a b) (congrArg₂ (fun a b => k0_pay54 a b) e0 ez) (ld_cell0 harg8 xs1 (fun a => ⟨0, by fin_cases a; decide⟩))
  show (if (j 0).val = 1 then _ else _) = if (j 0).val = 1 then _ else _
  by_cases h : (j 0).val = 1
  · rw [if_pos h, if_pos h]; exact p
  · rw [if_neg h, if_neg h]; exact q

set_option maxHeartbeats 4000000 in
/-- The first point: the same from zero. -/
theorem body_A (c : Dev nD) (i : grid0.Coords) (arg1 : Memref sig .tc .vmem S8x1024 .f32) (harg1 : arg1.IsWhole) (arg2 : Memref sig .tc .vmem S1x1x8 .f32) (harg2 : arg2.IsWhole) (arg3 : Memref sig .tc .vmem S1x1024 .f32) (harg3 : arg3.IsWhole) (arg4 : Memref sig .tc .smem S1x1 .f32) (harg4 : arg4.IsWhole) (arg5 : Memref sig .tc .vmem S8x1024 .f32) (harg5 : arg5.IsWhole) (arg6 : Memref sig .tc .smem S1x1 .f32) (harg6 : arg6.IsWhole) (arg7 : Memref sig .tc .vmem S1x1024 .f32) (harg7 : arg7.IsWhole) (arg8 : Memref sig .tc .smem S2 .f32) (harg8 : arg8.IsWhole) (hc0 : cond0 i) (hc1 : ¬cond1 i)
    (x0 : Vec F S8x1024 .f32) (x1 : Vec F S1x1x8 .f32) (x2 : Vec F S1x1024 .f32) (x3 : Vec F S1x1 .f32) (xi5 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockCounts i x0 x1) ∗ owns (c : Thread nD τ) arg6 fullShare xi5 ∗ owns (c : Thread nD τ) arg7 fullShare (k0_pay3 (blockCounts i x0 x1) k0_pay50) ∗ owns (c : Thread nD τ) arg8 fullShare (accNext x0 x1 (blockCounts i x0 x1) zeroAcc)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part5_eq_skeleton]; unfold k0_part5_skel
  simp only [t1_loop_eq]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e0 := ld_full harg1 x0 inb_S8x1024_S8x1024_0_0
  have e1 := ld_full harg2 x1 inb_S1x1x8_S1x1x8_0_0_0
  isplitl [H4]
  · iexists _; isplitr
    swap; · iexact H4
    ipureintro
    exact (View.read_writes_full _ _ _ _ _).trans (congrArg₂ (fun a b => blockCounts i a b) e0 e1)
  isplitl [H5]
  · iexists _; isplitr; · ipureintro; exact harg6.read_unread _
    iexact H5
  have ez := congrArg₂ (fun a b => blockCounts i a b) e0 e1
  isplitl [HS0]
  · iexists _; isplitr
    swap; · iexact HS0
    ipureintro
    refine (View.read_writes_full _ _ _ _ _).trans ?_
    exact congrArg₂ (fun a b => k0_pay3 a b) ez (View.readCov_full (Val := Elt F) arg7.view inb_S1x1024_S1x1024_0_0 inb_S1x1024_S1x1024_0_0 k0_pay50 [])
  iexists _; isplitr
  swap; · iexact HS1
  ipureintro
  refine (read_cells _ _ _ _).trans ?_
  funext j
  have p := congrArg (fun a => k0_pay2 a (zeroAcc (F := F) cell1)) (congrArg₂ (fun a b => k0_pay55 a b) e1 ez)
  have q := congrArg (fun a => k0_pay1 a (zeroAcc (F := F) cell0)) (congrArg₂ (fun a b => k0_pay54 a b) e0 ez)
  show (if (j 0).val = 1 then _ else _) = if (j 0).val = 1 then _ else _
  by_cases h : (j 0).val = 1
  · rw [if_pos h, if_pos h]; exact p
  · rw [if_neg h, if_neg h]; exact q

set_option maxHeartbeats 4000000 in
/-- The last point: the block added, and the loss stored from the column sums, the wants `x2`, the factor `x3` and the running scalars. -/
theorem body_C (c : Dev nD) (i : grid0.Coords) (arg1 : Memref sig .tc .vmem S8x1024 .f32) (harg1 : arg1.IsWhole) (arg2 : Memref sig .tc .vmem S1x1x8 .f32) (harg2 : arg2.IsWhole) (arg3 : Memref sig .tc .vmem S1x1024 .f32) (harg3 : arg3.IsWhole) (arg4 : Memref sig .tc .smem S1x1 .f32) (harg4 : arg4.IsWhole) (arg5 : Memref sig .tc .vmem S8x1024 .f32) (harg5 : arg5.IsWhole) (arg6 : Memref sig .tc .smem S1x1 .f32) (harg6 : arg6.IsWhole) (arg7 : Memref sig .tc .vmem S1x1024 .f32) (harg7 : arg7.IsWhole) (arg8 : Memref sig .tc .smem S2 .f32) (harg8 : arg8.IsWhole) (hc0 : ¬cond0 i) (hc1 : cond1 i)
    (x0 : Vec F S8x1024 .f32) (x1 : Vec F S1x1x8 .f32) (x2 : Vec F S1x1024 .f32) (x3 : Vec F S1x1 .f32) (xs0 : Vec F S1x1024 .f32) (xs1 : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockCounts i x0 x1) ∗ owns (c : Thread nD τ) arg6 fullShare (lossOf x2 x3 (k0_pay3 (blockCounts i x0 x1) xs0) (accNext x0 x1 (blockCounts i x0 x1) xs1)) ∗ owns (c : Thread nD τ) arg7 fullShare (k0_pay3 (blockCounts i x0 x1) xs0) ∗ owns (c : Thread nD τ) arg8 fullShare (accNext x0 x1 (blockCounts i x0 x1) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part5_eq_skeleton]; unfold k0_part5_skel
  simp only [t1_loop_eq]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg7.eq_unread hfs0; obtain rfl := harg8.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e0 := ld_full harg1 x0 inb_S8x1024_S8x1024_0_0
  have e1 := ld_full harg2 x1 inb_S1x1x8_S1x1x8_0_0_0
  isplitl [H4]
  · iexists _; isplitr
    swap; · iexact H4
    ipureintro
    exact (View.read_writes_full _ _ _ _ _).trans (congrArg₂ (fun a b => blockCounts i a b) e0 e1)
  have ez := congrArg₂ (fun a b => blockCounts i a b) e0 e1
  have ec := congrArg₂ (fun a b => k0_pay3 a b) ez (ld_full harg7 xs0 inb_S1x1024_S1x1024_0_0)
  have p := congrArg₂ (fun a b => k0_pay2 a b) (congrArg₂ (fun a b => k0_pay55 a b) e1 ez) (ld_cell1 harg8 xs1 (fun a => ⟨0, by fin_cases a; decide⟩))
  have q := congrArg₂ (fun a b => k0_pay1 a b) (congrArg₂ (fun a b => k0_pay54 a b) e0 ez) (ld_cell0 harg8 xs1 (fun a => ⟨0, by fin_cases a; decide⟩))
  isplitl [H5]
  · iexists _; isplitr
    swap; · iexact H5
    ipureintro
    refine (View.read_writes_full _ _ _ _ _).trans ?_
    funext y
    have v := congrArg₂ (fun a b => fun (r s t : F .f32) => k0_pay4 a b r s t) ((View.readCov_full (Val := Elt F) arg7.view inb_S1x1024_S1x1024_0_0 inb_S1x1024_S1x1024_0_0 _ []).trans ec) (ld_full harg3 x2 inb_S1x1024_S1x1024_0_0)
    have w := ld_one harg4 x3 (fun a => ⟨0, by fin_cases a <;> decide⟩)
    exact congr (congr (congr v q) w) p
  isplitl [HS0]
  · iexists _; isplitr
    swap; · iexact HS0
    ipureintro
    exact (View.read_writes_full _ _ _ _ _).trans ec
  iexists _; isplitr
  swap; · iexact HS1
  ipureintro
  refine (read_cells _ _ _ _).trans ?_
  funext j
  show (if (j 0).val = 1 then _ else _) = if (j 0).val = 1 then _ else _
  by_cases h : (j 0).val = 1
  · rw [if_pos h, if_pos h]; exact p
  · rw [if_neg h, if_neg h]; exact q

end Cert.KernelIdeal.Body

end
-- ==== Proof.KiFrame.lean ====
/- The run of `KernelIdeal`'s pipeline: what each point leaves in the outputs' staging buffers and in the carried scratch
   (`zAt`, `colAt`, `accAt`, `lossAt`), the body obligation at every point, and the launch: the program terminates with every
   semaphore counter at zero, the pipeline's arrays at what the points left and the arguments unchanged. -/
module

public import Idealize.ShloMosaic.Lib.Claim
public import proofs.«01_k».proof.Proof.KiBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first branch is taken at the first point only, -/
theorem hcond0 : ∀ t : Fin cfg0.N, cond0 (grid0.coords t) ↔ t.val = 0 :=
  (fun t => by
    have ht : t.val < 512 := Nat.lt_of_lt_of_eq t.isLt N_0
    have e0 : (grid0.coords t 0).val = t.val / 1 % 512 := Pipeline.Grid.coords_val t 0 (by decide) rfl
    simp only [cond0, e0]
    word_cmp
   : ∀ t : Fin grid0.N, cond0 (grid0.coords t) ↔ t.val = 0)

/-- the last branch at the last point only. -/
theorem hcond1 : ∀ t : Fin cfg0.N, cond1 (grid0.coords t) ↔ t.val = 511 :=
  (fun t => by
    have ht : t.val < 512 := Nat.lt_of_lt_of_eq t.isLt N_0
    have e0 : (grid0.coords t 0).val = t.val / 1 % 512 := Pipeline.Grid.coords_val t 0 (by decide) rfl
    simp only [cond1, k0_cond2, e0]
    word_cmp
   : ∀ t : Fin grid0.N, cond1 (grid0.coords t) ↔ t.val = 511)

/-- The loss's window is idle before the last point, and not written back there. -/
theorem idle5 : ∀ t : Fin cfg0.N, ¬cond1 (grid0.coords t) → cfg0.idle 5 (grid0.coords t) = true := by decide +kernel
/-- Before the last point the loss's window is not written back. -/
theorem noFlush5 : ∀ t : Fin cfg0.N, ¬cond1 (grid0.coords t) → (cfg0.win 5).flush t = false := by decide +kernel
/-- At the last point it is live. -/
theorem live5 : ∀ t : Fin cfg0.N, cond1 (grid0.coords t) → cfg0.idle 5 (grid0.coords t) = false := by decide +kernel

/-! ## What each point leaves -/

/-- The counts of point `t`'s block. -/
def zAt (c : Dev nD) (t : Fin cfg0.N) : Vec F S8x1024 .f32 := blockCounts (grid0.coords t) (iblk m c 0 t) (iblk m c 1 t)

/-- The column sums after point `n`. -/
def colAt (c : Dev nD) : (n : ℕ) → n < cfg0.N → Vec F S1x1024 .f32
  | 0, h => k0_pay3 (zAt m c ⟨0, h⟩) k0_pay50
  | n + 1, h => k0_pay3 (zAt m c ⟨n + 1, h⟩) (colAt c n (Nat.lt_of_succ_lt h))

/-- The running scalars after point `n`. -/
def accAt (c : Dev nD) : (n : ℕ) → n < cfg0.N → Vec F S2 .f32
  | 0, h => accNext (iblk m c 0 ⟨0, h⟩) (iblk m c 1 ⟨0, h⟩) (zAt m c ⟨0, h⟩) zeroAcc
  | n + 1, h => accNext (iblk m c 0 ⟨n + 1, h⟩) (iblk m c 1 ⟨n + 1, h⟩) (zAt m c ⟨n + 1, h⟩) (accAt c n (Nat.lt_of_succ_lt h))

/-- The loss as the last point would store it at point `t`. -/
def lossAt (c : Dev nD) (t : Fin cfg0.N) : Vec F S1x1 .f32 :=
  lossOf (iblk m c 2 t) (iblk m c 3 t) (colAt m c t.val t.isLt) (accAt m c t.val t.isLt)

/-- The column sums after a later point: the point before's, with the block's counts added. -/
theorem colAt_pos (c : Dev nD) (t : Fin cfg0.N) (h : t.val ≠ 0) :
    colAt m c t.val t.isLt = k0_pay3 (zAt m c t) (colAt m c (t.val - 1) (by omega)) := by
  obtain ⟨n, hn⟩ := t
  cases n with
  | zero => exact absurd rfl h
  | succ n => rfl

/-- The running scalars after a later point, from the point before's. -/
theorem accAt_pos (c : Dev nD) (t : Fin cfg0.N) (h : t.val ≠ 0) :
    accAt m c t.val t.isLt = accNext (iblk m c 0 t) (iblk m c 1 t) (zAt m c t) (accAt m c (t.val - 1) (by omega)) := by
  obtain ⟨n, hn⟩ := t
  cases n with
  | zero => exact absurd rfl h
  | succ n => rfl

/-- The column sums after the first point start from zero, -/
theorem colAt_zero (c : Dev nD) (t : Fin cfg0.N) (h : t.val = 0) : colAt m c t.val t.isLt = k0_pay3 (zAt m c t) k0_pay50 := by
  obtain ⟨n, hn⟩ := t
  subst h; rfl

/-- and so do the running scalars. -/
theorem accAt_zero (c : Dev nD) (t : Fin cfg0.N) (h : t.val = 0) :
    accAt m c t.val t.isLt = accNext (iblk m c 0 t) (iblk m c 1 t) (zAt m c t) zeroAcc := by
  obtain ⟨n, hn⟩ := t
  subst h; rfl

/-! ## The staging memrefs, the carried scratch and the invariant -/

abbrev ms0 (t : Fin cfg0.N) : Memref sig .tc .vmem S8x1024 .f32 := win0_0.stage (cfg0.slots t 0)
abbrev ms1 (t : Fin cfg0.N) : Memref sig .tc .vmem S1x1x8 .f32 := win0_1.stage (cfg0.slots t 1)
abbrev ms2 (t : Fin cfg0.N) : Memref sig .tc .vmem S1x1024 .f32 := win0_2.stage (cfg0.slots t 2)
abbrev ms3 (t : Fin cfg0.N) : Memref sig .tc .smem S1x1 .f32 := win0_3.stage (cfg0.slots t 3)
abbrev ms4 (t : Fin cfg0.N) : Memref sig .tc .vmem S8x1024 .f32 := win0_4.stage (cfg0.slots t 4)
abbrev ms5 (t : Fin cfg0.N) : Memref sig .tc .smem S1x1 .f32 := win0_5.stage (cfg0.slots t 5)
/-- The scratch operands: the column sums' buffer and the running scalars'. -/
abbrev sc0 : Memref sig .tc .vmem S1x1024 .f32 := Memref.whole cc0_scratch0
abbrev sc1 : Memref sig .tc .smem S2 .f32 := Memref.whole cc0_scratch1

/-- The invariant before the first point: both scratch buffers at anything. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before position `n`: the scratch as the point before left it. -/
def Phi (c : Dev nD) : (n : ℕ) → n ≤ cfg0.N → sProp 𝕄
  | 0, _ => Pipeline.ΦA spec0 c
  | n + 1, hn => iprop(iprop(owns (c : Thread nD τ) sc0 fullShare (colAt m c n hn) ∗ owns (c : Thread nD τ) sc1 fullShare (accAt m c n hn)) ∗ (∃ r, prngReg c r))

/-- Before the first point the scratch is at anything; -/
theorem Phi_zero (c : Dev nD) (n : ℕ) (h : n ≤ cfg0.N) (hz : n = 0) : Phi m c n h = Pipeline.ΦA spec0 c := by
  subst hz; rfl

/-- after a point it is as the point left it; -/
theorem Phi_succ (c : Dev nD) (n : ℕ) (hn : n < cfg0.N) :
    Phi m c (n + 1) hn = iprop(iprop(owns (c : Thread nD τ) sc0 fullShare (colAt m c n hn) ∗ owns (c : Thread nD τ) sc1 fullShare (accAt m c n hn)) ∗ (∃ r, prngReg c r)) := rfl

/-- before a later point it is as the point before left it. -/
theorem Phi_pos (c : Dev nD) (n : ℕ) (h : n ≤ cfg0.N) (hz : n ≠ 0) :
    Phi m c n h = iprop(iprop(owns (c : Thread nD τ) sc0 fullShare (colAt m c (n - 1) (by omega)) ∗ owns (c : Thread nD τ) sc1 fullShare (accAt m c (n - 1) (by omega))) ∗ (∃ r, prngReg c r)) := by
  cases n with
  | zero => exact absurd rfl hz
  | succ n => rfl

/-! ## The pipeline's proof data -/

/-- The proof data on core `c`: each input's buffer at its block, the counts' at `zAt`, the loss's at `lossAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zAt m c t
    | ⟨5, _⟩ => lossAt m c t
  Φ t := Phi m c t.val (Nat.le_of_lt_succ t.isLt)
  q _ := fullShare
  owed _ := 0

/-- Each window's array enters the region as the host left it. -/
theorem A_eq (c : Dev nD) (w : Fin cfg0.W) : (dats m 0 c).A w = V m c (Pipeline.arrRef spec0 w) := by
  dsimp only [dats]

/-- The invariant that a point starts from. -/
theorem Phi_castSucc (c : Dev nD) (t : Fin cfg0.N) : (dats m 0 c).Φ t.castSucc = Phi m c t.val (Nat.le_of_lt t.isLt) := by
  dsimp only [dats]; exact Pipeline.Dat.Φ_castSucc (Phi m c) t

/-- After a point the parameters' buffer holds its block, -/
theorem after0 (c : Dev nD) (t : Fin cfg0.N) : (dats m 0 c).after 0 t = iblk m c 0 t := by dsimp only [dats]
/-- the rows' wants' its block, -/
theorem after1 (c : Dev nD) (t : Fin cfg0.N) : (dats m 0 c).after 1 t = iblk m c 1 t := by dsimp only [dats]
/-- the columns' wants' its block, -/
theorem after2 (c : Dev nD) (t : Fin cfg0.N) : (dats m 0 c).after 2 t = iblk m c 2 t := by dsimp only [dats]
/-- the factor's its block, -/
theorem after3 (c : Dev nD) (t : Fin cfg0.N) : (dats m 0 c).after 3 t = iblk m c 3 t := by dsimp only [dats]
/-- the counts' the block's counts, -/
theorem after4 (c : Dev nD) (t : Fin cfg0.N) : (dats m 0 c).after 4 t = zAt m c t := by dsimp only [dats]
/-- and the loss's the loss so far. -/
theorem after5 (c : Dev nD) (t : Fin cfg0.N) : (dats m 0 c).after 5 t = lossAt m c t := by dsimp only [dats]

/-- Before a point the parameters' buffer holds its block, -/
theorem before0 (c : Dev nD) (t : Fin cfg0.N) (d) : (dats m 0 c).before 0 t d = iblk m c 0 t :=
  before0_0_of m (dats m 0 c) (A_eq m c 0) (after0 m c) t d
/-- the rows' wants' its block, -/
theorem before1 (c : Dev nD) (t : Fin cfg0.N) (d) : (dats m 0 c).before 1 t d = iblk m c 1 t :=
  before0_1_of m (dats m 0 c) (A_eq m c 1) (after1 m c) t d
/-- the columns' wants' its block, -/
theorem before2 (c : Dev nD) (t : Fin cfg0.N) (d) : (dats m 0 c).before 2 t d = iblk m c 2 t :=
  before0_2_of m (dats m 0 c) (A_eq m c 2) (after2 m c) t d
/-- and the factor's its block. -/
theorem before3 (c : Dev nD) (t : Fin cfg0.N) (d) : (dats m 0 c).before 3 t d = iblk m c 3 t :=
  before0_3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The body gives back the parameters' buffer at its block, -/
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
/-- the rows' wants' at its block, -/
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
/-- the columns' wants' at its block, -/
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
/-- the factor's at its block, -/
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
/-- and the counts' at the block's counts. -/
theorem leaves4 (c : Dev nD) (t : Fin cfg0.N) : (dats m 0 c).leavesExact 4 t = owns (c : Thread nD τ) (ms4 t) fullShare (zAt m c t) := by
  unfold Dat.leavesExact; rw [show cfg0.idle 4 (grid0.coords t) = false from rfl, after4]

set_option maxHeartbeats 9600000 in
/-- The body at any point: the case the point is in, the body's triple of that case, and its postcondition restated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3, leaves4]
  rw [Phi_castSucc m c t]
  by_cases h1 : t.val = 511
  · have h0 : t.val ≠ 0 := by omega
    rw [show (dats m 0 c).leavesExact 5 t = owns (c : Thread nD τ) (ms5 t) fullShare ((dats m 0 c).after 5 t) from by
      unfold Dat.leavesExact; rw [live5 t ((hcond1 t).mpr h1)], after5]
    rw [Phi_pos m c _ _ h0]
    unfold lossAt
    rw [colAt_pos m c t h0, accAt_pos m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (body_C c (grid0.coords t) _ _ _ _ _ _ _ _ _ _ _ _ _ _ _ _ (fun h => h0 ((hcond0 t).mp h)) ((hcond1 t).mpr h1) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond1 (grid0.coords t) := fun h => h1 ((hcond1 t).mp h)
    rw [Dat.leavesExact_idle (dats m 0 c) 5 t (idle5 t hc1) (noFlush5 t hc1)]
    by_cases h0 : t.val = 0
    · rw [Phi_zero m c _ _ h0, PhiA_eq, colAt_zero m c t h0, accAt_zero m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_A c (grid0.coords t) _ _ _ _ _ _ _ _ _ _ _ _ _ _ _ _ ((hcond0 t).mpr h0) hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_pos m c _ _ h0, colAt_pos m c t h0, accAt_pos m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_B c (grid0.coords t) _ _ _ _ _ _ _ _ _ _ _ _ _ _ _ _ (fun h => h0 ((hcond0 t).mp h)) hc1 (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's scratch is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- The invariant gives the scratch back at anything, -/
theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨HS0, HS1⟩, Hg⟩
  isplitl [HS0 HS1]
  · isplitl [HS0]
    · iexists _; iexact HS0
    iexists _; iexact HS1
  iexact Hg

/-- and so after the last point. -/
theorem hout (c : Dev nD) : (dats m 0 c).Φ (Fin.last cfg0.N) ⊢ Pipeline.ΦA spec0 c :=
  Phi_out m c _ (by rw [Fin.val_last]; have : cfg0.N = 512 := N_0; omega)

/-! ## The run -/

set_option backward.isDefEq.respectTransparency.types false in
set_option maxHeartbeats 800000 in
/-- The launch: every weakly fair execution terminates with the pipeline's arrays at what the points left, every other buffer
    as the lines after the region leave it, and every semaphore counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the program terminates, its arguments end unchanged and every semaphore counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Body

end
-- ==== Proof.RefOps.lean ====
/- The reference's @main as one list of 366 host operations (every called function's operations in its call's place):
   `main_eq`. The proofs that the list stays inside the device's buffers and allocates nothing follow. -/
module

public import proofs.«01_k».proof.Proof.Gen.ReferenceIdeal
public import Idealize.ShloMosaic.Lib.StableHlo.Run
public import Idealize.ShloMosaic.Lib.Pipeline.Frame

@[expose] public section

set_option Elab.async false
set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v9`, named. It packs its operands into a list of dependent pairs
    whose shapes a later argument's type mentions, so `simp` cannot rewrite an operand where it stands; applied by
    name, the operands are plain arguments, which the window lemmas below rewrite before the name unfolds. -/
def fn_main_v9 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The function of the operation that writes `main_v46`, named. It packs its operands into a list of dependent pairs
    whose shapes a later argument's type mentions, so `simp` cannot rewrite an operand where it stands; applied by
    name, the operands are plain arguments, which the window lemmas below rewrite before the name unfolds. -/
def fn_main_v46 : (⟨S4096x100x1, .i32⟩ : BufTy).Contents (Elt F) → (⟨S4096x100x1, .i32⟩ : BufTy).Contents (Elt F) → (⟨S4096x100x2, .i32⟩ : BufTy).Contents (Elt F) :=
  (fun a b => concatenate S4096x100x2 2 [⟨S4096x100x1, a⟩, ⟨S4096x100x1, b⟩] concatenates_S4096x100x1_S4096x100x1_S4096x100x2_d2)

/-- @main's operations 1 … 30 of 366 (window `main_part0`). -/
abbrev ops_part0_0 : List (HloOp τ sig (Elt F)) :=
  [ unary main_arg1 main_v0 (fptosi 32 : (⟨S4096, .f32⟩ : BufTy).Contents (Elt F) → (⟨S4096, .i32⟩ : BufTy).Contents (Elt F)),
    nullary main_cst (constant S_ .f32 0x0DA24260#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4096x1024, .f32⟩) main_call0_v1) (broadcastInDim S4096x1024 ![] bcast_S_S4096x1024),
    TRef.binary (TRef.of (T := ⟨S4096x1024, .f32⟩) main_call0_v1) (TRef.of (T := ⟨S4096x1024, .f32⟩) main_arg0) (TRef.of (T := ⟨S4096x1024, .f32⟩) main_v1) maximumf,
    unary main_v1 main_v2 (Host.log : (⟨S4096x1024, .f32⟩ : BufTy).Contents (Elt F) → (⟨S4096x1024, .f32⟩ : BufTy).Contents (Elt F)),
    nullary main_c (constantI S_ 32 42#32),
    nullary main_c_0 (constantI S_ 32 32#32),
    binary main_c main_c_0 main_v3 (Host.shrui : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v6 (andi : (⟨S_, .i32⟩ : BufTy).Contents (Elt F) → (⟨S_, .i32⟩ : BufTy).Contents (Elt F) → (⟨S_, .i32⟩ : BufTy).Contents (Elt F)),
    unary main_v6 main_v7 (id : (⟨S_, .i32⟩ : BufTy).Contents (Elt F) → (⟨S_, .i32⟩ : BufTy).Contents (Elt F)),
    unary main_v7 main_v8 (broadcastInDim S1 ![] bcast_S_S1 : (⟨S_, .i32⟩ : BufTy).Contents (Elt F) → (⟨S1, .i32⟩ : BufTy).Contents (Elt F)),
    binary main_v5 main_v8 main_v9 (fn_main_v9 (F := F)),
    nullary main_cst_2 (constant S_ .f32 0x00000000#32),
    nullary main_cst_3 (constant S_ .f32 0x3F800000#32),
    TRef.unary (TRef.of (T := ⟨S_, .f32⟩) main_cst_2) (TRef.of (T := ⟨S_, .f32⟩) main_call1_v0) id,
    TRef.unary (TRef.of (T := ⟨S_, .f32⟩) main_cst_3) (TRef.of (T := ⟨S_, .f32⟩) main_call1_v1) id,
    TRef.unary (TRef.of (T := ⟨S_, .f32⟩) main_call1_v0) (TRef.of (T := ⟨S1x1x1, .f32⟩) main_call1_v2) (broadcastInDim S1x1x1 ![] bcast_S_S1x1x1),
    TRef.unary (TRef.of (T := ⟨S_, .f32⟩) main_call1_v1) (TRef.of (T := ⟨S1x1x1, .f32⟩) main_call1_v3) (broadcastInDim S1x1x1 ![] bcast_S_S1x1x1),
    TRef.unary (TRef.of (T := ⟨S2, .i32⟩) main_v9) (TRef.of (T := ⟨S1, .i32⟩) main_call1_v4) (extractStridedSlice S1 ![0] · slices_S2_S1_0),
    TRef.reshape (TRef.of (T := ⟨S1, .i32⟩) main_call1_v4) (TRef.of (T := ⟨S_, .i32⟩) main_call1_v5) (rfl : (.i32 : EltTy) = .i32) shapeCasts_S1_S_,
    TRef.unary (TRef.of (T := ⟨S2, .i32⟩) main_v9) (TRef.of (T := ⟨S1, .i32⟩) main_call1_v6) (extractStridedSlice S1 ![1] · slices_S2_S1_1),
    TRef.reshape (TRef.of (T := ⟨S1, .i32⟩) main_call1_v6) (TRef.of (T := ⟨S_, .i32⟩) main_call1_v7) (rfl : (.i32 : EltTy) = .i32) shapeCasts_S1_S_,
    TRef.nullary (TRef.of (T := ⟨S4096x100x1024, .i64⟩) main_call1_v8) (iotaInDim S4096x100x1024 64 0),
    TRef.nullary (TRef.of (T := ⟨S4096x100x1024, .i64⟩) main_call1_v9) (iotaInDim S4096x100x1024 64 1),
    TRef.nullary (TRef.of (T := ⟨S4096x100x1024, .i64⟩) main_call1_v10) (iotaInDim S4096x100x1024 64 2),
    TRef.nullary (TRef.of (T := ⟨S_, .i64⟩) main_call1_c) (constantI S_ 64 102400#64) ]

/-- @main's operations 31 … 60 of 366 (window `main_part0`). -/
abbrev ops_part0_1 : List (HloOp τ sig (Elt F)) :=
  [ TRef.unary (TRef.of (T := ⟨S_, .i64⟩) main_call1_c) (TRef.of (T := ⟨S4096x100x1024, .i64⟩) main_call1_v11) (broadcastInDim S4096x100x1024 ![] bcast_S_S4096x100x1024),
    TRef.binary (TRef.of (T := ⟨S4096x100x1024, .i64⟩) main_call1_v11) (TRef.of (T := ⟨S4096x100x1024, .i64⟩) main_call1_v8) (TRef.of (T := ⟨S4096x100x1024, .i64⟩) main_call1_v12) muli,
    TRef.nullary (TRef.of (T := ⟨S_, .i64⟩) main_call1_c_0) (constantI S_ 64 1024#64),
    TRef.unary (TRef.of (T := ⟨S_, .i64⟩) main_call1_c_0) (TRef.of (T := ⟨S4096x100x1024, .i64⟩) main_call1_v13) (broadcastInDim S4096x100x1024 ![] bcast_S_S4096x100x1024),
    TRef.binary (TRef.of (T := ⟨S4096x100x1024, .i64⟩) main_call1_v13) (TRef.of (T := ⟨S4096x100x1024, .i64⟩) main_call1_v9) (TRef.of (T := ⟨S4096x100x1024, .i64⟩) main_call1_v14) muli,
    TRef.nullary (TRef.of (T := ⟨S_, .i64⟩) main_call1_c_1) (constantI S_ 64 1#64),
    TRef.unary (TRef.of (T := ⟨S_, .i64⟩) main_call1_c_1) (TRef.of (T := ⟨S4096x100x1024, .i64⟩) main_call1_v15) (broadcastInDim S4096x100x1024 ![] bcast_S_S4096x100x1024),
    TRef.binary (TRef.of (T := ⟨S4096x100x1024, .i64⟩) main_call1_v15) (TRef.of (T := ⟨S4096x100x1024, .i64⟩) main_call1_v10) (TRef.of (T := ⟨S4096x100x1024, .i64⟩) main_call1_v16) muli,
    TRef.binary (TRef.of (T := ⟨S4096x100x1024, .i64⟩) main_call1_v12) (TRef.of (T := ⟨S4096x100x1024, .i64⟩) main_call1_v14) (TRef.of (T := ⟨S4096x100x1024, .i64⟩) main_call1_v17) addi,
    TRef.binary (TRef.of (T := ⟨S4096x100x1024, .i64⟩) main_call1_v17) (TRef.of (T := ⟨S4096x100x1024, .i64⟩) main_call1_v16) (TRef.of (T := ⟨S4096x100x1024, .i64⟩) main_call1_v18) addi,
    TRef.nullary (TRef.of (T := ⟨S_, .i64⟩) main_call1_c_2) (constantI S_ 64 32#64),
    TRef.unary (TRef.of (T := ⟨S_, .i64⟩) main_call1_c_2) (TRef.of (T := ⟨S4096x100x1024, .i64⟩) main_call1_v19) (broadcastInDim S4096x100x1024 ![] bcast_S_S4096x100x1024),
    TRef.binary (TRef.of (T := ⟨S4096x100x1024, .i64⟩) main_call1_v18) (TRef.of (T := ⟨S4096x100x1024, .i64⟩) main_call1_v19) (TRef.of (T := ⟨S4096x100x1024, .i64⟩) main_call1_v20) Host.shrui,
    TRef.unary (TRef.of (T := ⟨S4096x100x1024, .i64⟩) main_call1_v18) (TRef.of (T := ⟨S4096x100x1024, .i32⟩) main_call1_v21) (trunci 32 · natLt_32_64),
    TRef.unary (TRef.of (T := ⟨S4096x100x1024, .i64⟩) main_call1_v20) (TRef.of (T := ⟨S4096x100x1024, .i32⟩) main_call1_v22) (trunci 32 · natLt_32_64),
    TRef.binary (TRef.of (T := ⟨S_, .i32⟩) main_call1_v5) (TRef.of (T := ⟨S_, .i32⟩) main_call1_v7) (TRef.of (T := ⟨S_, .i32⟩) main_call1_call0_v0) xori,
    TRef.nullary (TRef.of (T := ⟨S_, .i32⟩) main_call1_call0_c) (constantI S_ 32 466688986#32),
    TRef.binary (TRef.of (T := ⟨S_, .i32⟩) main_call1_call0_v0) (TRef.of (T := ⟨S_, .i32⟩) main_call1_call0_c) (TRef.of (T := ⟨S_, .i32⟩) main_call1_call0_v1) xori,
    TRef.unary (TRef.of (T := ⟨S_, .i32⟩) main_call1_v5) (TRef.of (T := ⟨S4096x100x1024, .i32⟩) main_call1_call0_v2) (broadcastInDim S4096x100x1024 ![] bcast_S_S4096x100x1024),
    TRef.binary (TRef.of (T := ⟨S4096x100x1024, .i32⟩) main_call1_v22) (TRef.of (T := ⟨S4096x100x1024, .i32⟩) main_call1_call0_v2) (TRef.of (T := ⟨S4096x100x1024, .i32⟩) main_call1_call0_v3) addi,
    TRef.unary (TRef.of (T := ⟨S_, .i32⟩) main_call1_v7) (TRef.of (T := ⟨S4096x100x1024, .i32⟩) main_call1_call0_v4) (broadcastInDim S4096x100x1024 ![] bcast_S_S4096x100x1024),
    TRef.binary (TRef.of (T := ⟨S4096x100x1024, .i32⟩) main_call1_v21) (TRef.of (T := ⟨S4096x100x1024, .i32⟩) main_call1_call0_v4) (TRef.of (T := ⟨S4096x100x1024, .i32⟩) main_call1_call0_v5) addi,
    TRef.binary (TRef.of (T := ⟨S4096x100x1024, .i32⟩) main_call1_call0_v3) (TRef.of (T := ⟨S4096x100x1024, .i32⟩) main_call1_call0_v5) (TRef.of (T := ⟨S4096x100x1024, .i32⟩) main_call1_call0_v6) addi,
    TRef.nullary (TRef.of (T := ⟨S_, .i32⟩) main_call1_call0_c_0) (constantI S_ 32 13#32),
    TRef.unary (TRef.of (T := ⟨S_, .i32⟩) main_call1_call0_c_0) (TRef.of (T := ⟨S4096x100x1024, .i32⟩) main_call1_call0_v7) (broadcastInDim S4096x100x1024 ![] bcast_S_S4096x100x1024),
    TRef.binary (TRef.of (T := ⟨S4096x100x1024, .i32⟩) main_call1_call0_v5) (TRef.of (T := ⟨S4096x100x1024, .i32⟩) main_call1_call0_v7) (TRef.of (T := ⟨S4096x100x1024, .i32⟩) main_call1_call0_v8) Host.shli,
    TRef.nullary (TRef.of (T := ⟨S_, .i32⟩) main_call1_call0_c_1) (constantI S_ 32 19#32),
    TRef.unary (TRef.of (T := ⟨S_, .i32⟩) main_call1_call0_c_1) (TRef.of (T := ⟨S4096x100x1024, .i32⟩) main_call1_call0_v9) (broadcastInDim S4096x100x1024 ![] bcast_S_S4096x100x1024),
    TRef.binary (TRef.of (T := ⟨S4096x100x1024, .i32⟩) main_call1_call0_v5) (TRef.of (T := ⟨S4096x100x1024, .i32⟩) main_call1_call0_v9) (TRef.of (T := ⟨S4096x100x1024, .i32⟩) main_call1_call0_v10) Host.shrui,
    TRef.binary (TRef.of (T := ⟨S4096x100x1024, .i32⟩) main_call1_call0_v8) (TRef.of (T := ⟨S4096x100x1024, .i32⟩) main_call1_call0_v10) (TRef.of (T := ⟨S4096x100x1024, .i32⟩) main_call1_call0_v11) ori ]

/-- @main's operations 61 … 90 of 366 (window `main_part0`). -/
abbrev ops_part0_2 : List (HloOp τ sig (Elt F)) :=
  [ TRef.binary (TRef.of (T := ⟨S4096x100x1024, .i32⟩) main_call1_call0_v6) (TRef.of (T := ⟨S4096x100x1024, .i32⟩) main_call1_call0_v11) (TRef.of (T := ⟨S4096x100x1024, .i32⟩) main_call1_call0_v12) xori,
    TRef.binary (TRef.of (T := ⟨S4096x100x1024, .i32⟩) main_call1_call0_v6) (TRef.of (T := ⟨S4096x100x1024, .i32⟩) main_call1_call0_v12) (TRef.of (T := ⟨S4096x100x1024, .i32⟩) main_call1_call0_v13) addi,
    TRef.nullary (TRef.of (T := ⟨S_, .i32⟩) main_call1_call0_c_2) (constantI S_ 32 15#32),
    TRef.unary (TRef.of (T := ⟨S_, .i32⟩) main_call1_call0_c_2) (TRef.of (T := ⟨S4096x100x1024, .i32⟩) main_call1_call0_v14) (broadcastInDim S4096x100x1024 ![] bcast_S_S4096x100x1024),
    TRef.binary (TRef.of (T := ⟨S4096x100x1024, .i32⟩) main_call1_call0_v12) (TRef.of (T := ⟨S4096x100x1024, .i32⟩) main_call1_call0_v14) (TRef.of (T := ⟨S4096x100x1024, .i32⟩) main_call1_call0_v15) Host.shli,
    TRef.nullary (TRef.of (T := ⟨S_, .i32⟩) main_call1_call0_c_3) (constantI S_ 32 17#32),
    TRef.unary (TRef.of (T := ⟨S_, .i32⟩) main_call1_call0_c_3) (TRef.of (T := ⟨S4096x100x1024, .i32⟩) main_call1_call0_v16) (broadcastInDim S4096x100x1024 ![] bcast_S_S4096x100x1024),
    TRef.binary (TRef.of (T := ⟨S4096x100x1024, .i32⟩) main_call1_call0_v12) (TRef.of (T := ⟨S4096x100x1024, .i32⟩) main_call1_call0_v16) (TRef.of (T := ⟨S4096x100x1024, .i32⟩) main_call1_call0_v17) Host.shrui,
    TRef.binary (TRef.of (T := ⟨S4096x100x1024, .i32⟩) main_call1_call0_v15) (TRef.of (T := ⟨S4096x100x1024, .i32⟩) main_call1_call0_v17) (TRef.of (T := ⟨S4096x100x1024, .i32⟩) main_call1_call0_v18) ori,
    TRef.binary (TRef.of (T := ⟨S4096x100x1024, .i32⟩) main_call1_call0_v13) (TRef.of (T := ⟨S4096x100x1024, .i32⟩) main_call1_call0_v18) (TRef.of (T := ⟨S4096x100x1024, .i32⟩) main_call1_call0_v19) xori,
    TRef.binary (TRef.of (T := ⟨S4096x100x1024, .i32⟩) main_call1_call0_v13) (TRef.of (T := ⟨S4096x100x1024, .i32⟩) main_call1_call0_v19) (TRef.of (T := ⟨S4096x100x1024, .i32⟩) main_call1_call0_v20) addi,
    TRef.nullary (TRef.of (T := ⟨S_, .i32⟩) main_call1_call0_c_4) (constantI S_ 32 26#32),
    TRef.unary (TRef.of (T := ⟨S_, .i32⟩) main_call1_call0_c_4) (TRef.of (T := ⟨S4096x100x1024, .i32⟩) main_call1_call0_v21) (broadcastInDim S4096x100x1024 ![] bcast_S_S4096x100x1024),
    TRef.binary (TRef.of (T := ⟨S4096x100x1024, .i32⟩) main_call1_call0_v19) (TRef.of (T := ⟨S4096x100x1024, .i32⟩) main_call1_call0_v21) (TRef.of (T := ⟨S4096x100x1024, .i32⟩) main_call1_call0_v22) Host.shli,
    TRef.nullary (TRef.of (T := ⟨S_, .i32⟩) main_call1_call0_c_5) (constantI S_ 32 6#32),
    TRef.unary (TRef.of (T := ⟨S_, .i32⟩) main_call1_call0_c_5) (TRef.of (T := ⟨S4096x100x1024, .i32⟩) main_call1_call0_v23) (broadcastInDim S4096x100x1024 ![] bcast_S_S4096x100x1024),
    TRef.binary (TRef.of (T := ⟨S4096x100x1024, .i32⟩) main_call1_call0_v19) (TRef.of (T := ⟨S4096x100x1024, .i32⟩) main_call1_call0_v23) (TRef.of (T := ⟨S4096x100x1024, .i32⟩) main_call1_call0_v24) Host.shrui,
    TRef.binary (TRef.of (T := ⟨S4096x100x1024, .i32⟩) main_call1_call0_v22) (TRef.of (T := ⟨S4096x100x1024, .i32⟩) main_call1_call0_v24) (TRef.of (T := ⟨S4096x100x1024, .i32⟩) main_call1_call0_v25) ori,
    TRef.binary (TRef.of (T := ⟨S4096x100x1024, .i32⟩) main_call1_call0_v20) (TRef.of (T := ⟨S4096x100x1024, .i32⟩) main_call1_call0_v25) (TRef.of (T := ⟨S4096x100x1024, .i32⟩) main_call1_call0_v26) xori,
    TRef.binary (TRef.of (T := ⟨S4096x100x1024, .i32⟩) main_call1_call0_v20) (TRef.of (T := ⟨S4096x100x1024, .i32⟩) main_call1_call0_v26) (TRef.of (T := ⟨S4096x100x1024, .i32⟩) main_call1_call0_v27) addi,
    TRef.nullary (TRef.of (T := ⟨S_, .i32⟩) main_call1_call0_c_6) (constantI S_ 32 6#32),
    TRef.unary (TRef.of (T := ⟨S_, .i32⟩) main_call1_call0_c_6) (TRef.of (T := ⟨S4096x100x1024, .i32⟩) main_call1_call0_v28) (broadcastInDim S4096x100x1024 ![] bcast_S_S4096x100x1024),
    TRef.binary (TRef.of (T := ⟨S4096x100x1024, .i32⟩) main_call1_call0_v26) (TRef.of (T := ⟨S4096x100x1024, .i32⟩) main_call1_call0_v28) (TRef.of (T := ⟨S4096x100x1024, .i32⟩) main_call1_call0_v29) Host.shli,
    TRef.nullary (TRef.of (T := ⟨S_, .i32⟩) main_call1_call0_c_7) (constantI S_ 32 26#32),
    TRef.unary (TRef.of (T := ⟨S_, .i32⟩) main_call1_call0_c_7) (TRef.of (T := ⟨S4096x100x1024, .i32⟩) main_call1_call0_v30) (broadcastInDim S4096x100x1024 ![] bcast_S_S4096x100x1024),
    TRef.binary (TRef.of (T := ⟨S4096x100x1024, .i32⟩) main_call1_call0_v26) (TRef.of (T := ⟨S4096x100x1024, .i32⟩) main_call1_call0_v30) (TRef.of (T := ⟨S4096x100x1024, .i32⟩) main_call1_call0_v31) Host.shrui,
    TRef.binary (TRef.of (T := ⟨S4096x100x1024, .i32⟩) main_call1_call0_v29) (TRef.of (T := ⟨S4096x100x1024, .i32⟩) main_call1_call0_v31) (TRef.of (T := ⟨S4096x100x1024, .i32⟩) main_call1_call0_v32) ori,
    TRef.binary (TRef.of (T := ⟨S4096x100x1024, .i32⟩) main_call1_call0_v27) (TRef.of (T := ⟨S4096x100x1024, .i32⟩) main_call1_call0_v32) (TRef.of (T := ⟨S4096x100x1024, .i32⟩) main_call1_call0_v33) xori,
    TRef.unary (TRef.of (T := ⟨S_, .i32⟩) main_call1_v7) (TRef.of (T := ⟨S4096x100x1024, .i32⟩) main_call1_call0_v34) (broadcastInDim S4096x100x1024 ![] bcast_S_S4096x100x1024),
    TRef.binary (TRef.of (T := ⟨S4096x100x1024, .i32⟩) main_call1_call0_v27) (TRef.of (T := ⟨S4096x100x1024, .i32⟩) main_call1_call0_v34) (TRef.of (T := ⟨S4096x100x1024, .i32⟩) main_call1_call0_v35) addi ]

/-- @main's operations 91 … 120 of 366 (window `main_part0`). -/
abbrev ops_part0_3 : List (HloOp τ sig (Elt F)) :=
  [ TRef.unary (TRef.of (T := ⟨S_, .i32⟩) main_call1_call0_v1) (TRef.of (T := ⟨S4096x100x1024, .i32⟩) main_call1_call0_v36) (broadcastInDim S4096x100x1024 ![] bcast_S_S4096x100x1024),
    TRef.binary (TRef.of (T := ⟨S4096x100x1024, .i32⟩) main_call1_call0_v33) (TRef.of (T := ⟨S4096x100x1024, .i32⟩) main_call1_call0_v36) (TRef.of (T := ⟨S4096x100x1024, .i32⟩) main_call1_call0_v37) addi,
    TRef.nullary (TRef.of (T := ⟨S_, .i32⟩) main_call1_call0_c_8) (constantI S_ 32 1#32),
    TRef.unary (TRef.of (T := ⟨S_, .i32⟩) main_call1_call0_c_8) (TRef.of (T := ⟨S4096x100x1024, .i32⟩) main_call1_call0_v38) (broadcastInDim S4096x100x1024 ![] bcast_S_S4096x100x1024),
    TRef.binary (TRef.of (T := ⟨S4096x100x1024, .i32⟩) main_call1_call0_v37) (TRef.of (T := ⟨S4096x100x1024, .i32⟩) main_call1_call0_v38) (TRef.of (T := ⟨S4096x100x1024, .i32⟩) main_call1_call0_v39) addi,
    TRef.binary (TRef.of (T := ⟨S4096x100x1024, .i32⟩) main_call1_call0_v35) (TRef.of (T := ⟨S4096x100x1024, .i32⟩) main_call1_call0_v39) (TRef.of (T := ⟨S4096x100x1024, .i32⟩) main_call1_call0_v40) addi,
    TRef.nullary (TRef.of (T := ⟨S_, .i32⟩) main_call1_call0_c_9) (constantI S_ 32 17#32),
    TRef.unary (TRef.of (T := ⟨S_, .i32⟩) main_call1_call0_c_9) (TRef.of (T := ⟨S4096x100x1024, .i32⟩) main_call1_call0_v41) (broadcastInDim S4096x100x1024 ![] bcast_S_S4096x100x1024),
    TRef.binary (TRef.of (T := ⟨S4096x100x1024, .i32⟩) main_call1_call0_v39) (TRef.of (T := ⟨S4096x100x1024, .i32⟩) main_call1_call0_v41) (TRef.of (T := ⟨S4096x100x1024, .i32⟩) main_call1_call0_v42) Host.shli,
    TRef.nullary (TRef.of (T := ⟨S_, .i32⟩) main_call1_call0_c_10) (constantI S_ 32 15#32),
    TRef.unary (TRef.of (T := ⟨S_, .i32⟩) main_call1_call0_c_10) (TRef.of (T := ⟨S4096x100x1024, .i32⟩) main_call1_call0_v43) (broadcastInDim S4096x100x1024 ![] bcast_S_S4096x100x1024),
    TRef.binary (TRef.of (T := ⟨S4096x100x1024, .i32⟩) main_call1_call0_v39) (TRef.of (T := ⟨S4096x100x1024, .i32⟩) main_call1_call0_v43) (TRef.of (T := ⟨S4096x100x1024, .i32⟩) main_call1_call0_v44) Host.shrui,
    TRef.binary (TRef.of (T := ⟨S4096x100x1024, .i32⟩) main_call1_call0_v42) (TRef.of (T := ⟨S4096x100x1024, .i32⟩) main_call1_call0_v44) (TRef.of (T := ⟨S4096x100x1024, .i32⟩) main_call1_call0_v45) ori,
    TRef.binary (TRef.of (T := ⟨S4096x100x1024, .i32⟩) main_call1_call0_v40) (TRef.of (T := ⟨S4096x100x1024, .i32⟩) main_call1_call0_v45) (TRef.of (T := ⟨S4096x100x1024, .i32⟩) main_call1_call0_v46) xori,
    TRef.binary (TRef.of (T := ⟨S4096x100x1024, .i32⟩) main_call1_call0_v40) (TRef.of (T := ⟨S4096x100x1024, .i32⟩) main_call1_call0_v46) (TRef.of (T := ⟨S4096x100x1024, .i32⟩) main_call1_call0_v47) addi,
    TRef.nullary (TRef.of (T := ⟨S_, .i32⟩) main_call1_call0_c_11) (constantI S_ 32 29#32),
    TRef.unary (TRef.of (T := ⟨S_, .i32⟩) main_call1_call0_c_11) (TRef.of (T := ⟨S4096x100x1024, .i32⟩) main_call1_call0_v48) (broadcastInDim S4096x100x1024 ![] bcast_S_S4096x100x1024),
    TRef.binary (TRef.of (T := ⟨S4096x100x1024, .i32⟩) main_call1_call0_v46) (TRef.of (T := ⟨S4096x100x1024, .i32⟩) main_call1_call0_v48) (TRef.of (T := ⟨S4096x100x1024, .i32⟩) main_call1_call0_v49) Host.shli,
    TRef.nullary (TRef.of (T := ⟨S_, .i32⟩) main_call1_call0_c_12) (constantI S_ 32 3#32),
    TRef.unary (TRef.of (T := ⟨S_, .i32⟩) main_call1_call0_c_12) (TRef.of (T := ⟨S4096x100x1024, .i32⟩) main_call1_call0_v50) (broadcastInDim S4096x100x1024 ![] bcast_S_S4096x100x1024),
    TRef.binary (TRef.of (T := ⟨S4096x100x1024, .i32⟩) main_call1_call0_v46) (TRef.of (T := ⟨S4096x100x1024, .i32⟩) main_call1_call0_v50) (TRef.of (T := ⟨S4096x100x1024, .i32⟩) main_call1_call0_v51) Host.shrui,
    TRef.binary (TRef.of (T := ⟨S4096x100x1024, .i32⟩) main_call1_call0_v49) (TRef.of (T := ⟨S4096x100x1024, .i32⟩) main_call1_call0_v51) (TRef.of (T := ⟨S4096x100x1024, .i32⟩) main_call1_call0_v52) ori,
    TRef.binary (TRef.of (T := ⟨S4096x100x1024, .i32⟩) main_call1_call0_v47) (TRef.of (T := ⟨S4096x100x1024, .i32⟩) main_call1_call0_v52) (TRef.of (T := ⟨S4096x100x1024, .i32⟩) main_call1_call0_v53) xori,
    TRef.binary (TRef.of (T := ⟨S4096x100x1024, .i32⟩) main_call1_call0_v47) (TRef.of (T := ⟨S4096x100x1024, .i32⟩) main_call1_call0_v53) (TRef.of (T := ⟨S4096x100x1024, .i32⟩) main_call1_call0_v54) addi,
    TRef.nullary (TRef.of (T := ⟨S_, .i32⟩) main_call1_call0_c_13) (constantI S_ 32 16#32),
    TRef.unary (TRef.of (T := ⟨S_, .i32⟩) main_call1_call0_c_13) (TRef.of (T := ⟨S4096x100x1024, .i32⟩) main_call1_call0_v55) (broadcastInDim S4096x100x1024 ![] bcast_S_S4096x100x1024),
    TRef.binary (TRef.of (T := ⟨S4096x100x1024, .i32⟩) main_call1_call0_v53) (TRef.of (T := ⟨S4096x100x1024, .i32⟩) main_call1_call0_v55) (TRef.of (T := ⟨S4096x100x1024, .i32⟩) main_call1_call0_v56) Host.shli,
    TRef.nullary (TRef.of (T := ⟨S_, .i32⟩) main_call1_call0_c_14) (constantI S_ 32 16#32),
    TRef.unary (TRef.of (T := ⟨S_, .i32⟩) main_call1_call0_c_14) (TRef.of (T := ⟨S4096x100x1024, .i32⟩) main_call1_call0_v57) (broadcastInDim S4096x100x1024 ![] bcast_S_S4096x100x1024),
    TRef.binary (TRef.of (T := ⟨S4096x100x1024, .i32⟩) main_call1_call0_v53) (TRef.of (T := ⟨S4096x100x1024, .i32⟩) main_call1_call0_v57) (TRef.of (T := ⟨S4096x100x1024, .i32⟩) main_call1_call0_v58) Host.shrui ]

/-- @main's operations 121 … 150 of 366 (window `main_part0`). -/
abbrev ops_part0_4 : List (HloOp τ sig (Elt F)) :=
  [ TRef.binary (TRef.of (T := ⟨S4096x100x1024, .i32⟩) main_call1_call0_v56) (TRef.of (T := ⟨S4096x100x1024, .i32⟩) main_call1_call0_v58) (TRef.of (T := ⟨S4096x100x1024, .i32⟩) main_call1_call0_v59) ori,
    TRef.binary (TRef.of (T := ⟨S4096x100x1024, .i32⟩) main_call1_call0_v54) (TRef.of (T := ⟨S4096x100x1024, .i32⟩) main_call1_call0_v59) (TRef.of (T := ⟨S4096x100x1024, .i32⟩) main_call1_call0_v60) xori,
    TRef.binary (TRef.of (T := ⟨S4096x100x1024, .i32⟩) main_call1_call0_v54) (TRef.of (T := ⟨S4096x100x1024, .i32⟩) main_call1_call0_v60) (TRef.of (T := ⟨S4096x100x1024, .i32⟩) main_call1_call0_v61) addi,
    TRef.nullary (TRef.of (T := ⟨S_, .i32⟩) main_call1_call0_c_15) (constantI S_ 32 24#32),
    TRef.unary (TRef.of (T := ⟨S_, .i32⟩) main_call1_call0_c_15) (TRef.of (T := ⟨S4096x100x1024, .i32⟩) main_call1_call0_v62) (broadcastInDim S4096x100x1024 ![] bcast_S_S4096x100x1024),
    TRef.binary (TRef.of (T := ⟨S4096x100x1024, .i32⟩) main_call1_call0_v60) (TRef.of (T := ⟨S4096x100x1024, .i32⟩) main_call1_call0_v62) (TRef.of (T := ⟨S4096x100x1024, .i32⟩) main_call1_call0_v63) Host.shli,
    TRef.nullary (TRef.of (T := ⟨S_, .i32⟩) main_call1_call0_c_16) (constantI S_ 32 8#32),
    TRef.unary (TRef.of (T := ⟨S_, .i32⟩) main_call1_call0_c_16) (TRef.of (T := ⟨S4096x100x1024, .i32⟩) main_call1_call0_v64) (broadcastInDim S4096x100x1024 ![] bcast_S_S4096x100x1024),
    TRef.binary (TRef.of (T := ⟨S4096x100x1024, .i32⟩) main_call1_call0_v60) (TRef.of (T := ⟨S4096x100x1024, .i32⟩) main_call1_call0_v64) (TRef.of (T := ⟨S4096x100x1024, .i32⟩) main_call1_call0_v65) Host.shrui,
    TRef.binary (TRef.of (T := ⟨S4096x100x1024, .i32⟩) main_call1_call0_v63) (TRef.of (T := ⟨S4096x100x1024, .i32⟩) main_call1_call0_v65) (TRef.of (T := ⟨S4096x100x1024, .i32⟩) main_call1_call0_v66) ori,
    TRef.binary (TRef.of (T := ⟨S4096x100x1024, .i32⟩) main_call1_call0_v61) (TRef.of (T := ⟨S4096x100x1024, .i32⟩) main_call1_call0_v66) (TRef.of (T := ⟨S4096x100x1024, .i32⟩) main_call1_call0_v67) xori,
    TRef.unary (TRef.of (T := ⟨S_, .i32⟩) main_call1_call0_v1) (TRef.of (T := ⟨S4096x100x1024, .i32⟩) main_call1_call0_v68) (broadcastInDim S4096x100x1024 ![] bcast_S_S4096x100x1024),
    TRef.binary (TRef.of (T := ⟨S4096x100x1024, .i32⟩) main_call1_call0_v61) (TRef.of (T := ⟨S4096x100x1024, .i32⟩) main_call1_call0_v68) (TRef.of (T := ⟨S4096x100x1024, .i32⟩) main_call1_call0_v69) addi,
    TRef.unary (TRef.of (T := ⟨S_, .i32⟩) main_call1_v5) (TRef.of (T := ⟨S4096x100x1024, .i32⟩) main_call1_call0_v70) (broadcastInDim S4096x100x1024 ![] bcast_S_S4096x100x1024),
    TRef.binary (TRef.of (T := ⟨S4096x100x1024, .i32⟩) main_call1_call0_v67) (TRef.of (T := ⟨S4096x100x1024, .i32⟩) main_call1_call0_v70) (TRef.of (T := ⟨S4096x100x1024, .i32⟩) main_call1_call0_v71) addi,
    TRef.nullary (TRef.of (T := ⟨S_, .i32⟩) main_call1_call0_c_17) (constantI S_ 32 2#32),
    TRef.unary (TRef.of (T := ⟨S_, .i32⟩) main_call1_call0_c_17) (TRef.of (T := ⟨S4096x100x1024, .i32⟩) main_call1_call0_v72) (broadcastInDim S4096x100x1024 ![] bcast_S_S4096x100x1024),
    TRef.binary (TRef.of (T := ⟨S4096x100x1024, .i32⟩) main_call1_call0_v71) (TRef.of (T := ⟨S4096x100x1024, .i32⟩) main_call1_call0_v72) (TRef.of (T := ⟨S4096x100x1024, .i32⟩) main_call1_call0_v73) addi,
    TRef.binary (TRef.of (T := ⟨S4096x100x1024, .i32⟩) main_call1_call0_v69) (TRef.of (T := ⟨S4096x100x1024, .i32⟩) main_call1_call0_v73) (TRef.of (T := ⟨S4096x100x1024, .i32⟩) main_call1_call0_v74) addi,
    TRef.nullary (TRef.of (T := ⟨S_, .i32⟩) main_call1_call0_c_18) (constantI S_ 32 13#32),
    TRef.unary (TRef.of (T := ⟨S_, .i32⟩) main_call1_call0_c_18) (TRef.of (T := ⟨S4096x100x1024, .i32⟩) main_call1_call0_v75) (broadcastInDim S4096x100x1024 ![] bcast_S_S4096x100x1024),
    TRef.binary (TRef.of (T := ⟨S4096x100x1024, .i32⟩) main_call1_call0_v73) (TRef.of (T := ⟨S4096x100x1024, .i32⟩) main_call1_call0_v75) (TRef.of (T := ⟨S4096x100x1024, .i32⟩) main_call1_call0_v76) Host.shli,
    TRef.nullary (TRef.of (T := ⟨S_, .i32⟩) main_call1_call0_c_19) (constantI S_ 32 19#32),
    TRef.unary (TRef.of (T := ⟨S_, .i32⟩) main_call1_call0_c_19) (TRef.of (T := ⟨S4096x100x1024, .i32⟩) main_call1_call0_v77) (broadcastInDim S4096x100x1024 ![] bcast_S_S4096x100x1024),
    TRef.binary (TRef.of (T := ⟨S4096x100x1024, .i32⟩) main_call1_call0_v73) (TRef.of (T := ⟨S4096x100x1024, .i32⟩) main_call1_call0_v77) (TRef.of (T := ⟨S4096x100x1024, .i32⟩) main_call1_call0_v78) Host.shrui,
    TRef.binary (TRef.of (T := ⟨S4096x100x1024, .i32⟩) main_call1_call0_v76) (TRef.of (T := ⟨S4096x100x1024, .i32⟩) main_call1_call0_v78) (TRef.of (T := ⟨S4096x100x1024, .i32⟩) main_call1_call0_v79) ori,
    TRef.binary (TRef.of (T := ⟨S4096x100x1024, .i32⟩) main_call1_call0_v74) (TRef.of (T := ⟨S4096x100x1024, .i32⟩) main_call1_call0_v79) (TRef.of (T := ⟨S4096x100x1024, .i32⟩) main_call1_call0_v80) xori,
    TRef.binary (TRef.of (T := ⟨S4096x100x1024, .i32⟩) main_call1_call0_v74) (TRef.of (T := ⟨S4096x100x1024, .i32⟩) main_call1_call0_v80) (TRef.of (T := ⟨S4096x100x1024, .i32⟩) main_call1_call0_v81) addi,
    TRef.nullary (TRef.of (T := ⟨S_, .i32⟩) main_call1_call0_c_20) (constantI S_ 32 15#32),
    TRef.unary (TRef.of (T := ⟨S_, .i32⟩) main_call1_call0_c_20) (TRef.of (T := ⟨S4096x100x1024, .i32⟩) main_call1_call0_v82) (broadcastInDim S4096x100x1024 ![] bcast_S_S4096x100x1024) ]

/-- @main's operations 151 … 180 of 366 (window `main_part0`). -/
abbrev ops_part0_5 : List (HloOp τ sig (Elt F)) :=
  [ TRef.binary (TRef.of (T := ⟨S4096x100x1024, .i32⟩) main_call1_call0_v80) (TRef.of (T := ⟨S4096x100x1024, .i32⟩) main_call1_call0_v82) (TRef.of (T := ⟨S4096x100x1024, .i32⟩) main_call1_call0_v83) Host.shli,
    TRef.nullary (TRef.of (T := ⟨S_, .i32⟩) main_call1_call0_c_21) (constantI S_ 32 17#32),
    TRef.unary (TRef.of (T := ⟨S_, .i32⟩) main_call1_call0_c_21) (TRef.of (T := ⟨S4096x100x1024, .i32⟩) main_call1_call0_v84) (broadcastInDim S4096x100x1024 ![] bcast_S_S4096x100x1024),
    TRef.binary (TRef.of (T := ⟨S4096x100x1024, .i32⟩) main_call1_call0_v80) (TRef.of (T := ⟨S4096x100x1024, .i32⟩) main_call1_call0_v84) (TRef.of (T := ⟨S4096x100x1024, .i32⟩) main_call1_call0_v85) Host.shrui,
    TRef.binary (TRef.of (T := ⟨S4096x100x1024, .i32⟩) main_call1_call0_v83) (TRef.of (T := ⟨S4096x100x1024, .i32⟩) main_call1_call0_v85) (TRef.of (T := ⟨S4096x100x1024, .i32⟩) main_call1_call0_v86) ori,
    TRef.binary (TRef.of (T := ⟨S4096x100x1024, .i32⟩) main_call1_call0_v81) (TRef.of (T := ⟨S4096x100x1024, .i32⟩) main_call1_call0_v86) (TRef.of (T := ⟨S4096x100x1024, .i32⟩) main_call1_call0_v87) xori,
    TRef.binary (TRef.of (T := ⟨S4096x100x1024, .i32⟩) main_call1_call0_v81) (TRef.of (T := ⟨S4096x100x1024, .i32⟩) main_call1_call0_v87) (TRef.of (T := ⟨S4096x100x1024, .i32⟩) main_call1_call0_v88) addi,
    TRef.nullary (TRef.of (T := ⟨S_, .i32⟩) main_call1_call0_c_22) (constantI S_ 32 26#32),
    TRef.unary (TRef.of (T := ⟨S_, .i32⟩) main_call1_call0_c_22) (TRef.of (T := ⟨S4096x100x1024, .i32⟩) main_call1_call0_v89) (broadcastInDim S4096x100x1024 ![] bcast_S_S4096x100x1024),
    TRef.binary (TRef.of (T := ⟨S4096x100x1024, .i32⟩) main_call1_call0_v87) (TRef.of (T := ⟨S4096x100x1024, .i32⟩) main_call1_call0_v89) (TRef.of (T := ⟨S4096x100x1024, .i32⟩) main_call1_call0_v90) Host.shli,
    TRef.nullary (TRef.of (T := ⟨S_, .i32⟩) main_call1_call0_c_23) (constantI S_ 32 6#32),
    TRef.unary (TRef.of (T := ⟨S_, .i32⟩) main_call1_call0_c_23) (TRef.of (T := ⟨S4096x100x1024, .i32⟩) main_call1_call0_v91) (broadcastInDim S4096x100x1024 ![] bcast_S_S4096x100x1024),
    TRef.binary (TRef.of (T := ⟨S4096x100x1024, .i32⟩) main_call1_call0_v87) (TRef.of (T := ⟨S4096x100x1024, .i32⟩) main_call1_call0_v91) (TRef.of (T := ⟨S4096x100x1024, .i32⟩) main_call1_call0_v92) Host.shrui,
    TRef.binary (TRef.of (T := ⟨S4096x100x1024, .i32⟩) main_call1_call0_v90) (TRef.of (T := ⟨S4096x100x1024, .i32⟩) main_call1_call0_v92) (TRef.of (T := ⟨S4096x100x1024, .i32⟩) main_call1_call0_v93) ori,
    TRef.binary (TRef.of (T := ⟨S4096x100x1024, .i32⟩) main_call1_call0_v88) (TRef.of (T := ⟨S4096x100x1024, .i32⟩) main_call1_call0_v93) (TRef.of (T := ⟨S4096x100x1024, .i32⟩) main_call1_call0_v94) xori,
    TRef.binary (TRef.of (T := ⟨S4096x100x1024, .i32⟩) main_call1_call0_v88) (TRef.of (T := ⟨S4096x100x1024, .i32⟩) main_call1_call0_v94) (TRef.of (T := ⟨S4096x100x1024, .i32⟩) main_call1_call0_v95) addi,
    TRef.nullary (TRef.of (T := ⟨S_, .i32⟩) main_call1_call0_c_24) (constantI S_ 32 6#32),
    TRef.unary (TRef.of (T := ⟨S_, .i32⟩) main_call1_call0_c_24) (TRef.of (T := ⟨S4096x100x1024, .i32⟩) main_call1_call0_v96) (broadcastInDim S4096x100x1024 ![] bcast_S_S4096x100x1024),
    TRef.binary (TRef.of (T := ⟨S4096x100x1024, .i32⟩) main_call1_call0_v94) (TRef.of (T := ⟨S4096x100x1024, .i32⟩) main_call1_call0_v96) (TRef.of (T := ⟨S4096x100x1024, .i32⟩) main_call1_call0_v97) Host.shli,
    TRef.nullary (TRef.of (T := ⟨S_, .i32⟩) main_call1_call0_c_25) (constantI S_ 32 26#32),
    TRef.unary (TRef.of (T := ⟨S_, .i32⟩) main_call1_call0_c_25) (TRef.of (T := ⟨S4096x100x1024, .i32⟩) main_call1_call0_v98) (broadcastInDim S4096x100x1024 ![] bcast_S_S4096x100x1024),
    TRef.binary (TRef.of (T := ⟨S4096x100x1024, .i32⟩) main_call1_call0_v94) (TRef.of (T := ⟨S4096x100x1024, .i32⟩) main_call1_call0_v98) (TRef.of (T := ⟨S4096x100x1024, .i32⟩) main_call1_call0_v99) Host.shrui,
    TRef.binary (TRef.of (T := ⟨S4096x100x1024, .i32⟩) main_call1_call0_v97) (TRef.of (T := ⟨S4096x100x1024, .i32⟩) main_call1_call0_v99) (TRef.of (T := ⟨S4096x100x1024, .i32⟩) main_call1_call0_v100) ori,
    TRef.binary (TRef.of (T := ⟨S4096x100x1024, .i32⟩) main_call1_call0_v95) (TRef.of (T := ⟨S4096x100x1024, .i32⟩) main_call1_call0_v100) (TRef.of (T := ⟨S4096x100x1024, .i32⟩) main_call1_call0_v101) xori,
    TRef.unary (TRef.of (T := ⟨S_, .i32⟩) main_call1_v5) (TRef.of (T := ⟨S4096x100x1024, .i32⟩) main_call1_call0_v102) (broadcastInDim S4096x100x1024 ![] bcast_S_S4096x100x1024),
    TRef.binary (TRef.of (T := ⟨S4096x100x1024, .i32⟩) main_call1_call0_v95) (TRef.of (T := ⟨S4096x100x1024, .i32⟩) main_call1_call0_v102) (TRef.of (T := ⟨S4096x100x1024, .i32⟩) main_call1_call0_v103) addi,
    TRef.unary (TRef.of (T := ⟨S_, .i32⟩) main_call1_v7) (TRef.of (T := ⟨S4096x100x1024, .i32⟩) main_call1_call0_v104) (broadcastInDim S4096x100x1024 ![] bcast_S_S4096x100x1024),
    TRef.binary (TRef.of (T := ⟨S4096x100x1024, .i32⟩) main_call1_call0_v101) (TRef.of (T := ⟨S4096x100x1024, .i32⟩) main_call1_call0_v104) (TRef.of (T := ⟨S4096x100x1024, .i32⟩) main_call1_call0_v105) addi,
    TRef.nullary (TRef.of (T := ⟨S_, .i32⟩) main_call1_call0_c_26) (constantI S_ 32 3#32),
    TRef.unary (TRef.of (T := ⟨S_, .i32⟩) main_call1_call0_c_26) (TRef.of (T := ⟨S4096x100x1024, .i32⟩) main_call1_call0_v106) (broadcastInDim S4096x100x1024 ![] bcast_S_S4096x100x1024) ]

/-- @main's operations 181 … 210 of 366 (window `main_part0`). -/
abbrev ops_part0_6 : List (HloOp τ sig (Elt F)) :=
  [ TRef.binary (TRef.of (T := ⟨S4096x100x1024, .i32⟩) main_call1_call0_v105) (TRef.of (T := ⟨S4096x100x1024, .i32⟩) main_call1_call0_v106) (TRef.of (T := ⟨S4096x100x1024, .i32⟩) main_call1_call0_v107) addi,
    TRef.binary (TRef.of (T := ⟨S4096x100x1024, .i32⟩) main_call1_call0_v103) (TRef.of (T := ⟨S4096x100x1024, .i32⟩) main_call1_call0_v107) (TRef.of (T := ⟨S4096x100x1024, .i32⟩) main_call1_call0_v108) addi,
    TRef.nullary (TRef.of (T := ⟨S_, .i32⟩) main_call1_call0_c_27) (constantI S_ 32 17#32),
    TRef.unary (TRef.of (T := ⟨S_, .i32⟩) main_call1_call0_c_27) (TRef.of (T := ⟨S4096x100x1024, .i32⟩) main_call1_call0_v109) (broadcastInDim S4096x100x1024 ![] bcast_S_S4096x100x1024),
    TRef.binary (TRef.of (T := ⟨S4096x100x1024, .i32⟩) main_call1_call0_v107) (TRef.of (T := ⟨S4096x100x1024, .i32⟩) main_call1_call0_v109) (TRef.of (T := ⟨S4096x100x1024, .i32⟩) main_call1_call0_v110) Host.shli,
    TRef.nullary (TRef.of (T := ⟨S_, .i32⟩) main_call1_call0_c_28) (constantI S_ 32 15#32),
    TRef.unary (TRef.of (T := ⟨S_, .i32⟩) main_call1_call0_c_28) (TRef.of (T := ⟨S4096x100x1024, .i32⟩) main_call1_call0_v111) (broadcastInDim S4096x100x1024 ![] bcast_S_S4096x100x1024),
    TRef.binary (TRef.of (T := ⟨S4096x100x1024, .i32⟩) main_call1_call0_v107) (TRef.of (T := ⟨S4096x100x1024, .i32⟩) main_call1_call0_v111) (TRef.of (T := ⟨S4096x100x1024, .i32⟩) main_call1_call0_v112) Host.shrui,
    TRef.binary (TRef.of (T := ⟨S4096x100x1024, .i32⟩) main_call1_call0_v110) (TRef.of (T := ⟨S4096x100x1024, .i32⟩) main_call1_call0_v112) (TRef.of (T := ⟨S4096x100x1024, .i32⟩) main_call1_call0_v113) ori,
    TRef.binary (TRef.of (T := ⟨S4096x100x1024, .i32⟩) main_call1_call0_v108) (TRef.of (T := ⟨S4096x100x1024, .i32⟩) main_call1_call0_v113) (TRef.of (T := ⟨S4096x100x1024, .i32⟩) main_call1_call0_v114) xori,
    TRef.binary (TRef.of (T := ⟨S4096x100x1024, .i32⟩) main_call1_call0_v108) (TRef.of (T := ⟨S4096x100x1024, .i32⟩) main_call1_call0_v114) (TRef.of (T := ⟨S4096x100x1024, .i32⟩) main_call1_call0_v115) addi,
    TRef.nullary (TRef.of (T := ⟨S_, .i32⟩) main_call1_call0_c_29) (constantI S_ 32 29#32),
    TRef.unary (TRef.of (T := ⟨S_, .i32⟩) main_call1_call0_c_29) (TRef.of (T := ⟨S4096x100x1024, .i32⟩) main_call1_call0_v116) (broadcastInDim S4096x100x1024 ![] bcast_S_S4096x100x1024),
    TRef.binary (TRef.of (T := ⟨S4096x100x1024, .i32⟩) main_call1_call0_v114) (TRef.of (T := ⟨S4096x100x1024, .i32⟩) main_call1_call0_v116) (TRef.of (T := ⟨S4096x100x1024, .i32⟩) main_call1_call0_v117) Host.shli,
    TRef.nullary (TRef.of (T := ⟨S_, .i32⟩) main_call1_call0_c_30) (constantI S_ 32 3#32),
    TRef.unary (TRef.of (T := ⟨S_, .i32⟩) main_call1_call0_c_30) (TRef.of (T := ⟨S4096x100x1024, .i32⟩) main_call1_call0_v118) (broadcastInDim S4096x100x1024 ![] bcast_S_S4096x100x1024),
    TRef.binary (TRef.of (T := ⟨S4096x100x1024, .i32⟩) main_call1_call0_v114) (TRef.of (T := ⟨S4096x100x1024, .i32⟩) main_call1_call0_v118) (TRef.of (T := ⟨S4096x100x1024, .i32⟩) main_call1_call0_v119) Host.shrui,
    TRef.binary (TRef.of (T := ⟨S4096x100x1024, .i32⟩) main_call1_call0_v117) (TRef.of (T := ⟨S4096x100x1024, .i32⟩) main_call1_call0_v119) (TRef.of (T := ⟨S4096x100x1024, .i32⟩) main_call1_call0_v120) ori,
    TRef.binary (TRef.of (T := ⟨S4096x100x1024, .i32⟩) main_call1_call0_v115) (TRef.of (T := ⟨S4096x100x1024, .i32⟩) main_call1_call0_v120) (TRef.of (T := ⟨S4096x100x1024, .i32⟩) main_call1_call0_v121) xori,
    TRef.binary (TRef.of (T := ⟨S4096x100x1024, .i32⟩) main_call1_call0_v115) (TRef.of (T := ⟨S4096x100x1024, .i32⟩) main_call1_call0_v121) (TRef.of (T := ⟨S4096x100x1024, .i32⟩) main_call1_call0_v122) addi,
    TRef.nullary (TRef.of (T := ⟨S_, .i32⟩) main_call1_call0_c_31) (constantI S_ 32 16#32),
    TRef.unary (TRef.of (T := ⟨S_, .i32⟩) main_call1_call0_c_31) (TRef.of (T := ⟨S4096x100x1024, .i32⟩) main_call1_call0_v123) (broadcastInDim S4096x100x1024 ![] bcast_S_S4096x100x1024),
    TRef.binary (TRef.of (T := ⟨S4096x100x1024, .i32⟩) main_call1_call0_v121) (TRef.of (T := ⟨S4096x100x1024, .i32⟩) main_call1_call0_v123) (TRef.of (T := ⟨S4096x100x1024, .i32⟩) main_call1_call0_v124) Host.shli,
    TRef.nullary (TRef.of (T := ⟨S_, .i32⟩) main_call1_call0_c_32) (constantI S_ 32 16#32),
    TRef.unary (TRef.of (T := ⟨S_, .i32⟩) main_call1_call0_c_32) (TRef.of (T := ⟨S4096x100x1024, .i32⟩) main_call1_call0_v125) (broadcastInDim S4096x100x1024 ![] bcast_S_S4096x100x1024),
    TRef.binary (TRef.of (T := ⟨S4096x100x1024, .i32⟩) main_call1_call0_v121) (TRef.of (T := ⟨S4096x100x1024, .i32⟩) main_call1_call0_v125) (TRef.of (T := ⟨S4096x100x1024, .i32⟩) main_call1_call0_v126) Host.shrui,
    TRef.binary (TRef.of (T := ⟨S4096x100x1024, .i32⟩) main_call1_call0_v124) (TRef.of (T := ⟨S4096x100x1024, .i32⟩) main_call1_call0_v126) (TRef.of (T := ⟨S4096x100x1024, .i32⟩) main_call1_call0_v127) ori,
    TRef.binary (TRef.of (T := ⟨S4096x100x1024, .i32⟩) main_call1_call0_v122) (TRef.of (T := ⟨S4096x100x1024, .i32⟩) main_call1_call0_v127) (TRef.of (T := ⟨S4096x100x1024, .i32⟩) main_call1_call0_v128) xori,
    TRef.binary (TRef.of (T := ⟨S4096x100x1024, .i32⟩) main_call1_call0_v122) (TRef.of (T := ⟨S4096x100x1024, .i32⟩) main_call1_call0_v128) (TRef.of (T := ⟨S4096x100x1024, .i32⟩) main_call1_call0_v129) addi,
    TRef.nullary (TRef.of (T := ⟨S_, .i32⟩) main_call1_call0_c_33) (constantI S_ 32 24#32) ]

/-- @main's operations 211 … 240 of 366 (window `main_part0`). -/
abbrev ops_part0_7 : List (HloOp τ sig (Elt F)) :=
  [ TRef.unary (TRef.of (T := ⟨S_, .i32⟩) main_call1_call0_c_33) (TRef.of (T := ⟨S4096x100x1024, .i32⟩) main_call1_call0_v130) (broadcastInDim S4096x100x1024 ![] bcast_S_S4096x100x1024),
    TRef.binary (TRef.of (T := ⟨S4096x100x1024, .i32⟩) main_call1_call0_v128) (TRef.of (T := ⟨S4096x100x1024, .i32⟩) main_call1_call0_v130) (TRef.of (T := ⟨S4096x100x1024, .i32⟩) main_call1_call0_v131) Host.shli,
    TRef.nullary (TRef.of (T := ⟨S_, .i32⟩) main_call1_call0_c_34) (constantI S_ 32 8#32),
    TRef.unary (TRef.of (T := ⟨S_, .i32⟩) main_call1_call0_c_34) (TRef.of (T := ⟨S4096x100x1024, .i32⟩) main_call1_call0_v132) (broadcastInDim S4096x100x1024 ![] bcast_S_S4096x100x1024),
    TRef.binary (TRef.of (T := ⟨S4096x100x1024, .i32⟩) main_call1_call0_v128) (TRef.of (T := ⟨S4096x100x1024, .i32⟩) main_call1_call0_v132) (TRef.of (T := ⟨S4096x100x1024, .i32⟩) main_call1_call0_v133) Host.shrui,
    TRef.binary (TRef.of (T := ⟨S4096x100x1024, .i32⟩) main_call1_call0_v131) (TRef.of (T := ⟨S4096x100x1024, .i32⟩) main_call1_call0_v133) (TRef.of (T := ⟨S4096x100x1024, .i32⟩) main_call1_call0_v134) ori,
    TRef.binary (TRef.of (T := ⟨S4096x100x1024, .i32⟩) main_call1_call0_v129) (TRef.of (T := ⟨S4096x100x1024, .i32⟩) main_call1_call0_v134) (TRef.of (T := ⟨S4096x100x1024, .i32⟩) main_call1_call0_v135) xori,
    TRef.unary (TRef.of (T := ⟨S_, .i32⟩) main_call1_v7) (TRef.of (T := ⟨S4096x100x1024, .i32⟩) main_call1_call0_v136) (broadcastInDim S4096x100x1024 ![] bcast_S_S4096x100x1024),
    TRef.binary (TRef.of (T := ⟨S4096x100x1024, .i32⟩) main_call1_call0_v129) (TRef.of (T := ⟨S4096x100x1024, .i32⟩) main_call1_call0_v136) (TRef.of (T := ⟨S4096x100x1024, .i32⟩) main_call1_call0_v137) addi,
    TRef.unary (TRef.of (T := ⟨S_, .i32⟩) main_call1_call0_v1) (TRef.of (T := ⟨S4096x100x1024, .i32⟩) main_call1_call0_v138) (broadcastInDim S4096x100x1024 ![] bcast_S_S4096x100x1024),
    TRef.binary (TRef.of (T := ⟨S4096x100x1024, .i32⟩) main_call1_call0_v135) (TRef.of (T := ⟨S4096x100x1024, .i32⟩) main_call1_call0_v138) (TRef.of (T := ⟨S4096x100x1024, .i32⟩) main_call1_call0_v139) addi,
    TRef.nullary (TRef.of (T := ⟨S_, .i32⟩) main_call1_call0_c_35) (constantI S_ 32 4#32),
    TRef.unary (TRef.of (T := ⟨S_, .i32⟩) main_call1_call0_c_35) (TRef.of (T := ⟨S4096x100x1024, .i32⟩) main_call1_call0_v140) (broadcastInDim S4096x100x1024 ![] bcast_S_S4096x100x1024),
    TRef.binary (TRef.of (T := ⟨S4096x100x1024, .i32⟩) main_call1_call0_v139) (TRef.of (T := ⟨S4096x100x1024, .i32⟩) main_call1_call0_v140) (TRef.of (T := ⟨S4096x100x1024, .i32⟩) main_call1_call0_v141) addi,
    TRef.binary (TRef.of (T := ⟨S4096x100x1024, .i32⟩) main_call1_call0_v137) (TRef.of (T := ⟨S4096x100x1024, .i32⟩) main_call1_call0_v141) (TRef.of (T := ⟨S4096x100x1024, .i32⟩) main_call1_call0_v142) addi,
    TRef.nullary (TRef.of (T := ⟨S_, .i32⟩) main_call1_call0_c_36) (constantI S_ 32 13#32),
    TRef.unary (TRef.of (T := ⟨S_, .i32⟩) main_call1_call0_c_36) (TRef.of (T := ⟨S4096x100x1024, .i32⟩) main_call1_call0_v143) (broadcastInDim S4096x100x1024 ![] bcast_S_S4096x100x1024),
    TRef.binary (TRef.of (T := ⟨S4096x100x1024, .i32⟩) main_call1_call0_v141) (TRef.of (T := ⟨S4096x100x1024, .i32⟩) main_call1_call0_v143) (TRef.of (T := ⟨S4096x100x1024, .i32⟩) main_call1_call0_v144) Host.shli,
    TRef.nullary (TRef.of (T := ⟨S_, .i32⟩) main_call1_call0_c_37) (constantI S_ 32 19#32),
    TRef.unary (TRef.of (T := ⟨S_, .i32⟩) main_call1_call0_c_37) (TRef.of (T := ⟨S4096x100x1024, .i32⟩) main_call1_call0_v145) (broadcastInDim S4096x100x1024 ![] bcast_S_S4096x100x1024),
    TRef.binary (TRef.of (T := ⟨S4096x100x1024, .i32⟩) main_call1_call0_v141) (TRef.of (T := ⟨S4096x100x1024, .i32⟩) main_call1_call0_v145) (TRef.of (T := ⟨S4096x100x1024, .i32⟩) main_call1_call0_v146) Host.shrui,
    TRef.binary (TRef.of (T := ⟨S4096x100x1024, .i32⟩) main_call1_call0_v144) (TRef.of (T := ⟨S4096x100x1024, .i32⟩) main_call1_call0_v146) (TRef.of (T := ⟨S4096x100x1024, .i32⟩) main_call1_call0_v147) ori,
    TRef.binary (TRef.of (T := ⟨S4096x100x1024, .i32⟩) main_call1_call0_v142) (TRef.of (T := ⟨S4096x100x1024, .i32⟩) main_call1_call0_v147) (TRef.of (T := ⟨S4096x100x1024, .i32⟩) main_call1_call0_v148) xori,
    TRef.binary (TRef.of (T := ⟨S4096x100x1024, .i32⟩) main_call1_call0_v142) (TRef.of (T := ⟨S4096x100x1024, .i32⟩) main_call1_call0_v148) (TRef.of (T := ⟨S4096x100x1024, .i32⟩) main_call1_call0_v149) addi,
    TRef.nullary (TRef.of (T := ⟨S_, .i32⟩) main_call1_call0_c_38) (constantI S_ 32 15#32),
    TRef.unary (TRef.of (T := ⟨S_, .i32⟩) main_call1_call0_c_38) (TRef.of (T := ⟨S4096x100x1024, .i32⟩) main_call1_call0_v150) (broadcastInDim S4096x100x1024 ![] bcast_S_S4096x100x1024),
    TRef.binary (TRef.of (T := ⟨S4096x100x1024, .i32⟩) main_call1_call0_v148) (TRef.of (T := ⟨S4096x100x1024, .i32⟩) main_call1_call0_v150) (TRef.of (T := ⟨S4096x100x1024, .i32⟩) main_call1_call0_v151) Host.shli,
    TRef.nullary (TRef.of (T := ⟨S_, .i32⟩) main_call1_call0_c_39) (constantI S_ 32 17#32),
    TRef.unary (TRef.of (T := ⟨S_, .i32⟩) main_call1_call0_c_39) (TRef.of (T := ⟨S4096x100x1024, .i32⟩) main_call1_call0_v152) (broadcastInDim S4096x100x1024 ![] bcast_S_S4096x100x1024),
    TRef.binary (TRef.of (T := ⟨S4096x100x1024, .i32⟩) main_call1_call0_v148) (TRef.of (T := ⟨S4096x100x1024, .i32⟩) main_call1_call0_v152) (TRef.of (T := ⟨S4096x100x1024, .i32⟩) main_call1_call0_v153) Host.shrui ]

/-- @main's operations 241 … 270 of 366 (window `main_part0`). -/
abbrev ops_part0_8 : List (HloOp τ sig (Elt F)) :=
  [ TRef.binary (TRef.of (T := ⟨S4096x100x1024, .i32⟩) main_call1_call0_v151) (TRef.of (T := ⟨S4096x100x1024, .i32⟩) main_call1_call0_v153) (TRef.of (T := ⟨S4096x100x1024, .i32⟩) main_call1_call0_v154) ori,
    TRef.binary (TRef.of (T := ⟨S4096x100x1024, .i32⟩) main_call1_call0_v149) (TRef.of (T := ⟨S4096x100x1024, .i32⟩) main_call1_call0_v154) (TRef.of (T := ⟨S4096x100x1024, .i32⟩) main_call1_call0_v155) xori,
    TRef.binary (TRef.of (T := ⟨S4096x100x1024, .i32⟩) main_call1_call0_v149) (TRef.of (T := ⟨S4096x100x1024, .i32⟩) main_call1_call0_v155) (TRef.of (T := ⟨S4096x100x1024, .i32⟩) main_call1_call0_v156) addi,
    TRef.nullary (TRef.of (T := ⟨S_, .i32⟩) main_call1_call0_c_40) (constantI S_ 32 26#32),
    TRef.unary (TRef.of (T := ⟨S_, .i32⟩) main_call1_call0_c_40) (TRef.of (T := ⟨S4096x100x1024, .i32⟩) main_call1_call0_v157) (broadcastInDim S4096x100x1024 ![] bcast_S_S4096x100x1024),
    TRef.binary (TRef.of (T := ⟨S4096x100x1024, .i32⟩) main_call1_call0_v155) (TRef.of (T := ⟨S4096x100x1024, .i32⟩) main_call1_call0_v157) (TRef.of (T := ⟨S4096x100x1024, .i32⟩) main_call1_call0_v158) Host.shli,
    TRef.nullary (TRef.of (T := ⟨S_, .i32⟩) main_call1_call0_c_41) (constantI S_ 32 6#32),
    TRef.unary (TRef.of (T := ⟨S_, .i32⟩) main_call1_call0_c_41) (TRef.of (T := ⟨S4096x100x1024, .i32⟩) main_call1_call0_v159) (broadcastInDim S4096x100x1024 ![] bcast_S_S4096x100x1024),
    TRef.binary (TRef.of (T := ⟨S4096x100x1024, .i32⟩) main_call1_call0_v155) (TRef.of (T := ⟨S4096x100x1024, .i32⟩) main_call1_call0_v159) (TRef.of (T := ⟨S4096x100x1024, .i32⟩) main_call1_call0_v160) Host.shrui,
    TRef.binary (TRef.of (T := ⟨S4096x100x1024, .i32⟩) main_call1_call0_v158) (TRef.of (T := ⟨S4096x100x1024, .i32⟩) main_call1_call0_v160) (TRef.of (T := ⟨S4096x100x1024, .i32⟩) main_call1_call0_v161) ori,
    TRef.binary (TRef.of (T := ⟨S4096x100x1024, .i32⟩) main_call1_call0_v156) (TRef.of (T := ⟨S4096x100x1024, .i32⟩) main_call1_call0_v161) (TRef.of (T := ⟨S4096x100x1024, .i32⟩) main_call1_call0_v162) xori,
    TRef.binary (TRef.of (T := ⟨S4096x100x1024, .i32⟩) main_call1_call0_v156) (TRef.of (T := ⟨S4096x100x1024, .i32⟩) main_call1_call0_v162) (TRef.of (T := ⟨S4096x100x1024, .i32⟩) main_call1_call0_v163) addi,
    TRef.nullary (TRef.of (T := ⟨S_, .i32⟩) main_call1_call0_c_42) (constantI S_ 32 6#32),
    TRef.unary (TRef.of (T := ⟨S_, .i32⟩) main_call1_call0_c_42) (TRef.of (T := ⟨S4096x100x1024, .i32⟩) main_call1_call0_v164) (broadcastInDim S4096x100x1024 ![] bcast_S_S4096x100x1024),
    TRef.binary (TRef.of (T := ⟨S4096x100x1024, .i32⟩) main_call1_call0_v162) (TRef.of (T := ⟨S4096x100x1024, .i32⟩) main_call1_call0_v164) (TRef.of (T := ⟨S4096x100x1024, .i32⟩) main_call1_call0_v165) Host.shli,
    TRef.nullary (TRef.of (T := ⟨S_, .i32⟩) main_call1_call0_c_43) (constantI S_ 32 26#32),
    TRef.unary (TRef.of (T := ⟨S_, .i32⟩) main_call1_call0_c_43) (TRef.of (T := ⟨S4096x100x1024, .i32⟩) main_call1_call0_v166) (broadcastInDim S4096x100x1024 ![] bcast_S_S4096x100x1024),
    TRef.binary (TRef.of (T := ⟨S4096x100x1024, .i32⟩) main_call1_call0_v162) (TRef.of (T := ⟨S4096x100x1024, .i32⟩) main_call1_call0_v166) (TRef.of (T := ⟨S4096x100x1024, .i32⟩) main_call1_call0_v167) Host.shrui,
    TRef.binary (TRef.of (T := ⟨S4096x100x1024, .i32⟩) main_call1_call0_v165) (TRef.of (T := ⟨S4096x100x1024, .i32⟩) main_call1_call0_v167) (TRef.of (T := ⟨S4096x100x1024, .i32⟩) main_call1_call0_v168) ori,
    TRef.binary (TRef.of (T := ⟨S4096x100x1024, .i32⟩) main_call1_call0_v163) (TRef.of (T := ⟨S4096x100x1024, .i32⟩) main_call1_call0_v168) (TRef.of (T := ⟨S4096x100x1024, .i32⟩) main_call1_call0_v169) xori,
    TRef.unary (TRef.of (T := ⟨S_, .i32⟩) main_call1_call0_v1) (TRef.of (T := ⟨S4096x100x1024, .i32⟩) main_call1_call0_v170) (broadcastInDim S4096x100x1024 ![] bcast_S_S4096x100x1024),
    TRef.binary (TRef.of (T := ⟨S4096x100x1024, .i32⟩) main_call1_call0_v163) (TRef.of (T := ⟨S4096x100x1024, .i32⟩) main_call1_call0_v170) (TRef.of (T := ⟨S4096x100x1024, .i32⟩) main_call1_v23_0) addi,
    TRef.unary (TRef.of (T := ⟨S_, .i32⟩) main_call1_v5) (TRef.of (T := ⟨S4096x100x1024, .i32⟩) main_call1_call0_v172) (broadcastInDim S4096x100x1024 ![] bcast_S_S4096x100x1024),
    TRef.binary (TRef.of (T := ⟨S4096x100x1024, .i32⟩) main_call1_call0_v169) (TRef.of (T := ⟨S4096x100x1024, .i32⟩) main_call1_call0_v172) (TRef.of (T := ⟨S4096x100x1024, .i32⟩) main_call1_call0_v173) addi,
    TRef.nullary (TRef.of (T := ⟨S_, .i32⟩) main_call1_call0_c_44) (constantI S_ 32 5#32),
    TRef.unary (TRef.of (T := ⟨S_, .i32⟩) main_call1_call0_c_44) (TRef.of (T := ⟨S4096x100x1024, .i32⟩) main_call1_call0_v174) (broadcastInDim S4096x100x1024 ![] bcast_S_S4096x100x1024),
    TRef.binary (TRef.of (T := ⟨S4096x100x1024, .i32⟩) main_call1_call0_v173) (TRef.of (T := ⟨S4096x100x1024, .i32⟩) main_call1_call0_v174) (TRef.of (T := ⟨S4096x100x1024, .i32⟩) main_call1_v23_1) addi,
    TRef.binary (TRef.of (T := ⟨S4096x100x1024, .i32⟩) main_call1_v23_0) (TRef.of (T := ⟨S4096x100x1024, .i32⟩) main_call1_v23_1) (TRef.of (T := ⟨S4096x100x1024, .i32⟩) main_call1_v24) xori,
    TRef.nullary (TRef.of (T := ⟨S_, .i32⟩) main_call1_c_3) (constantI S_ 32 9#32),
    TRef.unary (TRef.of (T := ⟨S_, .i32⟩) main_call1_c_3) (TRef.of (T := ⟨S4096x100x1024, .i32⟩) main_call1_v25) (broadcastInDim S4096x100x1024 ![] bcast_S_S4096x100x1024) ]

/-- @main's operations 271 … 300 of 366 (window `main_part0`). -/
abbrev ops_part0_9 : List (HloOp τ sig (Elt F)) :=
  [ TRef.binary (TRef.of (T := ⟨S4096x100x1024, .i32⟩) main_call1_v24) (TRef.of (T := ⟨S4096x100x1024, .i32⟩) main_call1_v25) (TRef.of (T := ⟨S4096x100x1024, .i32⟩) main_call1_v26) Host.shrui,
    TRef.nullary (TRef.of (T := ⟨S_, .i32⟩) main_call1_c_4) (constantI S_ 32 1065353216#32),
    TRef.unary (TRef.of (T := ⟨S_, .i32⟩) main_call1_c_4) (TRef.of (T := ⟨S4096x100x1024, .i32⟩) main_call1_v27) (broadcastInDim S4096x100x1024 ![] bcast_S_S4096x100x1024),
    TRef.binary (TRef.of (T := ⟨S4096x100x1024, .i32⟩) main_call1_v26) (TRef.of (T := ⟨S4096x100x1024, .i32⟩) main_call1_v27) (TRef.of (T := ⟨S4096x100x1024, .i32⟩) main_call1_v28) ori,
    TRef.unary (TRef.of (T := ⟨S4096x100x1024, .i32⟩) main_call1_v28) (TRef.of (T := ⟨S4096x100x1024, .f32⟩) main_call1_v29) (bitcastToFloat (F := F) .f32),
    TRef.nullary (TRef.of (T := ⟨S_, .f32⟩) main_call1_cst) (constant S_ .f32 0x3F800000#32),
    TRef.unary (TRef.of (T := ⟨S_, .f32⟩) main_call1_cst) (TRef.of (T := ⟨S4096x100x1024, .f32⟩) main_call1_v30) (broadcastInDim S4096x100x1024 ![] bcast_S_S4096x100x1024),
    TRef.binary (TRef.of (T := ⟨S4096x100x1024, .f32⟩) main_call1_v29) (TRef.of (T := ⟨S4096x100x1024, .f32⟩) main_call1_v30) (TRef.of (T := ⟨S4096x100x1024, .f32⟩) main_call1_v31) subf,
    TRef.binary (TRef.of (T := ⟨S1x1x1, .f32⟩) main_call1_v3) (TRef.of (T := ⟨S1x1x1, .f32⟩) main_call1_v2) (TRef.of (T := ⟨S1x1x1, .f32⟩) main_call1_v32) subf,
    TRef.unary (TRef.of (T := ⟨S1x1x1, .f32⟩) main_call1_v32) (TRef.of (T := ⟨S4096x100x1024, .f32⟩) main_call1_v33) (broadcastInDim S4096x100x1024 ![0, 1, 2] bcast_S1x1x1_S4096x100x1024_0_1_2),
    TRef.binary (TRef.of (T := ⟨S4096x100x1024, .f32⟩) main_call1_v31) (TRef.of (T := ⟨S4096x100x1024, .f32⟩) main_call1_v33) (TRef.of (T := ⟨S4096x100x1024, .f32⟩) main_call1_v34) mulf,
    TRef.unary (TRef.of (T := ⟨S1x1x1, .f32⟩) main_call1_v2) (TRef.of (T := ⟨S4096x100x1024, .f32⟩) main_call1_v35) (broadcastInDim S4096x100x1024 ![0, 1, 2] bcast_S1x1x1_S4096x100x1024_0_1_2),
    TRef.binary (TRef.of (T := ⟨S4096x100x1024, .f32⟩) main_call1_v34) (TRef.of (T := ⟨S4096x100x1024, .f32⟩) main_call1_v35) (TRef.of (T := ⟨S4096x100x1024, .f32⟩) main_call1_v36) addf,
    TRef.unary (TRef.of (T := ⟨S1x1x1, .f32⟩) main_call1_v2) (TRef.of (T := ⟨S4096x100x1024, .f32⟩) main_call1_v37) (broadcastInDim S4096x100x1024 ![0, 1, 2] bcast_S1x1x1_S4096x100x1024_0_1_2),
    TRef.binary (TRef.of (T := ⟨S4096x100x1024, .f32⟩) main_call1_v37) (TRef.of (T := ⟨S4096x100x1024, .f32⟩) main_call1_v36) (TRef.of (T := ⟨S4096x100x1024, .f32⟩) main_v10) maximumf,
    nullary main_cst_4 (constant S_ .f32 0x00800000#32),
    unary main_cst_4 main_v11 (broadcastInDim S4096x100x1024 ![] bcast_S_S4096x100x1024 : (⟨S_, .f32⟩ : BufTy).Contents (Elt F) → (⟨S4096x100x1024, .f32⟩ : BufTy).Contents (Elt F)),
    binary main_v10 main_v11 main_v12 (addf : (⟨S4096x100x1024, .f32⟩ : BufTy).Contents (Elt F) → (⟨S4096x100x1024, .f32⟩ : BufTy).Contents (Elt F) → (⟨S4096x100x1024, .f32⟩ : BufTy).Contents (Elt F)),
    nullary main_cst_5 (constant S_ .f32 0x00800000#32),
    unary main_cst_5 main_v13 (broadcastInDim S4096x100x1024 ![] bcast_S_S4096x100x1024 : (⟨S_, .f32⟩ : BufTy).Contents (Elt F) → (⟨S4096x100x1024, .f32⟩ : BufTy).Contents (Elt F)),
    binary main_v13 main_v12 main_v14 (maximumf : (⟨S4096x100x1024, .f32⟩ : BufTy).Contents (Elt F) → (⟨S4096x100x1024, .f32⟩ : BufTy).Contents (Elt F) → (⟨S4096x100x1024, .f32⟩ : BufTy).Contents (Elt F)),
    unary main_v14 main_v15 (Host.log : (⟨S4096x100x1024, .f32⟩ : BufTy).Contents (Elt F) → (⟨S4096x100x1024, .f32⟩ : BufTy).Contents (Elt F)),
    unary main_v15 main_v16 (Host.negf : (⟨S4096x100x1024, .f32⟩ : BufTy).Contents (Elt F) → (⟨S4096x100x1024, .f32⟩ : BufTy).Contents (Elt F)),
    unary main_v16 main_v17 (Host.log : (⟨S4096x100x1024, .f32⟩ : BufTy).Contents (Elt F) → (⟨S4096x100x1024, .f32⟩ : BufTy).Contents (Elt F)),
    unary main_v17 main_v18 (Host.negf : (⟨S4096x100x1024, .f32⟩ : BufTy).Contents (Elt F) → (⟨S4096x100x1024, .f32⟩ : BufTy).Contents (Elt F)),
    unary main_v2 main_v19 (broadcastInDim S4096x1x1024 ![0, 2] bcast_S4096x1024_S4096x1x1024_0_2 : (⟨S4096x1024, .f32⟩ : BufTy).Contents (Elt F) → (⟨S4096x1x1024, .f32⟩ : BufTy).Contents (Elt F)),
    unary main_v19 main_v20 (broadcastInDim S4096x100x1024 ![0, 1, 2] bcast_S4096x1x1024_S4096x100x1024_0_1_2 : (⟨S4096x1x1024, .f32⟩ : BufTy).Contents (Elt F) → (⟨S4096x100x1024, .f32⟩ : BufTy).Contents (Elt F)),
    binary main_v18 main_v20 main_v21 (addf : (⟨S4096x100x1024, .f32⟩ : BufTy).Contents (Elt F) → (⟨S4096x100x1024, .f32⟩ : BufTy).Contents (Elt F) → (⟨S4096x100x1024, .f32⟩ : BufTy).Contents (Elt F)),
    TRef.nullary (TRef.of (T := ⟨S4096x100x1024, .i32⟩) main_call2_v0) (iotaInDim S4096x100x1024 32 2),
    TRef.nullary (TRef.of (T := ⟨S_, .f32⟩) main_call2_cst) (constant S_ .f32 0xFF800000#32) ]

/-- @main's operations 301 … 330 of 366 (window `main_part0`). -/
abbrev ops_part0_10 : List (HloOp τ sig (Elt F)) :=
  [ TRef.nullary (TRef.of (T := ⟨S_, .i32⟩) main_call2_c) (constantI S_ 32 0#32),
    TRef.quaternary (TRef.of (T := ⟨S4096x100x1024, .f32⟩) main_v21) (TRef.of (T := ⟨S4096x100x1024, .i32⟩) main_call2_v0) (TRef.of (T := ⟨S_, .f32⟩) main_call2_cst) (TRef.of (T := ⟨S_, .i32⟩) main_call2_c) (TRef.of (T := ⟨S4096x100, .f32⟩) main_call2_v1_0) (fun x y u v => (fun j => (Host.argReduce reducer_argmax_f32_i32 x y u v reducesTo_S4096x100x1024_S4096x100_d2 h_S_ j).1)),
    TRef.quaternary (TRef.of (T := ⟨S4096x100x1024, .f32⟩) main_v21) (TRef.of (T := ⟨S4096x100x1024, .i32⟩) main_call2_v0) (TRef.of (T := ⟨S_, .f32⟩) main_call2_cst) (TRef.of (T := ⟨S_, .i32⟩) main_call2_c) (TRef.of (T := ⟨S4096x100, .i32⟩) main_v22) (fun x y u v => (fun j => (Host.argReduce reducer_argmax_f32_i32 x y u v reducesTo_S4096x100x1024_S4096x100_d2 h_S_ j).2)),
    nullary main_v23 (iotaInDim S100 32 0),
    unary main_v23 main_v24 (broadcastInDim S1x100 ![1] bcast_S100_S1x100_1 : (⟨S100, .i32⟩ : BufTy).Contents (Elt F) → (⟨S1x100, .i32⟩ : BufTy).Contents (Elt F)),
    unary main_v0 main_v25 (broadcastInDim S4096x1 ![0] bcast_S4096_S4096x1_0 : (⟨S4096, .i32⟩ : BufTy).Contents (Elt F) → (⟨S4096x1, .i32⟩ : BufTy).Contents (Elt F)),
    unary main_v24 main_v26 (broadcastInDim S4096x100 ![0, 1] bcast_S1x100_S4096x100_0_1 : (⟨S1x100, .i32⟩ : BufTy).Contents (Elt F) → (⟨S4096x100, .i32⟩ : BufTy).Contents (Elt F)),
    unary main_v25 main_v27 (broadcastInDim S4096x100 ![0, 1] bcast_S4096x1_S4096x100_0_1 : (⟨S4096x1, .i32⟩ : BufTy).Contents (Elt F) → (⟨S4096x100, .i32⟩ : BufTy).Contents (Elt F)),
    binary main_v26 main_v27 main_v28 (cmpi .slt : (⟨S4096x100, .i32⟩ : BufTy).Contents (Elt F) → (⟨S4096x100, .i32⟩ : BufTy).Contents (Elt F) → (⟨S4096x100, .i1⟩ : BufTy).Contents (Elt F)),
    unary main_v28 main_v29 (uitofp .f32 : (⟨S4096x100, .i1⟩ : BufTy).Contents (Elt F) → (⟨S4096x100, .f32⟩ : BufTy).Contents (Elt F)),
    nullary main_cst_6 (constant S_ .f32 0x00000000#32),
    unary main_cst_6 main_v30 (broadcastInDim S4096x1024 ![] bcast_S_S4096x1024 : (⟨S_, .f32⟩ : BufTy).Contents (Elt F) → (⟨S4096x1024, .f32⟩ : BufTy).Contents (Elt F)),
    nullary main_v31 (iotaInDim S4096 32 0),
    unary main_v31 main_v32 (broadcastInDim S4096x1 ![0] bcast_S4096_S4096x1_0 : (⟨S4096, .i32⟩ : BufTy).Contents (Elt F) → (⟨S4096x1, .i32⟩ : BufTy).Contents (Elt F)),
    nullary main_c_7 (constantI S_ 32 0#32),
    unary main_c_7 main_v33 (broadcastInDim S4096x1 ![] bcast_S_S4096x1 : (⟨S_, .i32⟩ : BufTy).Contents (Elt F) → (⟨S4096x1, .i32⟩ : BufTy).Contents (Elt F)),
    binary main_v32 main_v33 main_v34 (cmpi .slt : (⟨S4096x1, .i32⟩ : BufTy).Contents (Elt F) → (⟨S4096x1, .i32⟩ : BufTy).Contents (Elt F) → (⟨S4096x1, .i1⟩ : BufTy).Contents (Elt F)),
    nullary main_c_8 (constantI S_ 32 4096#32),
    unary main_c_8 main_v35 (broadcastInDim S4096x1 ![] bcast_S_S4096x1 : (⟨S_, .i32⟩ : BufTy).Contents (Elt F) → (⟨S4096x1, .i32⟩ : BufTy).Contents (Elt F)),
    binary main_v32 main_v35 main_v36 (addi : (⟨S4096x1, .i32⟩ : BufTy).Contents (Elt F) → (⟨S4096x1, .i32⟩ : BufTy).Contents (Elt F) → (⟨S4096x1, .i32⟩ : BufTy).Contents (Elt F)),
    ternary main_v34 main_v36 main_v32 main_v37 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_9 (constantI S_ 32 0#32),
    unary main_c_9 main_v38 (broadcastInDim S4096x100 ![] bcast_S_S4096x100 : (⟨S_, .i32⟩ : BufTy).Contents (Elt F) → (⟨S4096x100, .i32⟩ : BufTy).Contents (Elt F)),
    binary main_v22 main_v38 main_v39 (cmpi .slt : (⟨S4096x100, .i32⟩ : BufTy).Contents (Elt F) → (⟨S4096x100, .i32⟩ : BufTy).Contents (Elt F) → (⟨S4096x100, .i1⟩ : BufTy).Contents (Elt F)),
    nullary main_c_10 (constantI S_ 32 1024#32),
    unary main_c_10 main_v40 (broadcastInDim S4096x100 ![] bcast_S_S4096x100 : (⟨S_, .i32⟩ : BufTy).Contents (Elt F) → (⟨S4096x100, .i32⟩ : BufTy).Contents (Elt F)),
    binary main_v22 main_v40 main_v41 (addi : (⟨S4096x100, .i32⟩ : BufTy).Contents (Elt F) → (⟨S4096x100, .i32⟩ : BufTy).Contents (Elt F) → (⟨S4096x100, .i32⟩ : BufTy).Contents (Elt F)),
    ternary main_v39 main_v41 main_v22 main_v42 (select : (⟨S4096x100, .i1⟩ : BufTy).Contents (Elt F) → (⟨S4096x100, .i32⟩ : BufTy).Contents (Elt F) → (⟨S4096x100, .i32⟩ : BufTy).Contents (Elt F) → (⟨S4096x100, .i32⟩ : BufTy).Contents (Elt F)),
    unary main_v37 main_v43 (broadcastInDim S4096x100 ![0, 1] bcast_S4096x1_S4096x100_0_1 : (⟨S4096x1, .i32⟩ : BufTy).Contents (Elt F) → (⟨S4096x100, .i32⟩ : BufTy).Contents (Elt F)),
    unary main_v43 main_v44 (broadcastInDim S4096x100x1 ![0, 1] bcast_S4096x100_S4096x100x1_0_1 : (⟨S4096x100, .i32⟩ : BufTy).Contents (Elt F) → (⟨S4096x100x1, .i32⟩ : BufTy).Contents (Elt F)) ]

/-- @main's operations 331 … 332 of 366 (window `main_part0`). -/
abbrev ops_part0_11 : List (HloOp τ sig (Elt F)) :=
  [ unary main_v42 main_v45 (broadcastInDim S4096x100x1 ![0, 1] bcast_S4096x100_S4096x100x1_0_1 : (⟨S4096x100, .i32⟩ : BufTy).Contents (Elt F) → (⟨S4096x100x1, .i32⟩ : BufTy).Contents (Elt F)),
    binary main_v44 main_v45 main_v46 (fn_main_v46 (F := F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10 ++ (ops_part0_11)))))))))))

/-- @main's operations 333 … 366 of 366 (window `main_part1`). -/
abbrev ops_part1 : List (HloOp τ sig (Elt F)) :=
  [ ternary main_v30 main_v46 main_v29 main_v47 ((fun x i u => Host.scatterAdd scatter_S4096x1024_S4096x100x2_S4096x100_n_01_01_2 x i u) : (⟨S4096x1024, .f32⟩ : BufTy).Contents (Elt F) → (⟨S4096x100x2, .i32⟩ : BufTy).Contents (Elt F) → (⟨S4096x100, .f32⟩ : BufTy).Contents (Elt F) → (⟨S4096x1024, .f32⟩ : BufTy).Contents (Elt F)),
    unary main_arg0 main_v48 (Host.log : (⟨S4096x1024, .f32⟩ : BufTy).Contents (Elt F) → (⟨S4096x1024, .f32⟩ : BufTy).Contents (Elt F)),
    nullary main_cst_11 (constant S_ .f32 0xC2D00000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S4096x1024, .f32⟩) main_call3_v1) (broadcastInDim S4096x1024 ![] bcast_S_S4096x1024),
    TRef.binary (TRef.of (T := ⟨S4096x1024, .f32⟩) main_call3_v1) (TRef.of (T := ⟨S4096x1024, .f32⟩) main_v48) (TRef.of (T := ⟨S4096x1024, .f32⟩) main_v49) maximumf,
    unary main_v47 main_v50 (Host.log : (⟨S4096x1024, .f32⟩ : BufTy).Contents (Elt F) → (⟨S4096x1024, .f32⟩ : BufTy).Contents (Elt F)),
    nullary main_cst_12 (constant S_ .f32 0xC2D00000#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S4096x1024, .f32⟩) main_call4_v1) (broadcastInDim S4096x1024 ![] bcast_S_S4096x1024),
    TRef.binary (TRef.of (T := ⟨S4096x1024, .f32⟩) main_call4_v1) (TRef.of (T := ⟨S4096x1024, .f32⟩) main_v50) (TRef.of (T := ⟨S4096x1024, .f32⟩) main_v51) maximumf,
    nullary main_cst_13 (constant S_ .f32 0x3F800000#32),
    unary main_cst_13 main_v52 (broadcastInDim S4096x1024 ![] bcast_S_S4096x1024 : (⟨S_, .f32⟩ : BufTy).Contents (Elt F) → (⟨S4096x1024, .f32⟩ : BufTy).Contents (Elt F)),
    binary main_v49 main_v52 main_v53 (addf : (⟨S4096x1024, .f32⟩ : BufTy).Contents (Elt F) → (⟨S4096x1024, .f32⟩ : BufTy).Contents (Elt F) → (⟨S4096x1024, .f32⟩ : BufTy).Contents (Elt F)),
    binary main_v53 main_v51 main_v54 (subf : (⟨S4096x1024, .f32⟩ : BufTy).Contents (Elt F) → (⟨S4096x1024, .f32⟩ : BufTy).Contents (Elt F) → (⟨S4096x1024, .f32⟩ : BufTy).Contents (Elt F)),
    binary main_v47 main_v54 main_v55 (mulf : (⟨S4096x1024, .f32⟩ : BufTy).Contents (Elt F) → (⟨S4096x1024, .f32⟩ : BufTy).Contents (Elt F) → (⟨S4096x1024, .f32⟩ : BufTy).Contents (Elt F)),
    nullary main_cst_14 (constant S_ .f32 0x00000000#32),
    binary main_v55 main_cst_14 main_v56 ((fun x v => Host.reduceAdd x v reducesTo_S4096x1024_S_d0_1 h_S_) : (⟨S4096x1024, .f32⟩ : BufTy).Contents (Elt F) → (⟨S_, .f32⟩ : BufTy).Contents (Elt F) → (⟨S_, .f32⟩ : BufTy).Contents (Elt F)),
    nullary main_cst_15 (constant S_ .f32 0x00000000#32),
    binary main_v47 main_cst_15 main_v57 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    binary main_arg1 main_v57 main_v58 (subf : (⟨S4096, .f32⟩ : BufTy).Contents (Elt F) → (⟨S4096, .f32⟩ : BufTy).Contents (Elt F) → (⟨S4096, .f32⟩ : BufTy).Contents (Elt F)),
    binary main_v58 main_v58 main_v59 (mulf : (⟨S4096, .f32⟩ : BufTy).Contents (Elt F) → (⟨S4096, .f32⟩ : BufTy).Contents (Elt F) → (⟨S4096, .f32⟩ : BufTy).Contents (Elt F)),
    nullary main_cst_16 (constant S_ .f32 0x00000000#32),
    binary main_v59 main_cst_16 main_v60 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_17 (constant S_ .f32 0x00000000#32),
    binary main_v47 main_cst_17 main_v61 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    binary main_arg2 main_v61 main_v62 (subf : (⟨S1024, .f32⟩ : BufTy).Contents (Elt F) → (⟨S1024, .f32⟩ : BufTy).Contents (Elt F) → (⟨S1024, .f32⟩ : BufTy).Contents (Elt F)),
    binary main_v62 main_v62 main_v63 (mulf : (⟨S1024, .f32⟩ : BufTy).Contents (Elt F) → (⟨S1024, .f32⟩ : BufTy).Contents (Elt F) → (⟨S1024, .f32⟩ : BufTy).Contents (Elt F)),
    nullary main_cst_18 (constant S_ .f32 0x00000000#32),
    binary main_v63 main_cst_18 main_v64 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    binary main_v60 main_v64 main_v65 (addf : (⟨S_, .f32⟩ : BufTy).Contents (Elt F) → (⟨S_, .f32⟩ : BufTy).Contents (Elt F) → (⟨S_, .f32⟩ : BufTy).Contents (Elt F)),
    binary main_arg3 main_v65 main_v66 (mulf : (⟨S_, .f32⟩ : BufTy).Contents (Elt F) → (⟨S_, .f32⟩ : BufTy).Contents (Elt F) → (⟨S_, .f32⟩ : BufTy).Contents (Elt F)),
    binary main_v56 main_v66 main_v67 (subf : (⟨S_, .f32⟩ : BufTy).Contents (Elt F) → (⟨S_, .f32⟩ : BufTy).Contents (Elt F) → (⟨S_, .f32⟩ : BufTy).Contents (Elt F)),
    unary main_v67 main_v68 (Host.negf : (⟨S_, .f32⟩ : BufTy).Contents (Elt F) → (⟨S_, .f32⟩ : BufTy).Contents (Elt F)) ]

/-- @main's 366 operations, in order (a called function's operations stand in its call's place, spelt `TRef.…`). -/
abbrev ops : List (HloOp τ sig (Elt F)) :=
  ops_part0 ++ (ops_part1)

set_option maxHeartbeats 4000000 in
/-- The program's text is the line of its operations. -/
theorem main_part0_eq (c : Dev nD) : main_part0 (F := F) c = seq ops_part0 := rfl
/-- The program's text is the line of its operations. -/
theorem main_part1_eq (c : Dev nD) : main_part1 (F := F) c = seq ops_part1 := rfl
/-- The program's text is the line of its operations. -/
theorem main_eq (c : Dev nD) : main (F := F) c = seq ops := by
  simp only [ops, seq_append, ← main_part0_eq c, ← main_part1_eq c]
  rfl
/-- The program allocates nothing within a region. -/
theorem scopedRefs_eq : (Finset.univ.filter fun b : Ref sig .tc => b.isScoped) = ∅ := by decide
/-- The program allocates nothing within a region. -/
theorem scopedSems_eq : (Finset.univ.filter fun sm : SemLoc sig => sm.isScoped .tc) = ∅ := by decide
/-- These operations touch only this core's buffers, -/
theorem ops_part0_0_sub : (ops_part0_0 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub ..⟩
/-- and allocate none. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_1_sub : (ops_part0_1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
/-- and allocate none. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_2_sub : (ops_part0_2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub ..⟩
/-- and allocate none. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_3_sub : (ops_part0_3 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
/-- and allocate none. -/
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_4_sub : (ops_part0_4 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
/-- and allocate none. -/
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_5_sub : (ops_part0_5 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub ..⟩
/-- and allocate none. -/
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_6_sub : (ops_part0_6 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
/-- and allocate none. -/
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_7_sub : (ops_part0_7 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
/-- and allocate none. -/
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_8_sub : (ops_part0_8 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
/-- and allocate none. -/
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_9_sub : (ops_part0_9 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., nullary_bufs_sub .., nullary_bufs_sub ..⟩
/-- and allocate none. -/
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_10_sub : (ops_part0_10 : List (HloOp τ sig (Elt F))).Forall fun op => op.bufs ⊆ tcRefs τ sig :=
  ⟨nullary_bufs_sub .., quaternary_bufs_sub .., quaternary_bufs_sub .., nullary_bufs_sub .., unary_bufs_sub .., unary_bufs_sub .., unary_bufs_sub .., unary_bufs_sub .., binary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
/-- and allocate none. -/
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_part0_11_sub : (ops_part0_11 : List (HloOp τ sig (Elt F))).Forall fun op => op.bufs ⊆ tcRefs τ sig :=
  ⟨unary_bufs_sub .., binary_bufs_sub ..⟩
/-- and allocate none. -/
theorem ops_part0_11_fresh : (ops_part0_11 : List (HloOp τ sig (Elt F))).Forall fun op => op.fresh = ∅ :=
  ⟨rfl, rfl⟩
/-- These operations touch only this core's buffers, -/
theorem ops_part1_sub : (ops_part1 : List (HloOp τ sig (Elt F))).Forall fun op => op.bufs ⊆ tcRefs τ sig :=
  ⟨ternary_bufs_sub .., unary_bufs_sub .., nullary_bufs_sub .., unary_bufs_sub .., unary_bufs_sub .., binary_bufs_sub .., unary_bufs_sub .., nullary_bufs_sub .., unary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., binary_bufs_sub .., binary_bufs_sub .., binary_bufs_sub .., unary_bufs_sub ..⟩
/-- and allocate none. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch only this core's buffers, -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part0_11_sub op h, List.forall_iff_forall_mem.mp ops_part1_sub op h]
/-- and allocate none. -/
theorem ops_fresh : ∀ op ∈ (ops : List (HloOp τ sig (Elt F))), op.fresh = ∅ := fun op h => by
    simp only [ops, ops_part0, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part0_11_fresh op h, List.forall_iff_forall_mem.mp ops_part1_fresh op h]

end Cert.ReferenceIdeal.Value

end
-- ==== Proof.RefTerms.lean ====
/- What each buffer of the reference that later operations read more than once holds, as a term of the arguments
   (`res_main_…`), and the device's contents after the first hundred or so operations. -/
module

public import proofs.«01_k».proof.Proof.RefOps

@[expose] public section

set_option Elab.async false
set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- `main_c`'s composed term of the arguments (named: it is used 2 times). -/
def res_main_c (V0 : Valuation τ sig (Elt F)) : (Proc.devRef .tc main_c : DevRef τ sig).ty.Contents (Elt F) :=
  constantI S_ 32 42#32

/-- `main_v9`'s composed term of the arguments (named: it is used 2 times). -/
def res_main_v9 (V0 : Valuation τ sig (Elt F)) : (Proc.devRef .tc main_v9 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

/-- `main_call1_v2`'s composed term of the arguments (named: it is used 3 times). -/
def res_main_call1_v2 (V0 : Valuation τ sig (Elt F)) : (Proc.devRef .tc main_call1_v2 : DevRef τ sig).ty.Contents (Elt F) :=
  broadcastInDim S1x1x1 ![] bcast_S_S1x1x1 (id (constant S_ .f32 0x00000000#32))

/-- `main_call1_v5`'s composed term of the arguments (named: it is used 5 times). -/
def res_main_call1_v5 (V0 : Valuation τ sig (Elt F)) : (Proc.devRef .tc main_call1_v5 : DevRef τ sig).ty.Contents (Elt F) :=
  shapeCast _ (extractStridedSlice S1 ![0] (res_main_v9 V0) slices_S2_S1_0) shapeCasts_S1_S_

/-- `main_call1_v7`'s composed term of the arguments (named: it is used 5 times). -/
def res_main_call1_v7 (V0 : Valuation τ sig (Elt F)) : (Proc.devRef .tc main_call1_v7 : DevRef τ sig).ty.Contents (Elt F) :=
  shapeCast _ (extractStridedSlice S1 ![1] (res_main_v9 V0) slices_S2_S1_1) shapeCasts_S1_S_

/-- `main_call1_v18`'s composed term of the arguments (named: it is used 2 times). -/
def res_main_call1_v18 (V0 : Valuation τ sig (Elt F)) : (Proc.devRef .tc main_call1_v18 : DevRef τ sig).ty.Contents (Elt F) :=
  addi (addi (muli (broadcastInDim S4096x100x1024 ![] bcast_S_S4096x100x1024 (constantI S_ 64 102400#64)) (iotaInDim S4096x100x1024 64 0)) (muli (broadcastInDim S4096x100x1024 ![] bcast_S_S4096x100x1024 (constantI S_ 64 1024#64)) (iotaInDim S4096x100x1024 64 1))) (muli (broadcastInDim S4096x100x1024 ![] bcast_S_S4096x100x1024 (constantI S_ 64 1#64)) (iotaInDim S4096x100x1024 64 2))

/-- `main_call1_call0_v1`'s composed term of the arguments (named: it is used 4 times). -/
def res_main_call1_call0_v1 (V0 : Valuation τ sig (Elt F)) : (Proc.devRef .tc main_call1_call0_v1 : DevRef τ sig).ty.Contents (Elt F) :=
  xori (xori (res_main_call1_v5 V0) (res_main_call1_v7 V0)) (constantI S_ 32 466688986#32)

/-- `main_call1_call0_v5`'s composed term of the arguments (named: it is used 3 times). -/
def res_main_call1_call0_v5 (V0 : Valuation τ sig (Elt F)) : (Proc.devRef .tc main_call1_call0_v5 : DevRef τ sig).ty.Contents (Elt F) :=
  addi (trunci 32 (res_main_call1_v18 V0) natLt_32_64) (broadcastInDim S4096x100x1024 ![] bcast_S_S4096x100x1024 (res_main_call1_v7 V0))

/-- `main_call1_call0_v6`'s composed term of the arguments (named: it is used 2 times). -/
def res_main_call1_call0_v6 (V0 : Valuation τ sig (Elt F)) : (Proc.devRef .tc main_call1_call0_v6 : DevRef τ sig).ty.Contents (Elt F) :=
  addi (addi (trunci 32 (Host.shrui (res_main_call1_v18 V0) (broadcastInDim S4096x100x1024 ![] bcast_S_S4096x100x1024 (constantI S_ 64 32#64))) natLt_32_64) (broadcastInDim S4096x100x1024 ![] bcast_S_S4096x100x1024 (res_main_call1_v5 V0))) (res_main_call1_call0_v5 V0)

/-- `main_call1_call0_v12`'s composed term of the arguments (named: it is used 3 times). -/
def res_main_call1_call0_v12 (V0 : Valuation τ sig (Elt F)) : (Proc.devRef .tc main_call1_call0_v12 : DevRef τ sig).ty.Contents (Elt F) :=
  xori (res_main_call1_call0_v6 V0) (ori (Host.shli (res_main_call1_call0_v5 V0) (broadcastInDim S4096x100x1024 ![] bcast_S_S4096x100x1024 (constantI S_ 32 13#32))) (Host.shrui (res_main_call1_call0_v5 V0) (broadcastInDim S4096x100x1024 ![] bcast_S_S4096x100x1024 (constantI S_ 32 19#32))))

/-- `main_call1_call0_v13`'s composed term of the arguments (named: it is used 2 times). -/
def res_main_call1_call0_v13 (V0 : Valuation τ sig (Elt F)) : (Proc.devRef .tc main_call1_call0_v13 : DevRef τ sig).ty.Contents (Elt F) :=
  addi (res_main_call1_call0_v6 V0) (res_main_call1_call0_v12 V0)

/-- `main_call1_call0_v19`'s composed term of the arguments (named: it is used 3 times). -/
def res_main_call1_call0_v19 (V0 : Valuation τ sig (Elt F)) : (Proc.devRef .tc main_call1_call0_v19 : DevRef τ sig).ty.Contents (Elt F) :=
  xori (res_main_call1_call0_v13 V0) (ori (Host.shli (res_main_call1_call0_v12 V0) (broadcastInDim S4096x100x1024 ![] bcast_S_S4096x100x1024 (constantI S_ 32 15#32))) (Host.shrui (res_main_call1_call0_v12 V0) (broadcastInDim S4096x100x1024 ![] bcast_S_S4096x100x1024 (constantI S_ 32 17#32))))

/-- `main_call1_call0_v20`'s composed term of the arguments (named: it is used 2 times). -/
def res_main_call1_call0_v20 (V0 : Valuation τ sig (Elt F)) : (Proc.devRef .tc main_call1_call0_v20 : DevRef τ sig).ty.Contents (Elt F) :=
  addi (res_main_call1_call0_v13 V0) (res_main_call1_call0_v19 V0)

/-- `main_call1_call0_v26`'s composed term of the arguments (named: it is used 3 times). -/
def res_main_call1_call0_v26 (V0 : Valuation τ sig (Elt F)) : (Proc.devRef .tc main_call1_call0_v26 : DevRef τ sig).ty.Contents (Elt F) :=
  xori (res_main_call1_call0_v20 V0) (ori (Host.shli (res_main_call1_call0_v19 V0) (broadcastInDim S4096x100x1024 ![] bcast_S_S4096x100x1024 (constantI S_ 32 26#32))) (Host.shrui (res_main_call1_call0_v19 V0) (broadcastInDim S4096x100x1024 ![] bcast_S_S4096x100x1024 (constantI S_ 32 6#32))))

/-- `main_call1_call0_v27`'s composed term of the arguments (named: it is used 2 times). -/
def res_main_call1_call0_v27 (V0 : Valuation τ sig (Elt F)) : (Proc.devRef .tc main_call1_call0_v27 : DevRef τ sig).ty.Contents (Elt F) :=
  addi (res_main_call1_call0_v20 V0) (res_main_call1_call0_v26 V0)

/-- `main_call1_call0_v39`'s composed term of the arguments (named: it is used 3 times). -/
def res_main_call1_call0_v39 (V0 : Valuation τ sig (Elt F)) : (Proc.devRef .tc main_call1_call0_v39 : DevRef τ sig).ty.Contents (Elt F) :=
  addi (addi (xori (res_main_call1_call0_v27 V0) (ori (Host.shli (res_main_call1_call0_v26 V0) (broadcastInDim S4096x100x1024 ![] bcast_S_S4096x100x1024 (constantI S_ 32 6#32))) (Host.shrui (res_main_call1_call0_v26 V0) (broadcastInDim S4096x100x1024 ![] bcast_S_S4096x100x1024 (constantI S_ 32 26#32))))) (broadcastInDim S4096x100x1024 ![] bcast_S_S4096x100x1024 (res_main_call1_call0_v1 V0))) (broadcastInDim S4096x100x1024 ![] bcast_S_S4096x100x1024 (constantI S_ 32 1#32))

/-- `main_call1_call0_v40`'s composed term of the arguments (named: it is used 2 times). -/
def res_main_call1_call0_v40 (V0 : Valuation τ sig (Elt F)) : (Proc.devRef .tc main_call1_call0_v40 : DevRef τ sig).ty.Contents (Elt F) :=
  addi (addi (res_main_call1_call0_v27 V0) (broadcastInDim S4096x100x1024 ![] bcast_S_S4096x100x1024 (res_main_call1_v7 V0))) (res_main_call1_call0_v39 V0)

/-- `main_call1_call0_v46`'s composed term of the arguments (named: it is used 3 times). -/
def res_main_call1_call0_v46 (V0 : Valuation τ sig (Elt F)) : (Proc.devRef .tc main_call1_call0_v46 : DevRef τ sig).ty.Contents (Elt F) :=
  xori (res_main_call1_call0_v40 V0) (ori (Host.shli (res_main_call1_call0_v39 V0) (broadcastInDim S4096x100x1024 ![] bcast_S_S4096x100x1024 (constantI S_ 32 17#32))) (Host.shrui (res_main_call1_call0_v39 V0) (broadcastInDim S4096x100x1024 ![] bcast_S_S4096x100x1024 (constantI S_ 32 15#32))))

/-- `main_call1_call0_v47`'s composed term of the arguments (named: it is used 2 times). -/
def res_main_call1_call0_v47 (V0 : Valuation τ sig (Elt F)) : (Proc.devRef .tc main_call1_call0_v47 : DevRef τ sig).ty.Contents (Elt F) :=
  addi (res_main_call1_call0_v40 V0) (res_main_call1_call0_v46 V0)

/-- `main_call1_call0_v53`'s composed term of the arguments (named: it is used 3 times). -/
def res_main_call1_call0_v53 (V0 : Valuation τ sig (Elt F)) : (Proc.devRef .tc main_call1_call0_v53 : DevRef τ sig).ty.Contents (Elt F) :=
  xori (res_main_call1_call0_v47 V0) (ori (Host.shli (res_main_call1_call0_v46 V0) (broadcastInDim S4096x100x1024 ![] bcast_S_S4096x100x1024 (constantI S_ 32 29#32))) (Host.shrui (res_main_call1_call0_v46 V0) (broadcastInDim S4096x100x1024 ![] bcast_S_S4096x100x1024 (constantI S_ 32 3#32))))

/-- `main_call1_call0_v54`'s composed term of the arguments (named: it is used 2 times). -/
def res_main_call1_call0_v54 (V0 : Valuation τ sig (Elt F)) : (Proc.devRef .tc main_call1_call0_v54 : DevRef τ sig).ty.Contents (Elt F) :=
  addi (res_main_call1_call0_v47 V0) (res_main_call1_call0_v53 V0)

/-- `main_call1_call0_v60`'s composed term of the arguments (named: it is used 3 times). -/
def res_main_call1_call0_v60 (V0 : Valuation τ sig (Elt F)) : (Proc.devRef .tc main_call1_call0_v60 : DevRef τ sig).ty.Contents (Elt F) :=
  xori (res_main_call1_call0_v54 V0) (ori (Host.shli (res_main_call1_call0_v53 V0) (broadcastInDim S4096x100x1024 ![] bcast_S_S4096x100x1024 (constantI S_ 32 16#32))) (Host.shrui (res_main_call1_call0_v53 V0) (broadcastInDim S4096x100x1024 ![] bcast_S_S4096x100x1024 (constantI S_ 32 16#32))))

/-- `main_call1_call0_v61`'s composed term of the arguments (named: it is used 2 times). -/
def res_main_call1_call0_v61 (V0 : Valuation τ sig (Elt F)) : (Proc.devRef .tc main_call1_call0_v61 : DevRef τ sig).ty.Contents (Elt F) :=
  addi (res_main_call1_call0_v54 V0) (res_main_call1_call0_v60 V0)

/-- `main_call1_call0_v73`'s composed term of the arguments (named: it is used 3 times). -/
def res_main_call1_call0_v73 (V0 : Valuation τ sig (Elt F)) : (Proc.devRef .tc main_call1_call0_v73 : DevRef τ sig).ty.Contents (Elt F) :=
  addi (addi (xori (res_main_call1_call0_v61 V0) (ori (Host.shli (res_main_call1_call0_v60 V0) (broadcastInDim S4096x100x1024 ![] bcast_S_S4096x100x1024 (constantI S_ 32 24#32))) (Host.shrui (res_main_call1_call0_v60 V0) (broadcastInDim S4096x100x1024 ![] bcast_S_S4096x100x1024 (constantI S_ 32 8#32))))) (broadcastInDim S4096x100x1024 ![] bcast_S_S4096x100x1024 (res_main_call1_v5 V0))) (broadcastInDim S4096x100x1024 ![] bcast_S_S4096x100x1024 (constantI S_ 32 2#32))

/-- `main_call1_call0_v74`'s composed term of the arguments (named: it is used 2 times). -/
def res_main_call1_call0_v74 (V0 : Valuation τ sig (Elt F)) : (Proc.devRef .tc main_call1_call0_v74 : DevRef τ sig).ty.Contents (Elt F) :=
  addi (addi (res_main_call1_call0_v61 V0) (broadcastInDim S4096x100x1024 ![] bcast_S_S4096x100x1024 (res_main_call1_call0_v1 V0))) (res_main_call1_call0_v73 V0)

/-- `main_call1_call0_v80`'s composed term of the arguments (named: it is used 3 times). -/
def res_main_call1_call0_v80 (V0 : Valuation τ sig (Elt F)) : (Proc.devRef .tc main_call1_call0_v80 : DevRef τ sig).ty.Contents (Elt F) :=
  xori (res_main_call1_call0_v74 V0) (ori (Host.shli (res_main_call1_call0_v73 V0) (broadcastInDim S4096x100x1024 ![] bcast_S_S4096x100x1024 (constantI S_ 32 13#32))) (Host.shrui (res_main_call1_call0_v73 V0) (broadcastInDim S4096x100x1024 ![] bcast_S_S4096x100x1024 (constantI S_ 32 19#32))))

/-- `main_call1_call0_v81`'s composed term of the arguments (named: it is used 2 times). -/
def res_main_call1_call0_v81 (V0 : Valuation τ sig (Elt F)) : (Proc.devRef .tc main_call1_call0_v81 : DevRef τ sig).ty.Contents (Elt F) :=
  addi (res_main_call1_call0_v74 V0) (res_main_call1_call0_v80 V0)

/-- `main_call1_call0_v87`'s composed term of the arguments (named: it is used 3 times). -/
def res_main_call1_call0_v87 (V0 : Valuation τ sig (Elt F)) : (Proc.devRef .tc main_call1_call0_v87 : DevRef τ sig).ty.Contents (Elt F) :=
  xori (res_main_call1_call0_v81 V0) (ori (Host.shli (res_main_call1_call0_v80 V0) (broadcastInDim S4096x100x1024 ![] bcast_S_S4096x100x1024 (constantI S_ 32 15#32))) (Host.shrui (res_main_call1_call0_v80 V0) (broadcastInDim S4096x100x1024 ![] bcast_S_S4096x100x1024 (constantI S_ 32 17#32))))

/-- `main_call1_call0_v88`'s composed term of the arguments (named: it is used 2 times). -/
def res_main_call1_call0_v88 (V0 : Valuation τ sig (Elt F)) : (Proc.devRef .tc main_call1_call0_v88 : DevRef τ sig).ty.Contents (Elt F) :=
  addi (res_main_call1_call0_v81 V0) (res_main_call1_call0_v87 V0)

/-- `main_call1_call0_v94`'s composed term of the arguments (named: it is used 3 times). -/
def res_main_call1_call0_v94 (V0 : Valuation τ sig (Elt F)) : (Proc.devRef .tc main_call1_call0_v94 : DevRef τ sig).ty.Contents (Elt F) :=
  xori (res_main_call1_call0_v88 V0) (ori (Host.shli (res_main_call1_call0_v87 V0) (broadcastInDim S4096x100x1024 ![] bcast_S_S4096x100x1024 (constantI S_ 32 26#32))) (Host.shrui (res_main_call1_call0_v87 V0) (broadcastInDim S4096x100x1024 ![] bcast_S_S4096x100x1024 (constantI S_ 32 6#32))))

/-- `main_call1_call0_v95`'s composed term of the arguments (named: it is used 2 times). -/
def res_main_call1_call0_v95 (V0 : Valuation τ sig (Elt F)) : (Proc.devRef .tc main_call1_call0_v95 : DevRef τ sig).ty.Contents (Elt F) :=
  addi (res_main_call1_call0_v88 V0) (res_main_call1_call0_v94 V0)

/-- `main_call1_call0_v107`'s composed term of the arguments (named: it is used 3 times). -/
def res_main_call1_call0_v107 (V0 : Valuation τ sig (Elt F)) : (Proc.devRef .tc main_call1_call0_v107 : DevRef τ sig).ty.Contents (Elt F) :=
  addi (addi (xori (res_main_call1_call0_v95 V0) (ori (Host.shli (res_main_call1_call0_v94 V0) (broadcastInDim S4096x100x1024 ![] bcast_S_S4096x100x1024 (constantI S_ 32 6#32))) (Host.shrui (res_main_call1_call0_v94 V0) (broadcastInDim S4096x100x1024 ![] bcast_S_S4096x100x1024 (constantI S_ 32 26#32))))) (broadcastInDim S4096x100x1024 ![] bcast_S_S4096x100x1024 (res_main_call1_v7 V0))) (broadcastInDim S4096x100x1024 ![] bcast_S_S4096x100x1024 (constantI S_ 32 3#32))

/-- `main_call1_call0_v108`'s composed term of the arguments (named: it is used 2 times). -/
def res_main_call1_call0_v108 (V0 : Valuation τ sig (Elt F)) : (Proc.devRef .tc main_call1_call0_v108 : DevRef τ sig).ty.Contents (Elt F) :=
  addi (addi (res_main_call1_call0_v95 V0) (broadcastInDim S4096x100x1024 ![] bcast_S_S4096x100x1024 (res_main_call1_v5 V0))) (res_main_call1_call0_v107 V0)

/-- `main_call1_call0_v114`'s composed term of the arguments (named: it is used 3 times). -/
def res_main_call1_call0_v114 (V0 : Valuation τ sig (Elt F)) : (Proc.devRef .tc main_call1_call0_v114 : DevRef τ sig).ty.Contents (Elt F) :=
  xori (res_main_call1_call0_v108 V0) (ori (Host.shli (res_main_call1_call0_v107 V0) (broadcastInDim S4096x100x1024 ![] bcast_S_S4096x100x1024 (constantI S_ 32 17#32))) (Host.shrui (res_main_call1_call0_v107 V0) (broadcastInDim S4096x100x1024 ![] bcast_S_S4096x100x1024 (constantI S_ 32 15#32))))

/-- `main_call1_call0_v115`'s composed term of the arguments (named: it is used 2 times). -/
def res_main_call1_call0_v115 (V0 : Valuation τ sig (Elt F)) : (Proc.devRef .tc main_call1_call0_v115 : DevRef τ sig).ty.Contents (Elt F) :=
  addi (res_main_call1_call0_v108 V0) (res_main_call1_call0_v114 V0)

/-- `main_call1_call0_v121`'s composed term of the arguments (named: it is used 3 times). -/
def res_main_call1_call0_v121 (V0 : Valuation τ sig (Elt F)) : (Proc.devRef .tc main_call1_call0_v121 : DevRef τ sig).ty.Contents (Elt F) :=
  xori (res_main_call1_call0_v115 V0) (ori (Host.shli (res_main_call1_call0_v114 V0) (broadcastInDim S4096x100x1024 ![] bcast_S_S4096x100x1024 (constantI S_ 32 29#32))) (Host.shrui (res_main_call1_call0_v114 V0) (broadcastInDim S4096x100x1024 ![] bcast_S_S4096x100x1024 (constantI S_ 32 3#32))))

/-- `main_call1_call0_v122`'s composed term of the arguments (named: it is used 2 times). -/
def res_main_call1_call0_v122 (V0 : Valuation τ sig (Elt F)) : (Proc.devRef .tc main_call1_call0_v122 : DevRef τ sig).ty.Contents (Elt F) :=
  addi (res_main_call1_call0_v115 V0) (res_main_call1_call0_v121 V0)

/-- `main_call1_call0_v128`'s composed term of the arguments (named: it is used 3 times). -/
def res_main_call1_call0_v128 (V0 : Valuation τ sig (Elt F)) : (Proc.devRef .tc main_call1_call0_v128 : DevRef τ sig).ty.Contents (Elt F) :=
  xori (res_main_call1_call0_v122 V0) (ori (Host.shli (res_main_call1_call0_v121 V0) (broadcastInDim S4096x100x1024 ![] bcast_S_S4096x100x1024 (constantI S_ 32 16#32))) (Host.shrui (res_main_call1_call0_v121 V0) (broadcastInDim S4096x100x1024 ![] bcast_S_S4096x100x1024 (constantI S_ 32 16#32))))

/-- `main_call1_call0_v129`'s composed term of the arguments (named: it is used 2 times). -/
def res_main_call1_call0_v129 (V0 : Valuation τ sig (Elt F)) : (Proc.devRef .tc main_call1_call0_v129 : DevRef τ sig).ty.Contents (Elt F) :=
  addi (res_main_call1_call0_v122 V0) (res_main_call1_call0_v128 V0)

/-- `main_call1_call0_v141`'s composed term of the arguments (named: it is used 3 times). -/
def res_main_call1_call0_v141 (V0 : Valuation τ sig (Elt F)) : (Proc.devRef .tc main_call1_call0_v141 : DevRef τ sig).ty.Contents (Elt F) :=
  addi (addi (xori (res_main_call1_call0_v129 V0) (ori (Host.shli (res_main_call1_call0_v128 V0) (broadcastInDim S4096x100x1024 ![] bcast_S_S4096x100x1024 (constantI S_ 32 24#32))) (Host.shrui (res_main_call1_call0_v128 V0) (broadcastInDim S4096x100x1024 ![] bcast_S_S4096x100x1024 (constantI S_ 32 8#32))))) (broadcastInDim S4096x100x1024 ![] bcast_S_S4096x100x1024 (res_main_call1_call0_v1 V0))) (broadcastInDim S4096x100x1024 ![] bcast_S_S4096x100x1024 (constantI S_ 32 4#32))

/-- `main_call1_call0_v142`'s composed term of the arguments (named: it is used 2 times). -/
def res_main_call1_call0_v142 (V0 : Valuation τ sig (Elt F)) : (Proc.devRef .tc main_call1_call0_v142 : DevRef τ sig).ty.Contents (Elt F) :=
  addi (addi (res_main_call1_call0_v129 V0) (broadcastInDim S4096x100x1024 ![] bcast_S_S4096x100x1024 (res_main_call1_v7 V0))) (res_main_call1_call0_v141 V0)

/-- `main_call1_call0_v148`'s composed term of the arguments (named: it is used 3 times). -/
def res_main_call1_call0_v148 (V0 : Valuation τ sig (Elt F)) : (Proc.devRef .tc main_call1_call0_v148 : DevRef τ sig).ty.Contents (Elt F) :=
  xori (res_main_call1_call0_v142 V0) (ori (Host.shli (res_main_call1_call0_v141 V0) (broadcastInDim S4096x100x1024 ![] bcast_S_S4096x100x1024 (constantI S_ 32 13#32))) (Host.shrui (res_main_call1_call0_v141 V0) (broadcastInDim S4096x100x1024 ![] bcast_S_S4096x100x1024 (constantI S_ 32 19#32))))

/-- `main_call1_call0_v149`'s composed term of the arguments (named: it is used 2 times). -/
def res_main_call1_call0_v149 (V0 : Valuation τ sig (Elt F)) : (Proc.devRef .tc main_call1_call0_v149 : DevRef τ sig).ty.Contents (Elt F) :=
  addi (res_main_call1_call0_v142 V0) (res_main_call1_call0_v148 V0)

/-- `main_call1_call0_v155`'s composed term of the arguments (named: it is used 3 times). -/
def res_main_call1_call0_v155 (V0 : Valuation τ sig (Elt F)) : (Proc.devRef .tc main_call1_call0_v155 : DevRef τ sig).ty.Contents (Elt F) :=
  xori (res_main_call1_call0_v149 V0) (ori (Host.shli (res_main_call1_call0_v148 V0) (broadcastInDim S4096x100x1024 ![] bcast_S_S4096x100x1024 (constantI S_ 32 15#32))) (Host.shrui (res_main_call1_call0_v148 V0) (broadcastInDim S4096x100x1024 ![] bcast_S_S4096x100x1024 (constantI S_ 32 17#32))))

/-- `main_call1_call0_v156`'s composed term of the arguments (named: it is used 2 times). -/
def res_main_call1_call0_v156 (V0 : Valuation τ sig (Elt F)) : (Proc.devRef .tc main_call1_call0_v156 : DevRef τ sig).ty.Contents (Elt F) :=
  addi (res_main_call1_call0_v149 V0) (res_main_call1_call0_v155 V0)

/-- `main_call1_call0_v162`'s composed term of the arguments (named: it is used 3 times). -/
def res_main_call1_call0_v162 (V0 : Valuation τ sig (Elt F)) : (Proc.devRef .tc main_call1_call0_v162 : DevRef τ sig).ty.Contents (Elt F) :=
  xori (res_main_call1_call0_v156 V0) (ori (Host.shli (res_main_call1_call0_v155 V0) (broadcastInDim S4096x100x1024 ![] bcast_S_S4096x100x1024 (constantI S_ 32 26#32))) (Host.shrui (res_main_call1_call0_v155 V0) (broadcastInDim S4096x100x1024 ![] bcast_S_S4096x100x1024 (constantI S_ 32 6#32))))

/-- `main_call1_call0_v163`'s composed term of the arguments (named: it is used 2 times). -/
def res_main_call1_call0_v163 (V0 : Valuation τ sig (Elt F)) : (Proc.devRef .tc main_call1_call0_v163 : DevRef τ sig).ty.Contents (Elt F) :=
  addi (res_main_call1_call0_v156 V0) (res_main_call1_call0_v162 V0)

/-- `main_v21`'s composed term of the arguments (named: it is used 2 times). -/
def res_main_v21 (V0 : Valuation τ sig (Elt F)) : (Proc.devRef .tc main_v21 : DevRef τ sig).ty.Contents (Elt F) :=
  addf (Host.negf (Host.log (Host.negf (Host.log (maximumf (broadcastInDim S4096x100x1024 ![] bcast_S_S4096x100x1024 (constant S_ .f32 0x00800000#32)) (addf (maximumf (broadcastInDim S4096x100x1024 ![0, 1, 2] bcast_S1x1x1_S4096x100x1024_0_1_2 (res_main_call1_v2 V0)) (addf (mulf (subf (bitcastToFloat (F := F) .f32 (ori (Host.shrui (xori (addi (res_main_call1_call0_v163 V0) (broadcastInDim S4096x100x1024 ![] bcast_S_S4096x100x1024 (res_main_call1_call0_v1 V0))) (addi (addi (xori (res_main_call1_call0_v163 V0) (ori (Host.shli (res_main_call1_call0_v162 V0) (broadcastInDim S4096x100x1024 ![] bcast_S_S4096x100x1024 (constantI S_ 32 6#32))) (Host.shrui (res_main_call1_call0_v162 V0) (broadcastInDim S4096x100x1024 ![] bcast_S_S4096x100x1024 (constantI S_ 32 26#32))))) (broadcastInDim S4096x100x1024 ![] bcast_S_S4096x100x1024 (res_main_call1_v5 V0))) (broadcastInDim S4096x100x1024 ![] bcast_S_S4096x100x1024 (constantI S_ 32 5#32)))) (broadcastInDim S4096x100x1024 ![] bcast_S_S4096x100x1024 (constantI S_ 32 9#32))) (broadcastInDim S4096x100x1024 ![] bcast_S_S4096x100x1024 (constantI S_ 32 1065353216#32)))) (broadcastInDim S4096x100x1024 ![] bcast_S_S4096x100x1024 (constant S_ .f32 0x3F800000#32))) (broadcastInDim S4096x100x1024 ![0, 1, 2] bcast_S1x1x1_S4096x100x1024_0_1_2 (subf (broadcastInDim S1x1x1 ![] bcast_S_S1x1x1 (id (constant S_ .f32 0x3F800000#32))) (res_main_call1_v2 V0)))) (broadcastInDim S4096x100x1024 ![0, 1, 2] bcast_S1x1x1_S4096x100x1024_0_1_2 (res_main_call1_v2 V0)))) (broadcastInDim S4096x100x1024 ![] bcast_S_S4096x100x1024 (constant S_ .f32 0x00800000#32)))))))) (broadcastInDim S4096x100x1024 ![0, 1, 2] bcast_S4096x1x1024_S4096x100x1024_0_1_2 (broadcastInDim S4096x1x1024 ![0, 2] bcast_S4096x1024_S4096x1x1024_0_2 (Host.log (maximumf (broadcastInDim S4096x1024 ![] bcast_S_S4096x1024 (id (constant S_ .f32 0x0DA24260#32))) (V0 (Proc.devRef .tc main_arg0))))))

/-- `main_call2_v0`'s composed term of the arguments (named: it is used 2 times). -/
def res_main_call2_v0 (V0 : Valuation τ sig (Elt F)) : (Proc.devRef .tc main_call2_v0 : DevRef τ sig).ty.Contents (Elt F) :=
  iotaInDim S4096x100x1024 32 2

/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

/-- `main_call2_c`'s composed term of the arguments (named: it is used 2 times). -/
def res_main_call2_c (V0 : Valuation τ sig (Elt F)) : (Proc.devRef .tc main_call2_c : DevRef τ sig).ty.Contents (Elt F) :=
  constantI S_ 32 0#32

/-- `main_v22`'s composed term of the arguments (named: it is used 3 times). -/
def res_main_v22 (V0 : Valuation τ sig (Elt F)) : (Proc.devRef .tc main_v22 : DevRef τ sig).ty.Contents (Elt F) :=
  (fun j => (Host.argReduce reducer_argmax_f32_i32 (res_main_v21 V0) (res_main_call2_v0 V0) (res_main_call2_cst V0) (res_main_call2_c V0) reducesTo_S4096x100x1024_S4096x100_d2 h_S_ j).2)

/-- `main_v32`'s composed term of the arguments (named: it is used 3 times). -/
def res_main_v32 (V0 : Valuation τ sig (Elt F)) : (Proc.devRef .tc main_v32 : DevRef τ sig).ty.Contents (Elt F) :=
  broadcastInDim S4096x1 ![0] bcast_S4096_S4096x1_0 (iotaInDim S4096 32 0)

/-- `main_v47`'s composed term of the arguments (named: it is used 4 times). -/
def res_main_v47 (V0 : Valuation τ sig (Elt F)) : (Proc.devRef .tc main_v47 : DevRef τ sig).ty.Contents (Elt F) :=
  Host.scatterAdd scatter_S4096x1024_S4096x100x2_S4096x100_n_01_01_2 (broadcastInDim S4096x1024 ![] bcast_S_S4096x1024 (constant S_ .f32 0x00000000#32)) (concatenate S4096x100x2 2 [⟨S4096x100x1, (broadcastInDim S4096x100x1 ![0, 1] bcast_S4096x100_S4096x100x1_0_1 (broadcastInDim S4096x100 ![0, 1] bcast_S4096x1_S4096x100_0_1 (select (cmpi .slt (res_main_v32 V0) (broadcastInDim S4096x1 ![] bcast_S_S4096x1 (constantI S_ 32 0#32))) (addi (res_main_v32 V0) (broadcastInDim S4096x1 ![] bcast_S_S4096x1 (constantI S_ 32 4096#32))) (res_main_v32 V0))))⟩, ⟨S4096x100x1, (broadcastInDim S4096x100x1 ![0, 1] bcast_S4096x100_S4096x100x1_0_1 (select (cmpi .slt (res_main_v22 V0) (broadcastInDim S4096x100 ![] bcast_S_S4096x100 (constantI S_ 32 0#32))) (addi (res_main_v22 V0) (broadcastInDim S4096x100 ![] bcast_S_S4096x100 (constantI S_ 32 1024#32))) (res_main_v22 V0)))⟩] concatenates_S4096x100x1_S4096x100x1_S4096x100x2_d2) (uitofp .f32 (cmpi .slt (broadcastInDim S4096x100 ![0, 1] bcast_S1x100_S4096x100_0_1 (broadcastInDim S1x100 ![1] bcast_S100_S1x100_1 (iotaInDim S100 32 0))) (broadcastInDim S4096x100 ![0, 1] bcast_S4096x1_S4096x100_0_1 (broadcastInDim S4096x1 ![0] bcast_S4096_S4096x1_0 (fptosi 32 (V0 (Proc.devRef .tc main_arg1)))))))

/-- `main_v58`'s composed term of the arguments (named: it is used 2 times). -/
def res_main_v58 (V0 : Valuation τ sig (Elt F)) : (Proc.devRef .tc main_v58 : DevRef τ sig).ty.Contents (Elt F) :=
  subf (V0 (Proc.devRef .tc main_arg1)) (Host.reduceAdd (res_main_v47 V0) (constant S_ .f32 0x00000000#32) reducesTo_S4096x1024_S4096_d1 h_S_)

/-- `main_v62`'s composed term of the arguments (named: it is used 2 times). -/
def res_main_v62 (V0 : Valuation τ sig (Elt F)) : (Proc.devRef .tc main_v62 : DevRef τ sig).ty.Contents (Elt F) :=
  subf (V0 (Proc.devRef .tc main_arg2)) (Host.reduceAdd (res_main_v47 V0) (constant S_ .f32 0x00000000#32) reducesTo_S4096x1024_S1024_d0 h_S_)

/-- `res_main_v47` by its position among the values @main returns, 1 counting from 0: the name for hand proofs to cite, since
    a re-print renumbers `main_v47`. An abbreviation: it unfolds to the `res_main_v47` that `run` states. -/
abbrev res_out1 (V0 : Valuation τ sig (Elt F)) : (Proc.devRef .tc main_v47 : DevRef τ sig).ty.Contents (Elt F) := res_main_v47 V0

/-- The device's buffer contents before @main's first window. -/
def val0 (V0 : Valuation τ sig (Elt F)) : Valuation τ sig (Elt F) := V0
/-- At this stage `main_arg0` is as launched. -/
theorem val0_main_arg0 (V0 : Valuation τ sig (Elt F)) : val0 V0 (no_index (Proc.devRef .tc main_arg0)) = V0 (Proc.devRef .tc main_arg0) := rfl
/-- At this stage `main_arg1` is as launched. -/
theorem val0_main_arg1 (V0 : Valuation τ sig (Elt F)) : val0 V0 (no_index (Proc.devRef .tc main_arg1)) = V0 (Proc.devRef .tc main_arg1) := rfl
/-- At this stage `main_arg2` is as launched. -/
theorem val0_main_arg2 (V0 : Valuation τ sig (Elt F)) : val0 V0 (no_index (Proc.devRef .tc main_arg2)) = V0 (Proc.devRef .tc main_arg2) := rfl
/-- At this stage `main_arg3` is as launched. -/
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_call0_v0, main_call0_v1, main_v1, main_v2, main_c, main_c_0, main_v3, main_v4, main_v5, main_c_1, main_v6, main_v7, main_v8, main_v9, main_cst_2, main_cst_3, main_call1_v0, main_call1_v1, main_call1_v2, main_call1_v3, main_call1_v4, main_call1_v5, main_call1_v6, main_call1_v7, main_call1_v8, main_call1_v9, main_call1_v10, main_call1_c]
/-- These operations write only the listed buffers. -/
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- At this stage `main_arg0` is as launched. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- At this stage `main_arg1` is as launched. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
/-- At this stage `main_arg2` is as launched. -/
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
/-- At this stage `main_arg3` is as launched. -/
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxHeartbeats 2000000 in
/-- At this stage `main_v0` holds its named term. -/
theorem val0_1_main_v0 (V0 : Valuation τ sig (Elt F)) : val0_1 V0 (no_index (Proc.devRef .tc main_v0)) = fptosi 32 (V0 (Proc.devRef .tc main_arg1)) := by
  unfold val0_1
  simp only [ops_part0_0, TRef.binary, TRef.nullary, TRef.reshape, TRef.unary, TRef.toBuf, TRef.ofBuf, cast_eq]
  after_results_simp
  simp only [val0_main_arg1] <;> rfl
set_option maxHeartbeats 2000000 in
/-- At this stage `main_v2` holds its named term. -/
theorem val0_1_main_v2 (V0 : Valuation τ sig (Elt F)) : val0_1 V0 (no_index (Proc.devRef .tc main_v2)) = Host.log (maximumf (broadcastInDim S4096x1024 ![] bcast_S_S4096x1024 (id (constant S_ .f32 0x0DA24260#32))) (V0 (Proc.devRef .tc main_arg0))) := by
  unfold val0_1
  simp only [ops_part0_0, TRef.binary, TRef.nullary, TRef.reshape, TRef.unary, TRef.toBuf, TRef.ofBuf, cast_eq]
  after_results_simp
  simp only [val0_main_arg0] <;> rfl
set_option maxHeartbeats 2000000 in
/-- At this stage `main_call1_v2` holds its named term. -/
theorem val0_1_main_call1_v2 (V0 : Valuation τ sig (Elt F)) : val0_1 V0 (no_index (Proc.devRef .tc main_call1_v2)) = res_main_call1_v2 V0 := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_v3` holds its named term. -/
theorem val0_1_main_call1_v3 (V0 : Valuation τ sig (Elt F)) : val0_1 V0 (no_index (Proc.devRef .tc main_call1_v3)) = broadcastInDim S1x1x1 ![] bcast_S_S1x1x1 (id (constant S_ .f32 0x3F800000#32)) := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_v5` holds its named term. -/
theorem val0_1_main_call1_v5 (V0 : Valuation τ sig (Elt F)) : val0_1 V0 (no_index (Proc.devRef .tc main_call1_v5)) = res_main_call1_v5 V0 := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_v7` holds its named term. -/
theorem val0_1_main_call1_v7 (V0 : Valuation τ sig (Elt F)) : val0_1 V0 (no_index (Proc.devRef .tc main_call1_v7)) = res_main_call1_v7 V0 := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_v8` holds its named term. -/
theorem val0_1_main_call1_v8 (V0 : Valuation τ sig (Elt F)) : val0_1 V0 (no_index (Proc.devRef .tc main_call1_v8)) = iotaInDim S4096x100x1024 64 0 := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_v9` holds its named term. -/
theorem val0_1_main_call1_v9 (V0 : Valuation τ sig (Elt F)) : val0_1 V0 (no_index (Proc.devRef .tc main_call1_v9)) = iotaInDim S4096x100x1024 64 1 := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_v10` holds its named term. -/
theorem val0_1_main_call1_v10 (V0 : Valuation τ sig (Elt F)) : val0_1 V0 (no_index (Proc.devRef .tc main_call1_v10)) = iotaInDim S4096x100x1024 64 2 := by
  unfold val0_1
  simp only [ops_part0_0, TRef.binary, TRef.nullary, TRef.reshape, TRef.unary, TRef.toBuf, TRef.ofBuf, cast_eq]
  after_results_simp
  all_goals rfl
set_option maxHeartbeats 2000000 in
/-- At this stage `main_call1_c` holds its named term. -/
theorem val0_1_main_call1_c (V0 : Valuation τ sig (Elt F)) : val0_1 V0 (no_index (Proc.devRef .tc main_call1_c)) = constantI S_ 64 102400#64 := by
  unfold val0_1
  simp only [ops_part0_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_v11, main_call1_v12, main_call1_c_0, main_call1_v13, main_call1_v14, main_call1_c_1, main_call1_v15, main_call1_v16, main_call1_v17, main_call1_v18, main_call1_c_2, main_call1_v19, main_call1_v20, main_call1_v21, main_call1_v22, main_call1_call0_v0, main_call1_call0_c, main_call1_call0_v1, main_call1_call0_v2, main_call1_call0_v3, main_call1_call0_v4, main_call1_call0_v5, main_call1_call0_v6, main_call1_call0_c_0, main_call1_call0_v7, main_call1_call0_v8, main_call1_call0_c_1, main_call1_call0_v9, main_call1_call0_v10, main_call1_call0_v11]
/-- These operations write only the listed buffers. -/
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- At this stage `main_arg0` is as launched. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- At this stage `main_arg1` is as launched. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- At this stage `main_arg2` is as launched. -/
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
/-- At this stage `main_arg3` is as launched. -/
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
/-- At this stage `main_v0` holds its named term. -/
theorem val0_2_main_v0 (V0 : Valuation τ sig (Elt F)) : val0_2 V0 (no_index (Proc.devRef .tc main_v0)) = fptosi 32 (V0 (Proc.devRef .tc main_arg1)) :=
  (val0_2_keep V0 main_v0 (by decide)).trans (val0_1_main_v0 V0)
/-- At this stage `main_v2` holds its named term. -/
theorem val0_2_main_v2 (V0 : Valuation τ sig (Elt F)) : val0_2 V0 (no_index (Proc.devRef .tc main_v2)) = Host.log (maximumf (broadcastInDim S4096x1024 ![] bcast_S_S4096x1024 (id (constant S_ .f32 0x0DA24260#32))) (V0 (Proc.devRef .tc main_arg0))) :=
  (val0_2_keep V0 main_v2 (by decide)).trans (val0_1_main_v2 V0)
/-- At this stage `main_call1_v2` holds its named term. -/
theorem val0_2_main_call1_v2 (V0 : Valuation τ sig (Elt F)) : val0_2 V0 (no_index (Proc.devRef .tc main_call1_v2)) = res_main_call1_v2 V0 :=
  (val0_2_keep V0 main_call1_v2 (by decide)).trans (val0_1_main_call1_v2 V0)
/-- At this stage `main_call1_v3` holds its named term. -/
theorem val0_2_main_call1_v3 (V0 : Valuation τ sig (Elt F)) : val0_2 V0 (no_index (Proc.devRef .tc main_call1_v3)) = broadcastInDim S1x1x1 ![] bcast_S_S1x1x1 (id (constant S_ .f32 0x3F800000#32)) :=
  (val0_2_keep V0 main_call1_v3 (by decide)).trans (val0_1_main_call1_v3 V0)
/-- At this stage `main_call1_v5` holds its named term. -/
theorem val0_2_main_call1_v5 (V0 : Valuation τ sig (Elt F)) : val0_2 V0 (no_index (Proc.devRef .tc main_call1_v5)) = res_main_call1_v5 V0 :=
  (val0_2_keep V0 main_call1_v5 (by decide)).trans (val0_1_main_call1_v5 V0)
/-- At this stage `main_call1_v7` holds its named term. -/
theorem val0_2_main_call1_v7 (V0 : Valuation τ sig (Elt F)) : val0_2 V0 (no_index (Proc.devRef .tc main_call1_v7)) = res_main_call1_v7 V0 :=
  (val0_2_keep V0 main_call1_v7 (by decide)).trans (val0_1_main_call1_v7 V0)
set_option maxHeartbeats 2000000 in
/-- At this stage `main_call1_call0_v1` holds its named term. -/
theorem val0_2_main_call1_call0_v1 (V0 : Valuation τ sig (Elt F)) : val0_2 V0 (no_index (Proc.devRef .tc main_call1_call0_v1)) = res_main_call1_call0_v1 V0 := by
  unfold val0_2
  simp only [ops_part0_1, TRef.binary, TRef.nullary, TRef.unary, TRef.toBuf, TRef.ofBuf, cast_eq]
  after_results_simp
  simp only [val0_1_main_call1_v7, val0_1_main_call1_v5] <;> rfl
set_option maxHeartbeats 2000000 in
/-- At this stage `main_call1_call0_v6` holds its named term. -/
theorem val0_2_main_call1_call0_v6 (V0 : Valuation τ sig (Elt F)) : val0_2 V0 (no_index (Proc.devRef .tc main_call1_call0_v6)) = res_main_call1_call0_v6 V0 := by
  unfold val0_2
  simp only [ops_part0_1, TRef.binary, TRef.nullary, TRef.unary, TRef.toBuf, TRef.ofBuf, cast_eq]
  after_results_simp
  simp only [val0_1_main_call1_v7, val0_1_main_call1_v10, val0_1_main_call1_v9, val0_1_main_call1_v8, val0_1_main_call1_c, val0_1_main_call1_v5] <;> rfl
set_option maxHeartbeats 2000000 in
/-- At this stage `main_call1_call0_v11` holds its named term. -/
theorem val0_2_main_call1_call0_v11 (V0 : Valuation τ sig (Elt F)) : val0_2 V0 (no_index (Proc.devRef .tc main_call1_call0_v11)) = ori (Host.shli (res_main_call1_call0_v5 V0) (broadcastInDim S4096x100x1024 ![] bcast_S_S4096x100x1024 (constantI S_ 32 13#32))) (Host.shrui (res_main_call1_call0_v5 V0) (broadcastInDim S4096x100x1024 ![] bcast_S_S4096x100x1024 (constantI S_ 32 19#32))) := by
  unfold val0_2
  simp only [ops_part0_1, TRef.binary, TRef.nullary, TRef.unary, TRef.toBuf, TRef.ofBuf, cast_eq]
  after_results_simp
  simp only [val0_1_main_call1_v7, val0_1_main_call1_v10, val0_1_main_call1_v9, val0_1_main_call1_v8, val0_1_main_call1_c] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_call0_v12, main_call1_call0_v13, main_call1_call0_c_2, main_call1_call0_v14, main_call1_call0_v15, main_call1_call0_c_3, main_call1_call0_v16, main_call1_call0_v17, main_call1_call0_v18, main_call1_call0_v19, main_call1_call0_v20, main_call1_call0_c_4, main_call1_call0_v21, main_call1_call0_v22, main_call1_call0_c_5, main_call1_call0_v23, main_call1_call0_v24, main_call1_call0_v25, main_call1_call0_v26, main_call1_call0_v27, main_call1_call0_c_6, main_call1_call0_v28, main_call1_call0_v29, main_call1_call0_c_7, main_call1_call0_v30, main_call1_call0_v31, main_call1_call0_v32, main_call1_call0_v33, main_call1_call0_v34, main_call1_call0_v35]
/-- These operations write only the listed buffers. -/
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- At this stage `main_arg0` is as launched. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- At this stage `main_arg1` is as launched. -/
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
/-- At this stage `main_arg2` is as launched. -/
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
/-- At this stage `main_arg3` is as launched. -/
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
/-- At this stage `main_v0` holds its named term. -/
theorem val0_3_main_v0 (V0 : Valuation τ sig (Elt F)) : val0_3 V0 (no_index (Proc.devRef .tc main_v0)) = fptosi 32 (V0 (Proc.devRef .tc main_arg1)) :=
  (val0_3_keep V0 main_v0 (by decide)).trans (val0_2_main_v0 V0)
/-- At this stage `main_v2` holds its named term. -/
theorem val0_3_main_v2 (V0 : Valuation τ sig (Elt F)) : val0_3 V0 (no_index (Proc.devRef .tc main_v2)) = Host.log (maximumf (broadcastInDim S4096x1024 ![] bcast_S_S4096x1024 (id (constant S_ .f32 0x0DA24260#32))) (V0 (Proc.devRef .tc main_arg0))) :=
  (val0_3_keep V0 main_v2 (by decide)).trans (val0_2_main_v2 V0)
/-- At this stage `main_call1_v2` holds its named term. -/
theorem val0_3_main_call1_v2 (V0 : Valuation τ sig (Elt F)) : val0_3 V0 (no_index (Proc.devRef .tc main_call1_v2)) = res_main_call1_v2 V0 :=
  (val0_3_keep V0 main_call1_v2 (by decide)).trans (val0_2_main_call1_v2 V0)
/-- At this stage `main_call1_v3` holds its named term. -/
theorem val0_3_main_call1_v3 (V0 : Valuation τ sig (Elt F)) : val0_3 V0 (no_index (Proc.devRef .tc main_call1_v3)) = broadcastInDim S1x1x1 ![] bcast_S_S1x1x1 (id (constant S_ .f32 0x3F800000#32)) :=
  (val0_3_keep V0 main_call1_v3 (by decide)).trans (val0_2_main_call1_v3 V0)
/-- At this stage `main_call1_v5` holds its named term. -/
theorem val0_3_main_call1_v5 (V0 : Valuation τ sig (Elt F)) : val0_3 V0 (no_index (Proc.devRef .tc main_call1_v5)) = res_main_call1_v5 V0 :=
  (val0_3_keep V0 main_call1_v5 (by decide)).trans (val0_2_main_call1_v5 V0)
/-- At this stage `main_call1_v7` holds its named term. -/
theorem val0_3_main_call1_v7 (V0 : Valuation τ sig (Elt F)) : val0_3 V0 (no_index (Proc.devRef .tc main_call1_v7)) = res_main_call1_v7 V0 :=
  (val0_3_keep V0 main_call1_v7 (by decide)).trans (val0_2_main_call1_v7 V0)
/-- At this stage `main_call1_call0_v1` holds its named term. -/
theorem val0_3_main_call1_call0_v1 (V0 : Valuation τ sig (Elt F)) : val0_3 V0 (no_index (Proc.devRef .tc main_call1_call0_v1)) = res_main_call1_call0_v1 V0 :=
  (val0_3_keep V0 main_call1_call0_v1 (by decide)).trans (val0_2_main_call1_call0_v1 V0)
set_option maxHeartbeats 2000000 in
/-- At this stage `main_call1_call0_v33` holds its named term. -/
theorem val0_3_main_call1_call0_v33 (V0 : Valuation τ sig (Elt F)) : val0_3 V0 (no_index (Proc.devRef .tc main_call1_call0_v33)) = xori (res_main_call1_call0_v27 V0) (ori (Host.shli (res_main_call1_call0_v26 V0) (broadcastInDim S4096x100x1024 ![] bcast_S_S4096x100x1024 (constantI S_ 32 6#32))) (Host.shrui (res_main_call1_call0_v26 V0) (broadcastInDim S4096x100x1024 ![] bcast_S_S4096x100x1024 (constantI S_ 32 26#32)))) := by
  unfold val0_3
  simp only [ops_part0_2, TRef.binary, TRef.nullary, TRef.unary, TRef.toBuf, TRef.ofBuf, cast_eq]
  after_results_simp
  simp only [val0_2_main_call1_call0_v11, val0_2_main_call1_call0_v6] <;> rfl
set_option maxHeartbeats 2000000 in
/-- At this stage `main_call1_call0_v35` holds its named term. -/
theorem val0_3_main_call1_call0_v35 (V0 : Valuation τ sig (Elt F)) : val0_3 V0 (no_index (Proc.devRef .tc main_call1_call0_v35)) = addi (res_main_call1_call0_v27 V0) (broadcastInDim S4096x100x1024 ![] bcast_S_S4096x100x1024 (res_main_call1_v7 V0)) := by
  unfold val0_3
  simp only [ops_part0_2, TRef.binary, TRef.nullary, TRef.unary, TRef.toBuf, TRef.ofBuf, cast_eq]
  after_results_simp
  simp only [val0_2_main_call1_v7, val0_2_main_call1_call0_v11, val0_2_main_call1_call0_v6] <;> rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call1_call0_v36, main_call1_call0_v37, main_call1_call0_c_8, main_call1_call0_v38, main_call1_call0_v39, main_call1_call0_v40, main_call1_call0_c_9, main_call1_call0_v41, main_call1_call0_v42, main_call1_call0_c_10, main_call1_call0_v43, main_call1_call0_v44, main_call1_call0_v45, main_call1_call0_v46, main_call1_call0_v47, main_call1_call0_c_11, main_call1_call0_v48, main_call1_call0_v49, main_call1_call0_c_12, main_call1_call0_v50, main_call1_call0_v51, main_call1_call0_v52, main_call1_call0_v53, main_call1_call0_v54, main_call1_call0_c_13, main_call1_call0_v55, main_call1_call0_v56, main_call1_call0_c_14, main_call1_call0_v57, main_call1_call0_v58]
/-- These operations write only the listed buffers. -/
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
/-- At this stage `main_arg0` is as launched. -/
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
/-- At this stage `main_arg1` is as launched. -/
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
/-- At this stage `main_arg2` is as launched. -/
theorem val0_4_main_arg2 (V0 : Valuation τ sig (Elt F)) : val0_4 V0 (no_index (Proc.devRef .tc main_arg2)) = V0 (Proc.devRef .tc main_arg2) :=
  (val0_4_keep V0 main_arg2 (by decide)).trans (val0_3_main_arg2 V0)
/-- At this stage `main_arg3` is as launched. -/
theorem val0_4_main_arg3 (V0 : Valuation τ sig (Elt F)) : val0_4 V0 (no_index (Proc.devRef .tc main_arg3)) = V0 (Proc.devRef .tc main_arg3) :=
  (val0_4_keep V0 main_arg3 (by decide)).trans (val0_3_main_arg3 V0)
/-- At this stage `main_v0` holds its named term. -/
theorem val0_4_main_v0 (V0 : Valuation τ sig (Elt F)) : val0_4 V0 (no_index (Proc.devRef .tc main_v0)) = fptosi 32 (V0 (Proc.devRef .tc main_arg1)) :=
  (val0_4_keep V0 main_v0 (by decide)).trans (val0_3_main_v0 V0)
/-- At this stage `main_v2` holds its named term. -/
theorem val0_4_main_v2 (V0 : Valuation τ sig (Elt F)) : val0_4 V0 (no_index (Proc.devRef .tc main_v2)) = Host.log (maximumf (broadcastInDim S4096x1024 ![] bcast_S_S4096x1024 (id (constant S_ .f32 0x0DA24260#32))) (V0 (Proc.devRef .tc main_arg0))) :=
  (val0_4_keep V0 main_v2 (by decide)).trans (val0_3_main_v2 V0)
/-- At this stage `main_call1_v2` holds its named term. -/
theorem val0_4_main_call1_v2 (V0 : Valuation τ sig (Elt F)) : val0_4 V0 (no_index (Proc.devRef .tc main_call1_v2)) = res_main_call1_v2 V0 :=
  (val0_4_keep V0 main_call1_v2 (by decide)).trans (val0_3_main_call1_v2 V0)
/-- At this stage `main_call1_v3` holds its named term. -/
theorem val0_4_main_call1_v3 (V0 : Valuation τ sig (Elt F)) : val0_4 V0 (no_index (Proc.devRef .tc main_call1_v3)) = broadcastInDim S1x1x1 ![] bcast_S_S1x1x1 (id (constant S_ .f32 0x3F800000#32)) :=
  (val0_4_keep V0 main_call1_v3 (by decide)).trans (val0_3_main_call1_v3 V0)
/-- At this stage `main_call1_v5` holds its named term. -/
theorem val0_4_main_call1_v5 (V0 : Valuation τ sig (Elt F)) : val0_4 V0 (no_index (Proc.devRef .tc main_call1_v5)) = res_main_call1_v5 V0 :=
  (val0_4_keep V0 main_call1_v5 (by decide)).trans (val0_3_main_call1_v5 V0)
/-- At this stage `main_call1_v7` holds its named term. -/
theorem val0_4_main_call1_v7 (V0 : Valuation τ sig (Elt F)) : val0_4 V0 (no_index (Proc.devRef .tc main_call1_v7)) = res_main_call1_v7 V0 :=
  (val0_4_keep V0 main_call1_v7 (by decide)).trans (val0_3_main_call1_v7 V0)
/-- At this stage `main_call1_call0_v1` holds its named term. -/
theorem val0_4_main_call1_call0_v1 (V0 : Valuation τ sig (Elt F)) : val0_4 V0 (no_index (Proc.devRef .tc main_call1_call0_v1)) = res_main_call1_call0_v1 V0 :=
  (val0_4_keep V0 main_call1_call0_v1 (by decide)).trans (val0_3_main_call1_call0_v1 V0)
set_option maxHeartbeats 2000000 in
/-- At this stage `main_call1_call0_v54` holds its named term. -/
theorem val0_4_main_call1_call0_v54 (V0 : Valuation τ sig (Elt F)) : val0_4 V0 (no_index (Proc.devRef .tc main_call1_call0_v54)) = res_main_call1_call0_v54 V0 := by
  unfold val0_4
  simp only [ops_part0_3, TRef.binary, TRef.nullary, TRef.unary, TRef.toBuf, TRef.ofBuf, cast_eq]
  after_results_simp
  simp only [val0_3_main_call1_call0_v1, val0_3_main_call1_call0_v33, val0_3_main_call1_call0_v35] <;> rfl
set_option maxHeartbeats 2000000 in
/-- At this stage `main_call1_call0_v56` holds its named term. -/
theorem val0_4_main_call1_call0_v56 (V0 : Valuation τ sig (Elt F)) : val0_4 V0 (no_index (Proc.devRef .tc main_call1_call0_v56)) = Host.shli (res_main_call1_call0_v53 V0) (broadcastInDim S4096x100x1024 ![] bcast_S_S4096x100x1024 (constantI S_ 32 16#32)) := by
  unfold val0_4
  simp only [ops_part0_3, TRef.binary, TRef.nullary, TRef.unary, TRef.toBuf, TRef.ofBuf, cast_eq]
  after_results_simp
  simp only [val0_3_main_call1_call0_v1, val0_3_main_call1_call0_v33, val0_3_main_call1_call0_v35] <;> rfl
set_option maxHeartbeats 2000000 in
/-- At this stage `main_call1_call0_v58` holds its named term. -/
theorem val0_4_main_call1_call0_v58 (V0 : Valuation τ sig (Elt F)) : val0_4 V0 (no_index (Proc.devRef .tc main_call1_call0_v58)) = Host.shrui (res_main_call1_call0_v53 V0) (broadcastInDim S4096x100x1024 ![] bcast_S_S4096x100x1024 (constantI S_ 32 16#32)) := by
  unfold val0_4
  simp only [ops_part0_3, TRef.binary, TRef.nullary, TRef.unary, TRef.toBuf, TRef.ofBuf, cast_eq]
  after_results_simp
  simp only [val0_3_main_call1_call0_v1, val0_3_main_call1_call0_v33, val0_3_main_call1_call0_v35] <;> rfl

end Cert.ReferenceIdeal.Value

end
-- ==== Proof.RefRun.lean ====
/- The rest of the reference's operations read back, and `run`: every weakly fair execution of the reference ends
   with each result at its term of the arguments, the arguments unchanged. -/
module

public import Idealize.ShloMosaic.Lib.Quiescent
public import proofs.«01_k».proof.Proof.RefTerms

@[expose] public section

set_option Elab.async false
set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call1_call0_v59, main_call1_call0_v60, main_call1_call0_v61, main_call1_call0_c_15, main_call1_call0_v62, main_call1_call0_v63, main_call1_call0_c_16, main_call1_call0_v64, main_call1_call0_v65, main_call1_call0_v66, main_call1_call0_v67, main_call1_call0_v68, main_call1_call0_v69, main_call1_call0_v70, main_call1_call0_v71, main_call1_call0_c_17, main_call1_call0_v72, main_call1_call0_v73, main_call1_call0_v74, main_call1_call0_c_18, main_call1_call0_v75, main_call1_call0_v76, main_call1_call0_c_19, main_call1_call0_v77, main_call1_call0_v78, main_call1_call0_v79, main_call1_call0_v80, main_call1_call0_v81, main_call1_call0_c_20, main_call1_call0_v82]
/-- These operations write only the listed buffers. -/
theorem ops_part0_4_writes : (ops_part0_4 : List (HloOp τ sig (Elt F))).Forall fun op => op.writes ⊆ (ops_part0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
/-- At this stage `main_arg0` is as launched. -/
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
/-- At this stage `main_arg1` is as launched. -/
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
/-- At this stage `main_arg2` is as launched. -/
theorem val0_5_main_arg2 (V0 : Valuation τ sig (Elt F)) : val0_5 V0 (no_index (Proc.devRef .tc main_arg2)) = V0 (Proc.devRef .tc main_arg2) :=
  (val0_5_keep V0 main_arg2 (by decide)).trans (val0_4_main_arg2 V0)
/-- At this stage `main_arg3` is as launched. -/
theorem val0_5_main_arg3 (V0 : Valuation τ sig (Elt F)) : val0_5 V0 (no_index (Proc.devRef .tc main_arg3)) = V0 (Proc.devRef .tc main_arg3) :=
  (val0_5_keep V0 main_arg3 (by decide)).trans (val0_4_main_arg3 V0)
/-- At this stage `main_v0` holds its named term. -/
theorem val0_5_main_v0 (V0 : Valuation τ sig (Elt F)) : val0_5 V0 (no_index (Proc.devRef .tc main_v0)) = fptosi 32 (V0 (Proc.devRef .tc main_arg1)) :=
  (val0_5_keep V0 main_v0 (by decide)).trans (val0_4_main_v0 V0)
/-- At this stage `main_v2` holds its named term. -/
theorem val0_5_main_v2 (V0 : Valuation τ sig (Elt F)) : val0_5 V0 (no_index (Proc.devRef .tc main_v2)) = Host.log (maximumf (broadcastInDim S4096x1024 ![] bcast_S_S4096x1024 (id (constant S_ .f32 0x0DA24260#32))) (V0 (Proc.devRef .tc main_arg0))) :=
  (val0_5_keep V0 main_v2 (by decide)).trans (val0_4_main_v2 V0)
/-- At this stage `main_call1_v2` holds its named term. -/
theorem val0_5_main_call1_v2 (V0 : Valuation τ sig (Elt F)) : val0_5 V0 (no_index (Proc.devRef .tc main_call1_v2)) = res_main_call1_v2 V0 :=
  (val0_5_keep V0 main_call1_v2 (by decide)).trans (val0_4_main_call1_v2 V0)
/-- At this stage `main_call1_v3` holds its named term. -/
theorem val0_5_main_call1_v3 (V0 : Valuation τ sig (Elt F)) : val0_5 V0 (no_index (Proc.devRef .tc main_call1_v3)) = broadcastInDim S1x1x1 ![] bcast_S_S1x1x1 (id (constant S_ .f32 0x3F800000#32)) :=
  (val0_5_keep V0 main_call1_v3 (by decide)).trans (val0_4_main_call1_v3 V0)
/-- At this stage `main_call1_v5` holds its named term. -/
theorem val0_5_main_call1_v5 (V0 : Valuation τ sig (Elt F)) : val0_5 V0 (no_index (Proc.devRef .tc main_call1_v5)) = res_main_call1_v5 V0 :=
  (val0_5_keep V0 main_call1_v5 (by decide)).trans (val0_4_main_call1_v5 V0)
/-- At this stage `main_call1_v7` holds its named term. -/
theorem val0_5_main_call1_v7 (V0 : Valuation τ sig (Elt F)) : val0_5 V0 (no_index (Proc.devRef .tc main_call1_v7)) = res_main_call1_v7 V0 :=
  (val0_5_keep V0 main_call1_v7 (by decide)).trans (val0_4_main_call1_v7 V0)
/-- At this stage `main_call1_call0_v1` holds its named term. -/
theorem val0_5_main_call1_call0_v1 (V0 : Valuation τ sig (Elt F)) : val0_5 V0 (no_index (Proc.devRef .tc main_call1_call0_v1)) = res_main_call1_call0_v1 V0 :=
  (val0_5_keep V0 main_call1_call0_v1 (by decide)).trans (val0_4_main_call1_call0_v1 V0)
set_option maxHeartbeats 2000000 in
/-- At this stage `main_call1_call0_v80` holds its named term. -/
theorem val0_5_main_call1_call0_v80 (V0 : Valuation τ sig (Elt F)) : val0_5 V0 (no_index (Proc.devRef .tc main_call1_call0_v80)) = res_main_call1_call0_v80 V0 := by
  unfold val0_5
  simp only [ops_part0_4, TRef.binary, TRef.nullary, TRef.unary, TRef.toBuf, TRef.ofBuf, cast_eq]
  after_results_simp
  simp only [val0_4_main_call1_v5, val0_4_main_call1_call0_v58, val0_4_main_call1_call0_v56, val0_4_main_call1_call0_v54, val0_4_main_call1_call0_v1] <;> rfl
set_option maxHeartbeats 2000000 in
/-- At this stage `main_call1_call0_v81` holds its named term. -/
theorem val0_5_main_call1_call0_v81 (V0 : Valuation τ sig (Elt F)) : val0_5 V0 (no_index (Proc.devRef .tc main_call1_call0_v81)) = res_main_call1_call0_v81 V0 := by
  unfold val0_5
  simp only [ops_part0_4, TRef.binary, TRef.nullary, TRef.unary, TRef.toBuf, TRef.ofBuf, cast_eq]
  after_results_simp
  simp only [val0_4_main_call1_v5, val0_4_main_call1_call0_v58, val0_4_main_call1_call0_v56, val0_4_main_call1_call0_v54, val0_4_main_call1_call0_v1] <;> rfl
set_option maxHeartbeats 2000000 in
/-- At this stage `main_call1_call0_v82` holds its named term. -/
theorem val0_5_main_call1_call0_v82 (V0 : Valuation τ sig (Elt F)) : val0_5 V0 (no_index (Proc.devRef .tc main_call1_call0_v82)) = broadcastInDim S4096x100x1024 ![] bcast_S_S4096x100x1024 (constantI S_ 32 15#32) := by
  unfold val0_5
  simp only [ops_part0_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call1_call0_v83, main_call1_call0_c_21, main_call1_call0_v84, main_call1_call0_v85, main_call1_call0_v86, main_call1_call0_v87, main_call1_call0_v88, main_call1_call0_c_22, main_call1_call0_v89, main_call1_call0_v90, main_call1_call0_c_23, main_call1_call0_v91, main_call1_call0_v92, main_call1_call0_v93, main_call1_call0_v94, main_call1_call0_v95, main_call1_call0_c_24, main_call1_call0_v96, main_call1_call0_v97, main_call1_call0_c_25, main_call1_call0_v98, main_call1_call0_v99, main_call1_call0_v100, main_call1_call0_v101, main_call1_call0_v102, main_call1_call0_v103, main_call1_call0_v104, main_call1_call0_v105, main_call1_call0_c_26, main_call1_call0_v106]
/-- These operations write only the listed buffers. -/
theorem ops_part0_5_writes : (ops_part0_5 : List (HloOp τ sig (Elt F))).Forall fun op => op.writes ⊆ (ops_part0_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
/-- At this stage `main_arg0` is as launched. -/
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
/-- At this stage `main_arg1` is as launched. -/
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
/-- At this stage `main_arg2` is as launched. -/
theorem val0_6_main_arg2 (V0 : Valuation τ sig (Elt F)) : val0_6 V0 (no_index (Proc.devRef .tc main_arg2)) = V0 (Proc.devRef .tc main_arg2) :=
  (val0_6_keep V0 main_arg2 (by decide)).trans (val0_5_main_arg2 V0)
/-- At this stage `main_arg3` is as launched. -/
theorem val0_6_main_arg3 (V0 : Valuation τ sig (Elt F)) : val0_6 V0 (no_index (Proc.devRef .tc main_arg3)) = V0 (Proc.devRef .tc main_arg3) :=
  (val0_6_keep V0 main_arg3 (by decide)).trans (val0_5_main_arg3 V0)
/-- At this stage `main_v0` holds its named term. -/
theorem val0_6_main_v0 (V0 : Valuation τ sig (Elt F)) : val0_6 V0 (no_index (Proc.devRef .tc main_v0)) = fptosi 32 (V0 (Proc.devRef .tc main_arg1)) :=
  (val0_6_keep V0 main_v0 (by decide)).trans (val0_5_main_v0 V0)
/-- At this stage `main_v2` holds its named term. -/
theorem val0_6_main_v2 (V0 : Valuation τ sig (Elt F)) : val0_6 V0 (no_index (Proc.devRef .tc main_v2)) = Host.log (maximumf (broadcastInDim S4096x1024 ![] bcast_S_S4096x1024 (id (constant S_ .f32 0x0DA24260#32))) (V0 (Proc.devRef .tc main_arg0))) :=
  (val0_6_keep V0 main_v2 (by decide)).trans (val0_5_main_v2 V0)
/-- At this stage `main_call1_v2` holds its named term. -/
theorem val0_6_main_call1_v2 (V0 : Valuation τ sig (Elt F)) : val0_6 V0 (no_index (Proc.devRef .tc main_call1_v2)) = res_main_call1_v2 V0 :=
  (val0_6_keep V0 main_call1_v2 (by decide)).trans (val0_5_main_call1_v2 V0)
/-- At this stage `main_call1_v3` holds its named term. -/
theorem val0_6_main_call1_v3 (V0 : Valuation τ sig (Elt F)) : val0_6 V0 (no_index (Proc.devRef .tc main_call1_v3)) = broadcastInDim S1x1x1 ![] bcast_S_S1x1x1 (id (constant S_ .f32 0x3F800000#32)) :=
  (val0_6_keep V0 main_call1_v3 (by decide)).trans (val0_5_main_call1_v3 V0)
/-- At this stage `main_call1_v5` holds its named term. -/
theorem val0_6_main_call1_v5 (V0 : Valuation τ sig (Elt F)) : val0_6 V0 (no_index (Proc.devRef .tc main_call1_v5)) = res_main_call1_v5 V0 :=
  (val0_6_keep V0 main_call1_v5 (by decide)).trans (val0_5_main_call1_v5 V0)
/-- At this stage `main_call1_v7` holds its named term. -/
theorem val0_6_main_call1_v7 (V0 : Valuation τ sig (Elt F)) : val0_6 V0 (no_index (Proc.devRef .tc main_call1_v7)) = res_main_call1_v7 V0 :=
  (val0_6_keep V0 main_call1_v7 (by decide)).trans (val0_5_main_call1_v7 V0)
/-- At this stage `main_call1_call0_v1` holds its named term. -/
theorem val0_6_main_call1_call0_v1 (V0 : Valuation τ sig (Elt F)) : val0_6 V0 (no_index (Proc.devRef .tc main_call1_call0_v1)) = res_main_call1_call0_v1 V0 :=
  (val0_6_keep V0 main_call1_call0_v1 (by decide)).trans (val0_5_main_call1_call0_v1 V0)
set_option maxHeartbeats 2000000 in
/-- At this stage `main_call1_call0_v103` holds its named term. -/
theorem val0_6_main_call1_call0_v103 (V0 : Valuation τ sig (Elt F)) : val0_6 V0 (no_index (Proc.devRef .tc main_call1_call0_v103)) = addi (res_main_call1_call0_v95 V0) (broadcastInDim S4096x100x1024 ![] bcast_S_S4096x100x1024 (res_main_call1_v5 V0)) := by
  unfold val0_6
  simp only [ops_part0_5, TRef.binary, TRef.nullary, TRef.unary, TRef.toBuf, TRef.ofBuf, cast_eq]
  after_results_simp
  simp only [val0_5_main_call1_v5, val0_5_main_call1_call0_v80, val0_5_main_call1_call0_v82, val0_5_main_call1_call0_v81] <;> rfl
set_option maxHeartbeats 2000000 in
/-- At this stage `main_call1_call0_v105` holds its named term. -/
theorem val0_6_main_call1_call0_v105 (V0 : Valuation τ sig (Elt F)) : val0_6 V0 (no_index (Proc.devRef .tc main_call1_call0_v105)) = addi (xori (res_main_call1_call0_v95 V0) (ori (Host.shli (res_main_call1_call0_v94 V0) (broadcastInDim S4096x100x1024 ![] bcast_S_S4096x100x1024 (constantI S_ 32 6#32))) (Host.shrui (res_main_call1_call0_v94 V0) (broadcastInDim S4096x100x1024 ![] bcast_S_S4096x100x1024 (constantI S_ 32 26#32))))) (broadcastInDim S4096x100x1024 ![] bcast_S_S4096x100x1024 (res_main_call1_v7 V0)) := by
  unfold val0_6
  simp only [ops_part0_5, TRef.binary, TRef.nullary, TRef.unary, TRef.toBuf, TRef.ofBuf, cast_eq]
  after_results_simp
  simp only [val0_5_main_call1_v7, val0_5_main_call1_call0_v80, val0_5_main_call1_call0_v82, val0_5_main_call1_call0_v81] <;> rfl
set_option maxHeartbeats 2000000 in
/-- At this stage `main_call1_call0_v106` holds its named term. -/
theorem val0_6_main_call1_call0_v106 (V0 : Valuation τ sig (Elt F)) : val0_6 V0 (no_index (Proc.devRef .tc main_call1_call0_v106)) = broadcastInDim S4096x100x1024 ![] bcast_S_S4096x100x1024 (constantI S_ 32 3#32) := by
  unfold val0_6
  simp only [ops_part0_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call1_call0_v107, main_call1_call0_v108, main_call1_call0_c_27, main_call1_call0_v109, main_call1_call0_v110, main_call1_call0_c_28, main_call1_call0_v111, main_call1_call0_v112, main_call1_call0_v113, main_call1_call0_v114, main_call1_call0_v115, main_call1_call0_c_29, main_call1_call0_v116, main_call1_call0_v117, main_call1_call0_c_30, main_call1_call0_v118, main_call1_call0_v119, main_call1_call0_v120, main_call1_call0_v121, main_call1_call0_v122, main_call1_call0_c_31, main_call1_call0_v123, main_call1_call0_v124, main_call1_call0_c_32, main_call1_call0_v125, main_call1_call0_v126, main_call1_call0_v127, main_call1_call0_v128, main_call1_call0_v129, main_call1_call0_c_33]
/-- These operations write only the listed buffers. -/
theorem ops_part0_6_writes : (ops_part0_6 : List (HloOp τ sig (Elt F))).Forall fun op => op.writes ⊆ (ops_part0_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
/-- At this stage `main_arg0` is as launched. -/
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
/-- At this stage `main_arg1` is as launched. -/
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
/-- At this stage `main_arg2` is as launched. -/
theorem val0_7_main_arg2 (V0 : Valuation τ sig (Elt F)) : val0_7 V0 (no_index (Proc.devRef .tc main_arg2)) = V0 (Proc.devRef .tc main_arg2) :=
  (val0_7_keep V0 main_arg2 (by decide)).trans (val0_6_main_arg2 V0)
/-- At this stage `main_arg3` is as launched. -/
theorem val0_7_main_arg3 (V0 : Valuation τ sig (Elt F)) : val0_7 V0 (no_index (Proc.devRef .tc main_arg3)) = V0 (Proc.devRef .tc main_arg3) :=
  (val0_7_keep V0 main_arg3 (by decide)).trans (val0_6_main_arg3 V0)
/-- At this stage `main_v0` holds its named term. -/
theorem val0_7_main_v0 (V0 : Valuation τ sig (Elt F)) : val0_7 V0 (no_index (Proc.devRef .tc main_v0)) = fptosi 32 (V0 (Proc.devRef .tc main_arg1)) :=
  (val0_7_keep V0 main_v0 (by decide)).trans (val0_6_main_v0 V0)
/-- At this stage `main_v2` holds its named term. -/
theorem val0_7_main_v2 (V0 : Valuation τ sig (Elt F)) : val0_7 V0 (no_index (Proc.devRef .tc main_v2)) = Host.log (maximumf (broadcastInDim S4096x1024 ![] bcast_S_S4096x1024 (id (constant S_ .f32 0x0DA24260#32))) (V0 (Proc.devRef .tc main_arg0))) :=
  (val0_7_keep V0 main_v2 (by decide)).trans (val0_6_main_v2 V0)
/-- At this stage `main_call1_v2` holds its named term. -/
theorem val0_7_main_call1_v2 (V0 : Valuation τ sig (Elt F)) : val0_7 V0 (no_index (Proc.devRef .tc main_call1_v2)) = res_main_call1_v2 V0 :=
  (val0_7_keep V0 main_call1_v2 (by decide)).trans (val0_6_main_call1_v2 V0)
/-- At this stage `main_call1_v3` holds its named term. -/
theorem val0_7_main_call1_v3 (V0 : Valuation τ sig (Elt F)) : val0_7 V0 (no_index (Proc.devRef .tc main_call1_v3)) = broadcastInDim S1x1x1 ![] bcast_S_S1x1x1 (id (constant S_ .f32 0x3F800000#32)) :=
  (val0_7_keep V0 main_call1_v3 (by decide)).trans (val0_6_main_call1_v3 V0)
/-- At this stage `main_call1_v5` holds its named term. -/
theorem val0_7_main_call1_v5 (V0 : Valuation τ sig (Elt F)) : val0_7 V0 (no_index (Proc.devRef .tc main_call1_v5)) = res_main_call1_v5 V0 :=
  (val0_7_keep V0 main_call1_v5 (by decide)).trans (val0_6_main_call1_v5 V0)
/-- At this stage `main_call1_v7` holds its named term. -/
theorem val0_7_main_call1_v7 (V0 : Valuation τ sig (Elt F)) : val0_7 V0 (no_index (Proc.devRef .tc main_call1_v7)) = res_main_call1_v7 V0 :=
  (val0_7_keep V0 main_call1_v7 (by decide)).trans (val0_6_main_call1_v7 V0)
/-- At this stage `main_call1_call0_v1` holds its named term. -/
theorem val0_7_main_call1_call0_v1 (V0 : Valuation τ sig (Elt F)) : val0_7 V0 (no_index (Proc.devRef .tc main_call1_call0_v1)) = res_main_call1_call0_v1 V0 :=
  (val0_7_keep V0 main_call1_call0_v1 (by decide)).trans (val0_6_main_call1_call0_v1 V0)
set_option maxHeartbeats 2000000 in
/-- At this stage `main_call1_call0_v128` holds its named term. -/
theorem val0_7_main_call1_call0_v128 (V0 : Valuation τ sig (Elt F)) : val0_7 V0 (no_index (Proc.devRef .tc main_call1_call0_v128)) = res_main_call1_call0_v128 V0 := by
  unfold val0_7
  simp only [ops_part0_6, TRef.binary, TRef.nullary, TRef.unary, TRef.toBuf, TRef.ofBuf, cast_eq]
  after_results_simp
  simp only [val0_6_main_call1_call0_v106, val0_6_main_call1_call0_v105, val0_6_main_call1_call0_v103] <;> rfl
set_option maxHeartbeats 2000000 in
/-- At this stage `main_call1_call0_v129` holds its named term. -/
theorem val0_7_main_call1_call0_v129 (V0 : Valuation τ sig (Elt F)) : val0_7 V0 (no_index (Proc.devRef .tc main_call1_call0_v129)) = res_main_call1_call0_v129 V0 := by
  unfold val0_7
  simp only [ops_part0_6, TRef.binary, TRef.nullary, TRef.unary, TRef.toBuf, TRef.ofBuf, cast_eq]
  after_results_simp
  simp only [val0_6_main_call1_call0_v106, val0_6_main_call1_call0_v105, val0_6_main_call1_call0_v103] <;> rfl
set_option maxHeartbeats 2000000 in
/-- At this stage `main_call1_call0_c_33` holds its named term. -/
theorem val0_7_main_call1_call0_c_33 (V0 : Valuation τ sig (Elt F)) : val0_7 V0 (no_index (Proc.devRef .tc main_call1_call0_c_33)) = constantI S_ 32 24#32 := by
  unfold val0_7
  simp only [ops_part0_6, TRef.binary, TRef.nullary, TRef.unary, TRef.toBuf, TRef.ofBuf, cast_eq]
  after_results_simp
  all_goals rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call1_call0_v130, main_call1_call0_v131, main_call1_call0_c_34, main_call1_call0_v132, main_call1_call0_v133, main_call1_call0_v134, main_call1_call0_v135, main_call1_call0_v136, main_call1_call0_v137, main_call1_call0_v138, main_call1_call0_v139, main_call1_call0_c_35, main_call1_call0_v140, main_call1_call0_v141, main_call1_call0_v142, main_call1_call0_c_36, main_call1_call0_v143, main_call1_call0_v144, main_call1_call0_c_37, main_call1_call0_v145, main_call1_call0_v146, main_call1_call0_v147, main_call1_call0_v148, main_call1_call0_v149, main_call1_call0_c_38, main_call1_call0_v150, main_call1_call0_v151, main_call1_call0_c_39, main_call1_call0_v152, main_call1_call0_v153]
/-- These operations write only the listed buffers. -/
theorem ops_part0_7_writes : (ops_part0_7 : List (HloOp τ sig (Elt F))).Forall fun op => op.writes ⊆ (ops_part0_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
/-- At this stage `main_arg0` is as launched. -/
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
/-- At this stage `main_arg1` is as launched. -/
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
/-- At this stage `main_arg2` is as launched. -/
theorem val0_8_main_arg2 (V0 : Valuation τ sig (Elt F)) : val0_8 V0 (no_index (Proc.devRef .tc main_arg2)) = V0 (Proc.devRef .tc main_arg2) :=
  (val0_8_keep V0 main_arg2 (by decide)).trans (val0_7_main_arg2 V0)
/-- At this stage `main_arg3` is as launched. -/
theorem val0_8_main_arg3 (V0 : Valuation τ sig (Elt F)) : val0_8 V0 (no_index (Proc.devRef .tc main_arg3)) = V0 (Proc.devRef .tc main_arg3) :=
  (val0_8_keep V0 main_arg3 (by decide)).trans (val0_7_main_arg3 V0)
/-- At this stage `main_v0` holds its named term. -/
theorem val0_8_main_v0 (V0 : Valuation τ sig (Elt F)) : val0_8 V0 (no_index (Proc.devRef .tc main_v0)) = fptosi 32 (V0 (Proc.devRef .tc main_arg1)) :=
  (val0_8_keep V0 main_v0 (by decide)).trans (val0_7_main_v0 V0)
/-- At this stage `main_v2` holds its named term. -/
theorem val0_8_main_v2 (V0 : Valuation τ sig (Elt F)) : val0_8 V0 (no_index (Proc.devRef .tc main_v2)) = Host.log (maximumf (broadcastInDim S4096x1024 ![] bcast_S_S4096x1024 (id (constant S_ .f32 0x0DA24260#32))) (V0 (Proc.devRef .tc main_arg0))) :=
  (val0_8_keep V0 main_v2 (by decide)).trans (val0_7_main_v2 V0)
/-- At this stage `main_call1_v2` holds its named term. -/
theorem val0_8_main_call1_v2 (V0 : Valuation τ sig (Elt F)) : val0_8 V0 (no_index (Proc.devRef .tc main_call1_v2)) = res_main_call1_v2 V0 :=
  (val0_8_keep V0 main_call1_v2 (by decide)).trans (val0_7_main_call1_v2 V0)
/-- At this stage `main_call1_v3` holds its named term. -/
theorem val0_8_main_call1_v3 (V0 : Valuation τ sig (Elt F)) : val0_8 V0 (no_index (Proc.devRef .tc main_call1_v3)) = broadcastInDim S1x1x1 ![] bcast_S_S1x1x1 (id (constant S_ .f32 0x3F800000#32)) :=
  (val0_8_keep V0 main_call1_v3 (by decide)).trans (val0_7_main_call1_v3 V0)
/-- At this stage `main_call1_v5` holds its named term. -/
theorem val0_8_main_call1_v5 (V0 : Valuation τ sig (Elt F)) : val0_8 V0 (no_index (Proc.devRef .tc main_call1_v5)) = res_main_call1_v5 V0 :=
  (val0_8_keep V0 main_call1_v5 (by decide)).trans (val0_7_main_call1_v5 V0)
/-- At this stage `main_call1_call0_v1` holds its named term. -/
theorem val0_8_main_call1_call0_v1 (V0 : Valuation τ sig (Elt F)) : val0_8 V0 (no_index (Proc.devRef .tc main_call1_call0_v1)) = res_main_call1_call0_v1 V0 :=
  (val0_8_keep V0 main_call1_call0_v1 (by decide)).trans (val0_7_main_call1_call0_v1 V0)
set_option maxHeartbeats 2000000 in
/-- At this stage `main_call1_call0_v149` holds its named term. -/
theorem val0_8_main_call1_call0_v149 (V0 : Valuation τ sig (Elt F)) : val0_8 V0 (no_index (Proc.devRef .tc main_call1_call0_v149)) = res_main_call1_call0_v149 V0 := by
  unfold val0_8
  simp only [ops_part0_7, TRef.binary, TRef.nullary, TRef.unary, TRef.toBuf, TRef.ofBuf, cast_eq]
  after_results_simp
  simp only [val0_7_main_call1_call0_v1, val0_7_main_call1_call0_v128, val0_7_main_call1_call0_c_33, val0_7_main_call1_call0_v129, val0_7_main_call1_v7] <;> rfl
set_option maxHeartbeats 2000000 in
/-- At this stage `main_call1_call0_v151` holds its named term. -/
theorem val0_8_main_call1_call0_v151 (V0 : Valuation τ sig (Elt F)) : val0_8 V0 (no_index (Proc.devRef .tc main_call1_call0_v151)) = Host.shli (res_main_call1_call0_v148 V0) (broadcastInDim S4096x100x1024 ![] bcast_S_S4096x100x1024 (constantI S_ 32 15#32)) := by
  unfold val0_8
  simp only [ops_part0_7, TRef.binary, TRef.nullary, TRef.unary, TRef.toBuf, TRef.ofBuf, cast_eq]
  after_results_simp
  simp only [val0_7_main_call1_call0_v1, val0_7_main_call1_call0_v128, val0_7_main_call1_call0_c_33, val0_7_main_call1_call0_v129, val0_7_main_call1_v7] <;> rfl
set_option maxHeartbeats 2000000 in
/-- At this stage `main_call1_call0_v153` holds its named term. -/
theorem val0_8_main_call1_call0_v153 (V0 : Valuation τ sig (Elt F)) : val0_8 V0 (no_index (Proc.devRef .tc main_call1_call0_v153)) = Host.shrui (res_main_call1_call0_v148 V0) (broadcastInDim S4096x100x1024 ![] bcast_S_S4096x100x1024 (constantI S_ 32 17#32)) := by
  unfold val0_8
  simp only [ops_part0_7, TRef.binary, TRef.nullary, TRef.unary, TRef.toBuf, TRef.ofBuf, cast_eq]
  after_results_simp
  simp only [val0_7_main_call1_call0_v1, val0_7_main_call1_call0_v128, val0_7_main_call1_call0_c_33, val0_7_main_call1_call0_v129, val0_7_main_call1_v7] <;> rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call1_call0_v154, main_call1_call0_v155, main_call1_call0_v156, main_call1_call0_c_40, main_call1_call0_v157, main_call1_call0_v158, main_call1_call0_c_41, main_call1_call0_v159, main_call1_call0_v160, main_call1_call0_v161, main_call1_call0_v162, main_call1_call0_v163, main_call1_call0_c_42, main_call1_call0_v164, main_call1_call0_v165, main_call1_call0_c_43, main_call1_call0_v166, main_call1_call0_v167, main_call1_call0_v168, main_call1_call0_v169, main_call1_call0_v170, main_call1_v23_0, main_call1_call0_v172, main_call1_call0_v173, main_call1_call0_c_44, main_call1_call0_v174, main_call1_v23_1, main_call1_v24, main_call1_c_3, main_call1_v25]
/-- These operations write only the listed buffers. -/
theorem ops_part0_8_writes : (ops_part0_8 : List (HloOp τ sig (Elt F))).Forall fun op => op.writes ⊆ (ops_part0_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
/-- At this stage `main_arg0` is as launched. -/
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
/-- At this stage `main_arg1` is as launched. -/
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
/-- At this stage `main_arg2` is as launched. -/
theorem val0_9_main_arg2 (V0 : Valuation τ sig (Elt F)) : val0_9 V0 (no_index (Proc.devRef .tc main_arg2)) = V0 (Proc.devRef .tc main_arg2) :=
  (val0_9_keep V0 main_arg2 (by decide)).trans (val0_8_main_arg2 V0)
/-- At this stage `main_arg3` is as launched. -/
theorem val0_9_main_arg3 (V0 : Valuation τ sig (Elt F)) : val0_9 V0 (no_index (Proc.devRef .tc main_arg3)) = V0 (Proc.devRef .tc main_arg3) :=
  (val0_9_keep V0 main_arg3 (by decide)).trans (val0_8_main_arg3 V0)
/-- At this stage `main_v0` holds its named term. -/
theorem val0_9_main_v0 (V0 : Valuation τ sig (Elt F)) : val0_9 V0 (no_index (Proc.devRef .tc main_v0)) = fptosi 32 (V0 (Proc.devRef .tc main_arg1)) :=
  (val0_9_keep V0 main_v0 (by decide)).trans (val0_8_main_v0 V0)
/-- At this stage `main_v2` holds its named term. -/
theorem val0_9_main_v2 (V0 : Valuation τ sig (Elt F)) : val0_9 V0 (no_index (Proc.devRef .tc main_v2)) = Host.log (maximumf (broadcastInDim S4096x1024 ![] bcast_S_S4096x1024 (id (constant S_ .f32 0x0DA24260#32))) (V0 (Proc.devRef .tc main_arg0))) :=
  (val0_9_keep V0 main_v2 (by decide)).trans (val0_8_main_v2 V0)
/-- At this stage `main_call1_v2` holds its named term. -/
theorem val0_9_main_call1_v2 (V0 : Valuation τ sig (Elt F)) : val0_9 V0 (no_index (Proc.devRef .tc main_call1_v2)) = res_main_call1_v2 V0 :=
  (val0_9_keep V0 main_call1_v2 (by decide)).trans (val0_8_main_call1_v2 V0)
/-- At this stage `main_call1_v3` holds its named term. -/
theorem val0_9_main_call1_v3 (V0 : Valuation τ sig (Elt F)) : val0_9 V0 (no_index (Proc.devRef .tc main_call1_v3)) = broadcastInDim S1x1x1 ![] bcast_S_S1x1x1 (id (constant S_ .f32 0x3F800000#32)) :=
  (val0_9_keep V0 main_call1_v3 (by decide)).trans (val0_8_main_call1_v3 V0)
set_option maxHeartbeats 2000000 in
/-- At this stage `main_call1_v24` holds its named term. -/
theorem val0_9_main_call1_v24 (V0 : Valuation τ sig (Elt F)) : val0_9 V0 (no_index (Proc.devRef .tc main_call1_v24)) = xori (addi (res_main_call1_call0_v163 V0) (broadcastInDim S4096x100x1024 ![] bcast_S_S4096x100x1024 (res_main_call1_call0_v1 V0))) (addi (addi (xori (res_main_call1_call0_v163 V0) (ori (Host.shli (res_main_call1_call0_v162 V0) (broadcastInDim S4096x100x1024 ![] bcast_S_S4096x100x1024 (constantI S_ 32 6#32))) (Host.shrui (res_main_call1_call0_v162 V0) (broadcastInDim S4096x100x1024 ![] bcast_S_S4096x100x1024 (constantI S_ 32 26#32))))) (broadcastInDim S4096x100x1024 ![] bcast_S_S4096x100x1024 (res_main_call1_v5 V0))) (broadcastInDim S4096x100x1024 ![] bcast_S_S4096x100x1024 (constantI S_ 32 5#32))) := by
  unfold val0_9
  simp only [ops_part0_8, TRef.binary, TRef.nullary, TRef.unary, TRef.toBuf, TRef.ofBuf, cast_eq]
  after_results_simp
  simp only [val0_8_main_call1_v5, val0_8_main_call1_call0_v153, val0_8_main_call1_call0_v151, val0_8_main_call1_call0_v149, val0_8_main_call1_call0_v1] <;> rfl
set_option maxHeartbeats 2000000 in
/-- At this stage `main_call1_v25` holds its named term. -/
theorem val0_9_main_call1_v25 (V0 : Valuation τ sig (Elt F)) : val0_9 V0 (no_index (Proc.devRef .tc main_call1_v25)) = broadcastInDim S4096x100x1024 ![] bcast_S_S4096x100x1024 (constantI S_ 32 9#32) := by
  unfold val0_9
  simp only [ops_part0_8, TRef.binary, TRef.nullary, TRef.unary, TRef.toBuf, TRef.ofBuf, cast_eq]
  after_results_simp
  all_goals rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_call1_v26, main_call1_c_4, main_call1_v27, main_call1_v28, main_call1_v29, main_call1_cst, main_call1_v30, main_call1_v31, main_call1_v32, main_call1_v33, main_call1_v34, main_call1_v35, main_call1_v36, main_call1_v37, main_v10, main_cst_4, main_v11, main_v12, main_cst_5, main_v13, main_v14, main_v15, main_v16, main_v17, main_v18, main_v19, main_v20, main_v21, main_call2_v0, main_call2_cst]
/-- These operations write only the listed buffers. -/
theorem ops_part0_9_writes : (ops_part0_9 : List (HloOp τ sig (Elt F))).Forall fun op => op.writes ⊆ (ops_part0_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
/-- At this stage `main_arg0` is as launched. -/
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
/-- At this stage `main_arg1` is as launched. -/
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
/-- At this stage `main_arg2` is as launched. -/
theorem val0_10_main_arg2 (V0 : Valuation τ sig (Elt F)) : val0_10 V0 (no_index (Proc.devRef .tc main_arg2)) = V0 (Proc.devRef .tc main_arg2) :=
  (val0_10_keep V0 main_arg2 (by decide)).trans (val0_9_main_arg2 V0)
/-- At this stage `main_arg3` is as launched. -/
theorem val0_10_main_arg3 (V0 : Valuation τ sig (Elt F)) : val0_10 V0 (no_index (Proc.devRef .tc main_arg3)) = V0 (Proc.devRef .tc main_arg3) :=
  (val0_10_keep V0 main_arg3 (by decide)).trans (val0_9_main_arg3 V0)
/-- At this stage `main_v0` holds its named term. -/
theorem val0_10_main_v0 (V0 : Valuation τ sig (Elt F)) : val0_10 V0 (no_index (Proc.devRef .tc main_v0)) = fptosi 32 (V0 (Proc.devRef .tc main_arg1)) :=
  (val0_10_keep V0 main_v0 (by decide)).trans (val0_9_main_v0 V0)
set_option maxHeartbeats 2000000 in
/-- At this stage `main_v21` holds its named term. -/
theorem val0_10_main_v21 (V0 : Valuation τ sig (Elt F)) : val0_10 V0 (no_index (Proc.devRef .tc main_v21)) = res_main_v21 V0 := by
  unfold val0_10
  simp only [ops_part0_9, TRef.binary, TRef.nullary, TRef.unary, TRef.toBuf, TRef.ofBuf, cast_eq]
  after_results_simp
  simp only [val0_9_main_v2, val0_9_main_call1_v2, val0_9_main_call1_v3, val0_9_main_call1_v25, val0_9_main_call1_v24] <;> rfl
set_option maxHeartbeats 2000000 in
/-- At this stage `main_call2_v0` holds its named term. -/
theorem val0_10_main_call2_v0 (V0 : Valuation τ sig (Elt F)) : val0_10 V0 (no_index (Proc.devRef .tc main_call2_v0)) = res_main_call2_v0 V0 := by
  unfold val0_10
  simp only [ops_part0_9, TRef.binary, TRef.nullary, TRef.unary, TRef.toBuf, TRef.ofBuf, cast_eq]
  after_results_simp
  all_goals rfl
set_option maxHeartbeats 2000000 in
/-- At this stage `main_call2_cst` holds its named term. -/
theorem val0_10_main_call2_cst (V0 : Valuation τ sig (Elt F)) : val0_10 V0 (no_index (Proc.devRef .tc main_call2_cst)) = res_main_call2_cst V0 := by
  unfold val0_10
  simp only [ops_part0_9, TRef.binary, TRef.nullary, TRef.unary, TRef.toBuf, TRef.ofBuf, cast_eq]
  after_results_simp
  all_goals rfl

/-- The device's buffer contents after @main's first 330 operations. -/
def val0_11 (V0 : Valuation τ sig (Elt F)) : Valuation τ sig (Elt F) := after ops_part0_10 (val0_10 V0)
/-- The buffers that window `ops_part0_10`'s operations write. -/
abbrev ops_part0_10_W : List (Ref sig .tc) := [main_call2_c, main_call2_v1_0, main_v22, main_v23, main_v24, main_v25, main_v26, main_v27, main_v28, main_v29, main_cst_6, main_v30, main_v31, main_v32, main_c_7, main_v33, main_v34, main_c_8, main_v35, main_v36, main_v37, main_c_9, main_v38, main_v39, main_c_10, main_v40, main_v41, main_v42, main_v43, main_v44]
/-- These operations write only the listed buffers. -/
theorem ops_part0_10_writes : (ops_part0_10 : List (HloOp τ sig (Elt F))).Forall fun op => op.writes ⊆ (ops_part0_10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_10` does not write keeps its contents through it. -/
theorem val0_11_keep (V0 : Valuation τ sig (Elt F)) (r : Ref sig .tc) (h : r ∉ ops_part0_10_W) :
    val0_11 V0 (Proc.devRef .tc r) = val0_10 V0 (Proc.devRef .tc r) :=
  after_of_writes_sub ops_part0_10 _ ops_part0_10_writes h
/-- At this stage `main_arg0` is as launched. -/
theorem val0_11_main_arg0 (V0 : Valuation τ sig (Elt F)) : val0_11 V0 (no_index (Proc.devRef .tc main_arg0)) = V0 (Proc.devRef .tc main_arg0) :=
  (val0_11_keep V0 main_arg0 (by decide)).trans (val0_10_main_arg0 V0)
/-- At this stage `main_arg1` is as launched. -/
theorem val0_11_main_arg1 (V0 : Valuation τ sig (Elt F)) : val0_11 V0 (no_index (Proc.devRef .tc main_arg1)) = V0 (Proc.devRef .tc main_arg1) :=
  (val0_11_keep V0 main_arg1 (by decide)).trans (val0_10_main_arg1 V0)
/-- At this stage `main_arg2` is as launched. -/
theorem val0_11_main_arg2 (V0 : Valuation τ sig (Elt F)) : val0_11 V0 (no_index (Proc.devRef .tc main_arg2)) = V0 (Proc.devRef .tc main_arg2) :=
  (val0_11_keep V0 main_arg2 (by decide)).trans (val0_10_main_arg2 V0)
/-- At this stage `main_arg3` is as launched. -/
theorem val0_11_main_arg3 (V0 : Valuation τ sig (Elt F)) : val0_11 V0 (no_index (Proc.devRef .tc main_arg3)) = V0 (Proc.devRef .tc main_arg3) :=
  (val0_11_keep V0 main_arg3 (by decide)).trans (val0_10_main_arg3 V0)
set_option maxHeartbeats 2000000 in
/-- At this stage `main_v29` holds its named term. -/
theorem val0_11_main_v29 (V0 : Valuation τ sig (Elt F)) : val0_11 V0 (no_index (Proc.devRef .tc main_v29)) = uitofp .f32 (cmpi .slt (broadcastInDim S4096x100 ![0, 1] bcast_S1x100_S4096x100_0_1 (broadcastInDim S1x100 ![1] bcast_S100_S1x100_1 (iotaInDim S100 32 0))) (broadcastInDim S4096x100 ![0, 1] bcast_S4096x1_S4096x100_0_1 (broadcastInDim S4096x1 ![0] bcast_S4096_S4096x1_0 (fptosi 32 (V0 (Proc.devRef .tc main_arg1)))))) := by
  unfold val0_11
  simp only [ops_part0_10, TRef.nullary, TRef.quaternary, TRef.toBuf, TRef.ofBuf, cast_eq]
  after_results_simp
  simp only [val0_10_main_v0] <;> rfl
set_option maxHeartbeats 2000000 in
/-- At this stage `main_v30` holds its named term. -/
theorem val0_11_main_v30 (V0 : Valuation τ sig (Elt F)) : val0_11 V0 (no_index (Proc.devRef .tc main_v30)) = broadcastInDim S4096x1024 ![] bcast_S_S4096x1024 (constant S_ .f32 0x00000000#32) := by
  unfold val0_11
  simp only [ops_part0_10, TRef.nullary, TRef.quaternary, TRef.toBuf, TRef.ofBuf, cast_eq]
  after_results_simp
  all_goals rfl
set_option maxHeartbeats 2000000 in
/-- At this stage `main_v42` holds its named term. -/
theorem val0_11_main_v42 (V0 : Valuation τ sig (Elt F)) : val0_11 V0 (no_index (Proc.devRef .tc main_v42)) = select (cmpi .slt (res_main_v22 V0) (broadcastInDim S4096x100 ![] bcast_S_S4096x100 (constantI S_ 32 0#32))) (addi (res_main_v22 V0) (broadcastInDim S4096x100 ![] bcast_S_S4096x100 (constantI S_ 32 1024#32))) (res_main_v22 V0) := by
  unfold val0_11
  simp only [ops_part0_10, TRef.nullary, TRef.quaternary, TRef.toBuf, TRef.ofBuf, cast_eq]
  after_results_simp
  simp only [val0_10_main_call2_cst, val0_10_main_call2_v0, val0_10_main_v21] <;> rfl
set_option maxHeartbeats 2000000 in
/-- At this stage `main_v44` holds its named term. -/
theorem val0_11_main_v44 (V0 : Valuation τ sig (Elt F)) : val0_11 V0 (no_index (Proc.devRef .tc main_v44)) = broadcastInDim S4096x100x1 ![0, 1] bcast_S4096x100_S4096x100x1_0_1 (broadcastInDim S4096x100 ![0, 1] bcast_S4096x1_S4096x100_0_1 (select (cmpi .slt (res_main_v32 V0) (broadcastInDim S4096x1 ![] bcast_S_S4096x1 (constantI S_ 32 0#32))) (addi (res_main_v32 V0) (broadcastInDim S4096x1 ![] bcast_S_S4096x1 (constantI S_ 32 4096#32))) (res_main_v32 V0))) := by
  unfold val0_11
  simp only [ops_part0_10, TRef.nullary, TRef.quaternary, TRef.toBuf, TRef.ofBuf, cast_eq]
  after_results_simp
  all_goals rfl

/-- The device's buffer contents after @main's first 1 window. -/
def val1 (V0 : Valuation τ sig (Elt F)) : Valuation τ sig (Elt F) := after ops_part0_11 (val0_11 V0)
/-- The buffers that window `ops_part0_11`'s operations write. -/
abbrev ops_part0_11_W : List (Ref sig .tc) := [main_v45, main_v46]
/-- These operations write only the listed buffers. -/
theorem ops_part0_11_writes : (ops_part0_11 : List (HloOp τ sig (Elt F))).Forall fun op => op.writes ⊆ (ops_part0_11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_11` does not write keeps its contents through it. -/
theorem val1_keep (V0 : Valuation τ sig (Elt F)) (r : Ref sig .tc) (h : r ∉ ops_part0_11_W) :
    val1 V0 (Proc.devRef .tc r) = val0_11 V0 (Proc.devRef .tc r) :=
  after_of_writes_sub ops_part0_11 _ ops_part0_11_writes h
/-- At this stage `main_arg0` is as launched. -/
theorem val1_main_arg0 (V0 : Valuation τ sig (Elt F)) : val1 V0 (no_index (Proc.devRef .tc main_arg0)) = V0 (Proc.devRef .tc main_arg0) :=
  (val1_keep V0 main_arg0 (by decide)).trans (val0_11_main_arg0 V0)
/-- At this stage `main_arg1` is as launched. -/
theorem val1_main_arg1 (V0 : Valuation τ sig (Elt F)) : val1 V0 (no_index (Proc.devRef .tc main_arg1)) = V0 (Proc.devRef .tc main_arg1) :=
  (val1_keep V0 main_arg1 (by decide)).trans (val0_11_main_arg1 V0)
/-- At this stage `main_arg2` is as launched. -/
theorem val1_main_arg2 (V0 : Valuation τ sig (Elt F)) : val1 V0 (no_index (Proc.devRef .tc main_arg2)) = V0 (Proc.devRef .tc main_arg2) :=
  (val1_keep V0 main_arg2 (by decide)).trans (val0_11_main_arg2 V0)
/-- At this stage `main_arg3` is as launched. -/
theorem val1_main_arg3 (V0 : Valuation τ sig (Elt F)) : val1 V0 (no_index (Proc.devRef .tc main_arg3)) = V0 (Proc.devRef .tc main_arg3) :=
  (val1_keep V0 main_arg3 (by decide)).trans (val0_11_main_arg3 V0)
/-- At this stage `main_v29` holds its named term. -/
theorem val1_main_v29 (V0 : Valuation τ sig (Elt F)) : val1 V0 (no_index (Proc.devRef .tc main_v29)) = uitofp .f32 (cmpi .slt (broadcastInDim S4096x100 ![0, 1] bcast_S1x100_S4096x100_0_1 (broadcastInDim S1x100 ![1] bcast_S100_S1x100_1 (iotaInDim S100 32 0))) (broadcastInDim S4096x100 ![0, 1] bcast_S4096x1_S4096x100_0_1 (broadcastInDim S4096x1 ![0] bcast_S4096_S4096x1_0 (fptosi 32 (V0 (Proc.devRef .tc main_arg1)))))) :=
  (val1_keep V0 main_v29 (by decide)).trans (val0_11_main_v29 V0)
/-- At this stage `main_v30` holds its named term. -/
theorem val1_main_v30 (V0 : Valuation τ sig (Elt F)) : val1 V0 (no_index (Proc.devRef .tc main_v30)) = broadcastInDim S4096x1024 ![] bcast_S_S4096x1024 (constant S_ .f32 0x00000000#32) :=
  (val1_keep V0 main_v30 (by decide)).trans (val0_11_main_v30 V0)
/-- At this stage `main_v46` holds its named term. -/
theorem val1_main_v46 (V0 : Valuation τ sig (Elt F)) : val1 V0 (no_index (Proc.devRef .tc main_v46)) = concatenate S4096x100x2 2 [⟨S4096x100x1, (broadcastInDim S4096x100x1 ![0, 1] bcast_S4096x100_S4096x100x1_0_1 (broadcastInDim S4096x100 ![0, 1] bcast_S4096x1_S4096x100_0_1 (select (cmpi .slt (res_main_v32 V0) (broadcastInDim S4096x1 ![] bcast_S_S4096x1 (constantI S_ 32 0#32))) (addi (res_main_v32 V0) (broadcastInDim S4096x1 ![] bcast_S_S4096x1 (constantI S_ 32 4096#32))) (res_main_v32 V0))))⟩, ⟨S4096x100x1, (broadcastInDim S4096x100x1 ![0, 1] bcast_S4096x100_S4096x100x1_0_1 (select (cmpi .slt (res_main_v22 V0) (broadcastInDim S4096x100 ![] bcast_S_S4096x100 (constantI S_ 32 0#32))) (addi (res_main_v22 V0) (broadcastInDim S4096x100 ![] bcast_S_S4096x100 (constantI S_ 32 1024#32))) (res_main_v22 V0)))⟩] concatenates_S4096x100x1_S4096x100x1_S4096x100x2_d2 := by
  unfold val1
  simp only [ops_part0_11]
  after_results_simp
  simp only [val0_11_main_v42, val0_11_main_v44] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v47, main_v48, main_cst_11, main_call3_v0, main_call3_v1, main_v49, main_v50, main_cst_12, main_call4_v0, main_call4_v1, main_v51, main_cst_13, main_v52, main_v53, main_v54, main_v55, main_cst_14, main_v56, main_cst_15, main_v57, main_v58, main_v59, main_cst_16, main_v60, main_cst_17, main_v61, main_v62, main_v63, main_cst_18, main_v64, main_v65, main_v66, main_v67, main_v68]
/-- These operations write only the listed buffers. -/
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- At this stage `main_arg0` is as launched. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
/-- At this stage `main_arg1` is as launched. -/
theorem val2_main_arg1 (V0 : Valuation τ sig (Elt F)) : val2 V0 (no_index (Proc.devRef .tc main_arg1)) = V0 (Proc.devRef .tc main_arg1) :=
  (val2_keep V0 main_arg1 (by decide)).trans (val1_main_arg1 V0)
/-- At this stage `main_arg2` is as launched. -/
theorem val2_main_arg2 (V0 : Valuation τ sig (Elt F)) : val2 V0 (no_index (Proc.devRef .tc main_arg2)) = V0 (Proc.devRef .tc main_arg2) :=
  (val2_keep V0 main_arg2 (by decide)).trans (val1_main_arg2 V0)
/-- At this stage `main_arg3` is as launched. -/
theorem val2_main_arg3 (V0 : Valuation τ sig (Elt F)) : val2 V0 (no_index (Proc.devRef .tc main_arg3)) = V0 (Proc.devRef .tc main_arg3) :=
  (val2_keep V0 main_arg3 (by decide)).trans (val1_main_arg3 V0)
set_option maxHeartbeats 2000000 in
/-- At this stage `main_v47` holds its named term. -/
theorem val2_main_v47 (V0 : Valuation τ sig (Elt F)) : val2 V0 (no_index (Proc.devRef .tc main_v47)) = res_main_v47 V0 := by
  unfold val2
  simp only [ops_part1, TRef.binary, TRef.unary, TRef.toBuf, TRef.ofBuf, cast_eq]
  after_results_simp
  simp only [val1_main_v29, val1_main_v46, val1_main_v30] <;> rfl
set_option maxHeartbeats 2000000 in
/-- At this stage `main_v68` holds its named term. -/
theorem val2_main_v68 (V0 : Valuation τ sig (Elt F)) : val2 V0 (no_index (Proc.devRef .tc main_v68)) = Host.negf (subf (Host.reduceAdd (mulf (res_main_v47 V0) (subf (addf (maximumf (broadcastInDim S4096x1024 ![] bcast_S_S4096x1024 (id (constant S_ .f32 0xC2D00000#32))) (Host.log (V0 (Proc.devRef .tc main_arg0)))) (broadcastInDim S4096x1024 ![] bcast_S_S4096x1024 (constant S_ .f32 0x3F800000#32))) (maximumf (broadcastInDim S4096x1024 ![] bcast_S_S4096x1024 (id (constant S_ .f32 0xC2D00000#32))) (Host.log (res_main_v47 V0))))) (constant S_ .f32 0x00000000#32) reducesTo_S4096x1024_S_d0_1 h_S_) (mulf (V0 (Proc.devRef .tc main_arg3)) (addf (Host.reduceAdd (mulf (res_main_v58 V0) (res_main_v58 V0)) (constant S_ .f32 0x00000000#32) reducesTo_S4096_S_d0 h_S_) (Host.reduceAdd (mulf (res_main_v62 V0) (res_main_v62 V0)) (constant S_ .f32 0x00000000#32) reducesTo_S1024_S_d0 h_S_)))) := by
  unfold val2
  simp only [ops_part1, TRef.binary, TRef.unary, TRef.toBuf, TRef.ofBuf, cast_eq]
  after_results_simp
  simp only [val1_main_v29, val1_main_v46, val1_main_v30, val1_main_arg2, val1_main_arg1, val1_main_arg3, val1_main_arg0] <;> rfl

/-- After all operations the buffers are at the last stage. -/
theorem after_ops (V0 : Valuation τ sig (Elt F)) : after ops V0 = val2 V0 := by
  simp only [ops, ops_part0, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = Host.negf (subf (Host.reduceAdd (mulf (res_main_v47 (launchContents m c)) (subf (addf (maximumf (broadcastInDim S4096x1024 ![] bcast_S_S4096x1024 (id (constant S_ .f32 0xC2D00000#32))) (Host.log ((launchContents m c) (Proc.devRef .tc main_arg0)))) (broadcastInDim S4096x1024 ![] bcast_S_S4096x1024 (constant S_ .f32 0x3F800000#32))) (maximumf (broadcastInDim S4096x1024 ![] bcast_S_S4096x1024 (id (constant S_ .f32 0xC2D00000#32))) (Host.log (res_main_v47 (launchContents m c)))))) (constant S_ .f32 0x00000000#32) reducesTo_S4096x1024_S_d0_1 h_S_) (mulf ((launchContents m c) (Proc.devRef .tc main_arg3)) (addf (Host.reduceAdd (mulf (res_main_v58 (launchContents m c)) (res_main_v58 (launchContents m c))) (constant S_ .f32 0x00000000#32) reducesTo_S4096_S_d0 h_S_) (Host.reduceAdd (mulf (res_main_v62 (launchContents m c)) (res_main_v62 (launchContents m c))) (constant S_ .f32 0x00000000#32) reducesTo_S1024_S_d0 h_S_))))
      ∧ r.2.mem ((c.tc : Thread nD τ).loc main_v47) = res_main_v47 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v68).trans ((congrFun (after_ops (launchContents m c)) (Proc.devRef .tc main_v68)).trans (val2_main_v68 (launchContents m c))),
      (h c main_v47).trans ((congrFun (after_ops (launchContents m c)) (Proc.devRef .tc main_v47)).trans (val2_main_v47 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c)))⟩)
    (run_seq scopedRefs_eq scopedSems_eq defs main (fun _ => ops) main_eq (fun _ => ops_sub) m ρ fun _ => ops_fresh)

/-- The frame: every execution of @main terminates with the arguments unchanged and every semaphore counter at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems rfl r.2⟩) (run m ρ)

end Cert.ReferenceIdeal.Value

end
-- ==== Proof.PreFn.lean ====
/- The precondition, read in the reference's own terms: the winners it counts are those of the reference's scores. -/
module

public import proofs.«01_k».proof.Pre_in_range
public import proofs.«01_k».proof.Proof.RefTerms

@[expose] public section

set_option maxRecDepth 16384

noncomputable section

namespace Cert.Pre

open Cert.ReferenceIdeal Cert.ReferenceIdeal.Gen Cert.ReferenceIdeal.Value Idealize.ShloMosaic Idealize.ShloMosaic.TcCoe

/-- The facts that the precondition's text is stated over. -/
theorem facts : Cert.Pre_in_range.Facts where
  bcast_S_S4096x1024 := bcast_S_S4096x1024
  bcast_S_S1 := bcast_S_S1
  concatenates_S1_S1_S2_d0 := concatenates_S1_S1_S2_d0
  bcast_S_S1x1x1 := bcast_S_S1x1x1
  slices_S2_S1_0 := slices_S2_S1_0
  shapeCasts_S1_S_ := shapeCasts_S1_S_
  slices_S2_S1_1 := slices_S2_S1_1
  bcast_S_S4096x100x1024 := bcast_S_S4096x100x1024
  natLt_32_64 := natLt_32_64
  bcast_S1x1x1_S4096x100x1024_0_1_2 := bcast_S1x1x1_S4096x100x1024_0_1_2
  bcast_S4096x1024_S4096x1x1024_0_2 := bcast_S4096x1024_S4096x1x1024_0_2
  bcast_S4096x1x1024_S4096x100x1024_0_1_2 := bcast_S4096x1x1024_S4096x100x1024_0_1_2
  reducesTo_S4096x100x1024_S4096x100_d2 := reducesTo_S4096x100x1024_S4096x100_d2
  h_S_ := h_S_
  bcast_S4096x100_S4096x100x1_0_1 := bcast_S4096x100_S4096x100x1_0_1
  bcast_S4096x100x1_S4096x100x1024_0_1_2 := by decide
  natLt_1_32 := by decide
  bcast_S100_S1x100_1 := bcast_S100_S1x100_1
  bcast_S4096_S4096x1_0 := bcast_S4096_S4096x1_0
  bcast_S1x100_S4096x100_0_1 := bcast_S1x100_S4096x100_0_1
  bcast_S4096x1_S4096x100_0_1 := bcast_S4096x1_S4096x100_0_1
  bcast_S_S4096 := by decide
  bcast_S_S4096x100 := bcast_S_S4096x100

/-- The draws' winners, counted: how many categories attain the maximum of each draw's scores. -/
def winners {F : FTy → Type} [FloatOps F] (s : FVec F S4096x100x1024 .f32) : IVec S4096x100 32 :=
  Host.reduce IntOp.addi (extui 32 (cmpf .oeq s (broadcastInDim S4096x100x1024 ![0, 1, 2] facts.bcast_S4096x100x1_S4096x100x1024_0_1_2 (broadcastInDim (⟨3, ![4096, 100, 1]⟩) ![0, 1] facts.bcast_S4096x100_S4096x100x1_0_1 (Host.reduce FloatOps.maximumf s (constant S_ .f32 0xFF800000#32) reducesTo_S4096x100x1024_S4096x100_d2 h_S_)))) facts.natLt_1_32)
    (constantI S_ 32 0#32) reducesTo_S4096x100x1024_S4096x100_d2 h_S_

attribute [local instance] facts

/-- The precondition's four parts: every parameter at least the least one, -/
theorem one {F : FTy → Type} [FloatOps F] (V0 : Valuation τ sig (Elt F)) :
    (Cert.Pre_in_range.fn (F := F) (V0 (Proc.devRef .tc main_arg0)) (V0 (Proc.devRef .tc main_arg1)) (V0 (Proc.devRef .tc main_arg2)) (V0 (Proc.devRef .tc main_arg3))).1
      = cmpf .oge (V0 (Proc.devRef .tc main_arg0)) (broadcastInDim S4096x1024 ![] bcast_S_S4096x1024 (constant S_ .f32 0x0DA24260#32)) := rfl

/-- every want whole, -/
theorem two {F : FTy → Type} [FloatOps F] (V0 : Valuation τ sig (Elt F)) :
    (Cert.Pre_in_range.fn (F := F) (V0 (Proc.devRef .tc main_arg0)) (V0 (Proc.devRef .tc main_arg1)) (V0 (Proc.devRef .tc main_arg2)) (V0 (Proc.devRef .tc main_arg3))).2.1
      = cmpf .oeq (sitofp .f32 (fptosi 32 (V0 (Proc.devRef .tc main_arg1) : FVec F S4096 .f32))) (V0 (Proc.devRef .tc main_arg1)) := rfl

/-- every want at most a hundred, -/
theorem three {F : FTy → Type} [FloatOps F] (V0 : Valuation τ sig (Elt F)) :
    (Cert.Pre_in_range.fn (F := F) (V0 (Proc.devRef .tc main_arg0)) (V0 (Proc.devRef .tc main_arg1)) (V0 (Proc.devRef .tc main_arg2)) (V0 (Proc.devRef .tc main_arg3))).2.2.1
      = cmpi .sle (fptosi 32 (V0 (Proc.devRef .tc main_arg1) : FVec F S4096 .f32)) (broadcastInDim S4096 ![] facts.bcast_S_S4096 (constantI S_ 32 100#32)) := rfl

/-- and each draw won by one category, or past the wanted ones. -/
theorem four {F : FTy → Type} [FloatOps F] (V0 : Valuation τ sig (Elt F)) :
    (Cert.Pre_in_range.fn (F := F) (V0 (Proc.devRef .tc main_arg0)) (V0 (Proc.devRef .tc main_arg1)) (V0 (Proc.devRef .tc main_arg2)) (V0 (Proc.devRef .tc main_arg3))).2.2.2
      = ori (cmpi .eq (winners (res_main_v21 V0)) (broadcastInDim S4096x100 ![] bcast_S_S4096x100 (constantI S_ 32 1#32)))
        (cmpi .sge (broadcastInDim S4096x100 ![0, 1] bcast_S1x100_S4096x100_0_1 (broadcastInDim S1x100 ![1] bcast_S100_S1x100_1 (iotaInDim S100 32 0))) (broadcastInDim S4096x100 ![0, 1] bcast_S4096x1_S4096x100_0_1 (broadcastInDim S4096x1 ![0] bcast_S4096_S4096x1_0 (fptosi 32 (V0 (Proc.devRef .tc main_arg1)))))) := rfl

end Cert.Pre

end
-- ==== Proof.Noise.lean ====
/- One draw's noise over the extended reals: the random word's uniform number in (0, 1), its exponential `L`, the kernel's value
   `L / θ`, the reference's score `-log L + log θ`, and that the one is least exactly where the other is greatest. -/
module

public import Idealize.ShloMosaic.PureOps.Ideal
public import Idealize.ShloMosaic.Lib.IdealHost

@[expose] public section

noncomputable section

namespace Cert.Draws

open Idealize.ShloMosaic

/-- The fraction a word's upper 23 bits name. -/
def frac (w : BitVec 32) : ℝ := ((w >>> 9#32).toNat : ℝ) / 2 ^ 23

/-- The least positive normal number. -/
def tiny : ℝ := (2 : ℝ) ^ (-126 : ℤ)

/-- It is positive -/
theorem tiny_pos : 0 < tiny := by unfold tiny; positivity

/-- and less than the spacing of the uniform numbers. -/
theorem tiny_lt : tiny < 1 / 2 ^ 23 := by
  unfold tiny
  rw [zpow_neg, ← one_div]
  apply one_div_lt_one_div_of_lt (by positivity)
  norm_num

/-- The upper 23 bits of a word are less than 2^23. -/
theorem shift_lt (w : BitVec 32) : (w >>> 9#32).toNat < 2 ^ 23 := by
  rw [BitVec.ushiftRight_eq', BitVec.toNat_ushiftRight]
  show w.toNat >>> 9 < _
  rw [Nat.shiftRight_eq_div_pow]
  have := w.isLt
  omega

/-- The fraction of a word is not negative, -/
theorem frac_nonneg (w : BitVec 32) : 0 ≤ frac w := by unfold frac; positivity

/-- and stays below one with the least normal number added. -/
theorem frac_lt (w : BitVec 32) : frac w + tiny < 1 := by
  have h1 := shift_lt w
  unfold frac
  generalize (w >>> 9#32).toNat = n at h1 ⊢
  have h3 : ((n + 1 : ℕ) : ℝ) ≤ ((2 ^ 23 : ℕ) : ℝ) := by exact_mod_cast h1
  push_cast at h3
  have h4 : (n : ℝ) / 2 ^ 23 ≤ 1 - 1 / 2 ^ 23 := by
    rw [div_le_iff₀ (by positivity)]
    norm_num at h3 ⊢
    linarith
  have := tiny_lt
  linarith

/-- The number `1.x` whose fraction is the word's upper bits, as a word. -/
theorem toNat_word (w : BitVec 32) : (w >>> 9#32 ||| 1065353216#32).toNat = 2 ^ 23 * 127 + (w >>> 9#32).toNat := by
  rw [BitVec.toNat_or, Nat.two_pow_add_eq_or_of_lt (shift_lt w)]
  exact Nat.or_comm _ _

/-- The number `1.x` whose fraction is the word's upper bits. -/
theorem ofBits_word (w : BitVec 32) :
    Ideal.ofBits .f32 (w >>> 9#32 ||| 1065353216#32) = ((1 + frac w : ℝ) : EReal) := by
  have hx := shift_lt w
  have ht := toNat_word w
  generalize hb : (w >>> 9#32 ||| 1065353216#32) = b at ht
  have h31 : b.extractLsb' (8 + 23) 1 = 0#1 := by
    apply BitVec.eq_of_toNat_eq
    rw [BitVec.extractLsb'_toNat, ht, Nat.shiftRight_eq_div_pow]
    show _ % 2 = 0
    omega
  have h8 : (b.extractLsb' 23 8).toNat = 127 := by
    rw [BitVec.extractLsb'_toNat, ht, Nat.shiftRight_eq_div_pow]
    omega
  have h0 : (b.extractLsb' 0 23).toNat = (w >>> 9#32).toNat := by
    rw [BitVec.extractLsb'_toNat, ht, Nat.shiftRight_eq_div_pow]
    omega
  show Ideal.ieee 8 23 b = _
  unfold Ideal.ieee
  simp only [h31, h8, h0]
  rw [if_neg (by decide), if_neg (by decide)]
  congr 1
  unfold frac
  norm_num
  field_simp

/-- The word of the least normal number reads as that number. -/
theorem ofBits_tiny : Ideal.ofBits .f32 0x00800000#32 = ((tiny : ℝ) : EReal) := by
  unfold tiny
  simp [Ideal.ofBits, Ideal.ieee, -EReal.coe_mul]
  norm_num

/-- The least parameter, `1e-30` rounded. -/
def least : EReal := Ideal.ofBits .f32 0x0DA24260#32

/-- The least parameter is positive. -/
theorem least_pos : 0 < least := by
  unfold least
  simp [Ideal.ofBits, Ideal.ieee, -EReal.coe_mul]

/-- The exponential noise of a word: `-log` of its uniform number. -/
def expo (w : BitVec 32) : ℝ := -Real.log (frac w + tiny)

/-- The exponential of a word is positive. -/
theorem expo_pos (w : BitVec 32) : 0 < expo w := by
  have h1 := frac_lt w
  have h0 := frac_nonneg w
  have ht := tiny_pos
  have := Real.log_neg (by linarith : 0 < frac w + tiny) h1
  unfold expo
  linarith

/-- The logarithm of a word's uniform number is minus its exponential. -/
theorem log_unif (w : BitVec 32) : Ideal.log ((frac w + tiny : ℝ) : EReal) = ((-expo w : ℝ) : EReal) := by
  have h0 := frac_nonneg w
  have ht := tiny_pos
  rw [Ideal.log_coe, if_neg (by linarith), expo, neg_neg]

/-- The uniform number is at least the least normal number already. -/
theorem max_unif (w : BitVec 32) : max ((frac w + tiny : ℝ) : EReal) ((tiny : ℝ) : EReal) = ((frac w + tiny : ℝ) : EReal) :=
  max_eq_left (by exact_mod_cast (by have := frac_nonneg w; linarith : tiny ≤ frac w + tiny))

/-- One taken from the number `1.x` leaves the word's fraction. -/
theorem sub_one (w : BitVec 32) :
    Ideal.ofBits .f32 (w >>> 9#32 ||| 1065353216#32) - Ideal.ofBits .f32 0x3F800000#32 = ((frac w : ℝ) : EReal) := by
  rw [ofBits_word, Ideal.ofBits_one_f32, show (1 : EReal) = ((1 : ℝ) : EReal) from rfl, ← EReal.coe_sub]
  congr 1; ring

/-- The kernel's noise is the exponential of the word. -/
theorem kernel_noise (w : BitVec 32) :
    Ideal.ofBits .f32 0x00000000#32 - Ideal.log (max (Ideal.ofBits .f32 (w >>> 9#32 ||| 1065353216#32) - Ideal.ofBits .f32 0x3F800000#32 + Ideal.ofBits .f32 0x00800000#32) (Ideal.ofBits .f32 0x00800000#32))
      = ((expo w : ℝ) : EReal) := by
  rw [sub_one, ofBits_tiny, ← EReal.coe_add, max_unif, log_unif, Ideal.ofBits_zero_f32, zero_sub, ← EReal.coe_neg, neg_neg]

/-- The reference's noise is the exponential of the word: its uniform number on [0, 1) stretched by one and shifted by zero. -/
theorem reference_noise (w : BitVec 32) :
    -Ideal.log (max (Ideal.ofBits .f32 0x00800000#32) (max (Ideal.ofBits .f32 0x00000000#32) ((Ideal.ofBits .f32 (w >>> 9#32 ||| 1065353216#32) - Ideal.ofBits .f32 0x3F800000#32) * (Ideal.ofBits .f32 0x3F800000#32 - Ideal.ofBits .f32 0x00000000#32) + Ideal.ofBits .f32 0x00000000#32) + Ideal.ofBits .f32 0x00800000#32))
      = ((expo w : ℝ) : EReal) := by
  rw [sub_one, ofBits_tiny, Ideal.ofBits_zero_f32, Ideal.ofBits_one_f32, sub_zero, mul_one, add_zero,
    max_eq_right (by exact_mod_cast frac_nonneg w : (0 : EReal) ≤ ((frac w : ℝ) : EReal)), ← EReal.coe_add, max_comm, max_unif, log_unif,
    ← EReal.coe_neg, neg_neg]

/-- The kernel's value of noise `l` at parameter `θ`: the exponential at rate `θ`. -/
def val (l : ℝ) (θ : EReal) : EReal := (l : EReal) * Ideal.div 1 θ

/-- The reference's score of noise `l` at parameter `θ`: the perturbed log-parameter. -/
def score (l : ℝ) (θ : EReal) : EReal := -Ideal.log (l : EReal) + Ideal.log (max least θ)

/-- A score, spelled out. -/
theorem score_eq (l : ℝ) (θ : EReal) : score l θ = -Ideal.log (l : EReal) + Ideal.log (max least θ) := rfl

/-- At an infinite parameter the value is zero, -/
theorem val_top (l : ℝ) : val l ⊤ = 0 := by
  simp [val, Ideal.div]

/-- at a real one it is the quotient; -/
theorem val_coe (l t : ℝ) (ht : 0 < t) : val l (t : EReal) = ((l / t : ℝ) : EReal) := by
  unfold val Ideal.div
  rw [if_neg (by exact_mod_cast ht.ne'), one_mul, ← EReal.coe_inv, ← EReal.coe_mul]
  rfl

/-- at an infinite parameter the score is infinite, -/
theorem score_top (l : ℝ) (hl : 0 < l) : score l ⊤ = ⊤ := by
  unfold score
  rw [Ideal.log_coe, if_neg hl.not_ge, max_eq_right le_top, Ideal.log_top, ← EReal.coe_neg]
  exact EReal.coe_add_top _

/-- at a real one it is minus the logarithm of the quotient; -/
theorem score_coe (l t : ℝ) (hl : 0 < l) (ht : least ≤ (t : EReal)) (h0 : 0 < t) : score l (t : EReal) = ((-Real.log (l / t) : ℝ) : EReal) := by
  unfold score
  rw [Ideal.log_coe, if_neg hl.not_ge, max_eq_right ht, Ideal.log_coe, if_neg h0.not_ge, ← EReal.coe_neg, ← EReal.coe_add,
    Real.log_div hl.ne' h0.ne']
  congr 1; ring

/-- A parameter at least the least one is a positive real or `⊤`. -/
theorem param_cases (θ : EReal) (h : least ≤ θ) : θ = ⊤ ∨ ∃ t : ℝ, 0 < t ∧ θ = (t : EReal) := by
  have hp := lt_of_lt_of_le least_pos h
  induction θ with
  | bot => exact absurd hp (by simp)
  | top => exact .inl rfl
  | coe t => exact .inr ⟨t, by exact_mod_cast hp, rfl⟩

/-- and it is never the least extended real. -/
theorem score_ne_bot (l : ℝ) (hl : 0 < l) (θ : EReal) (h : least ≤ θ) : score l θ ≠ ⊥ := by
  rcases param_cases θ h with rfl | ⟨t, ht, rfl⟩
  · rw [score_top l hl]; exact top_ne_bot
  · rw [score_coe l t hl h ht]; exact EReal.coe_ne_bot _

/-- The score is the greater the less the value is. -/
theorem score_le_iff (l l' : ℝ) (hl : 0 < l) (hl' : 0 < l') (θ θ' : EReal) (h : least ≤ θ) (h' : least ≤ θ') :
    score l' θ' ≤ score l θ ↔ val l θ ≤ val l' θ' := by
  rcases param_cases θ h with rfl | ⟨t, ht, rfl⟩
  · rw [score_top l hl, val_top]
    refine ⟨fun _ => ?_, fun _ => le_top⟩
    rcases param_cases θ' h' with rfl | ⟨t', ht', rfl⟩
    · rw [val_top]
    · rw [val_coe l' t' ht']; exact_mod_cast (div_pos hl' ht').le
  · rw [score_coe l t hl h ht, val_coe l t ht]
    rcases param_cases θ' h' with rfl | ⟨t', ht', rfl⟩
    · rw [score_top l' hl', val_top]
      refine ⟨fun hh => absurd (top_le_iff.mp hh) (EReal.coe_ne_top _), fun hh => ?_⟩
      exact absurd (by exact_mod_cast hh : l / t ≤ 0) (div_pos hl ht).not_ge
    · rw [score_coe l' t' hl' h' ht', val_coe l' t' ht', EReal.coe_le_coe_iff, EReal.coe_le_coe_iff, neg_le_neg_iff,
        Real.log_le_log_iff (div_pos hl ht) (div_pos hl' ht')]

end Cert.Draws

end
-- ==== Proof.Words.lean ====
/- The random words: the counter-based generator of twenty rounds that both programs run on the counter of a draw and a category,
   as a function of the 32-bit counter (key words 0 and 42), and the counter itself. -/
module

public import Idealize.ShloMosaic.PureOps.Float

@[expose] public section

noncomputable section

namespace Cert.Draws

/-- One round's mixing: the word `x` rotated left by `a` (right by `b = 32 - a`), exclusive-or `s`. -/
def mix (s x a b : BitVec 32) : BitVec 32 := s ^^^ ((x <<< a) ||| (x >>> b))

/-- The counter of row `i`, draw `d`, category `j`. -/
def ctr (i d j : ℕ) : BitVec 32 := BitVec.ofNat 32 ((i * 100 + d) * 1024 + j)

/-! The running words after each round (`aN` the second word after a mix, or the first after a sum), at counter `n`. -/

/-- The cipher's second word with the key added, and so the first one after the first sum, as that one starts from zero. -/
def a5 (n : BitVec 32) : BitVec 32 := n + 42#32
/-- The cipher's second word, after some of its rounds. -/
def a12 (n : BitVec 32) : BitVec 32 := mix (a5 n) (a5 n) 13#32 19#32
/-- The cipher's first word, after some of its rounds. -/
def a13 (n : BitVec 32) : BitVec 32 := a5 n + a12 n
/-- The cipher's second word, after some of its rounds. -/
def a19 (n : BitVec 32) : BitVec 32 := mix (a13 n) (a12 n) 15#32 17#32
/-- The cipher's first word, after some of its rounds. -/
def a20 (n : BitVec 32) : BitVec 32 := a13 n + a19 n
/-- The cipher's second word, after some of its rounds. -/
def a26 (n : BitVec 32) : BitVec 32 := mix (a20 n) (a19 n) 26#32 6#32
/-- The cipher's first word, after some of its rounds. -/
def a27 (n : BitVec 32) : BitVec 32 := a20 n + a26 n
/-- The cipher's second word, after some of its rounds. -/
def a39 (n : BitVec 32) : BitVec 32 := mix (a27 n) (a26 n) 6#32 26#32 + 466689008#32 + 1#32
/-- The cipher's first word, after some of its rounds. -/
def a40 (n : BitVec 32) : BitVec 32 := a27 n + 42#32 + a39 n
/-- The cipher's second word, after some of its rounds. -/
def a46 (n : BitVec 32) : BitVec 32 := mix (a40 n) (a39 n) 17#32 15#32
/-- The cipher's first word, after some of its rounds. -/
def a47 (n : BitVec 32) : BitVec 32 := a40 n + a46 n
/-- The cipher's second word, after some of its rounds. -/
def a53 (n : BitVec 32) : BitVec 32 := mix (a47 n) (a46 n) 29#32 3#32
/-- The cipher's first word, after some of its rounds. -/
def a54 (n : BitVec 32) : BitVec 32 := a47 n + a53 n
/-- The cipher's second word, after some of its rounds. -/
def a60 (n : BitVec 32) : BitVec 32 := mix (a54 n) (a53 n) 16#32 16#32
/-- The cipher's first word, after some of its rounds. -/
def a61 (n : BitVec 32) : BitVec 32 := a54 n + a60 n
/-- The cipher's second word, after some of its rounds. -/
def a73 (n : BitVec 32) : BitVec 32 := mix (a61 n) (a60 n) 24#32 8#32 + 0#32 + 2#32
/-- The cipher's first word, after some of its rounds. -/
def a74 (n : BitVec 32) : BitVec 32 := a61 n + 466689008#32 + a73 n
/-- The cipher's second word, after some of its rounds. -/
def a80 (n : BitVec 32) : BitVec 32 := mix (a74 n) (a73 n) 13#32 19#32
/-- The cipher's first word, after some of its rounds. -/
def a81 (n : BitVec 32) : BitVec 32 := a74 n + a80 n
/-- The cipher's second word, after some of its rounds. -/
def a87 (n : BitVec 32) : BitVec 32 := mix (a81 n) (a80 n) 15#32 17#32
/-- The cipher's first word, after some of its rounds. -/
def a88 (n : BitVec 32) : BitVec 32 := a81 n + a87 n
/-- The cipher's second word, after some of its rounds. -/
def a94 (n : BitVec 32) : BitVec 32 := mix (a88 n) (a87 n) 26#32 6#32
/-- The cipher's first word, after some of its rounds. -/
def a95 (n : BitVec 32) : BitVec 32 := a88 n + a94 n
/-- The cipher's second word, after some of its rounds. -/
def a107 (n : BitVec 32) : BitVec 32 := mix (a95 n) (a94 n) 6#32 26#32 + 42#32 + 3#32
/-- The cipher's first word, after some of its rounds. -/
def a108 (n : BitVec 32) : BitVec 32 := a95 n + 0#32 + a107 n
/-- The cipher's second word, after some of its rounds. -/
def a114 (n : BitVec 32) : BitVec 32 := mix (a108 n) (a107 n) 17#32 15#32
/-- The cipher's first word, after some of its rounds. -/
def a115 (n : BitVec 32) : BitVec 32 := a108 n + a114 n
/-- The cipher's second word, after some of its rounds. -/
def a121 (n : BitVec 32) : BitVec 32 := mix (a115 n) (a114 n) 29#32 3#32
/-- The cipher's first word, after some of its rounds. -/
def a122 (n : BitVec 32) : BitVec 32 := a115 n + a121 n
/-- The cipher's second word, after some of its rounds. -/
def a128 (n : BitVec 32) : BitVec 32 := mix (a122 n) (a121 n) 16#32 16#32
/-- The cipher's first word, after some of its rounds. -/
def a129 (n : BitVec 32) : BitVec 32 := a122 n + a128 n
/-- The cipher's second word, after some of its rounds. -/
def a141 (n : BitVec 32) : BitVec 32 := mix (a129 n) (a128 n) 24#32 8#32 + 466689008#32 + 4#32
/-- The cipher's first word, after some of its rounds. -/
def a142 (n : BitVec 32) : BitVec 32 := a129 n + 42#32 + a141 n
/-- The cipher's second word, after some of its rounds. -/
def a148 (n : BitVec 32) : BitVec 32 := mix (a142 n) (a141 n) 13#32 19#32
/-- The cipher's first word, after some of its rounds. -/
def a149 (n : BitVec 32) : BitVec 32 := a142 n + a148 n
/-- The cipher's second word, after some of its rounds. -/
def a155 (n : BitVec 32) : BitVec 32 := mix (a149 n) (a148 n) 15#32 17#32
/-- The cipher's first word, after some of its rounds. -/
def a156 (n : BitVec 32) : BitVec 32 := a149 n + a155 n
/-- The cipher's second word, after some of its rounds. -/
def a162 (n : BitVec 32) : BitVec 32 := mix (a156 n) (a155 n) 26#32 6#32
/-- The cipher's first word, after some of its rounds. -/
def a163 (n : BitVec 32) : BitVec 32 := a156 n + a162 n

/-- The random word at counter `n`: the generator's two output words, exclusive-or'ed. -/
def word (n : BitVec 32) : BitVec 32 := (a163 n + 466689008#32) ^^^ (mix (a163 n) (a162 n) 6#32 26#32 + 0#32 + 5#32)

end Cert.Draws

end
-- ==== Proof.Hits.lean ====
/- What both programs count: category `j` is hit by draw `d` of row `i` when the draw is wanted and no category's value is less. -/
module

public import proofs.«01_k».proof.Proof.Noise
public import proofs.«01_k».proof.Proof.Words

@[expose] public section

noncomputable section

namespace Cert.Draws

open Idealize.ShloMosaic Classical

/-- Category `j`'s value in draw `d` of row `i`, the row's parameters `θ`. -/
def valOf (θ : Fin 1024 → EReal) (i d : ℕ) (j : Fin 1024) : EReal := val (expo (word (ctr i d j.val))) (θ j)

/-- One where `c` holds and `j`'s value is the least of `v`, zero elsewhere. -/
def pick (v : Fin 1024 → EReal) (c : BitVec 1) (j : Fin 1024) : EReal := if c = 1#1 ∧ ∀ k, v j ≤ v k then 1 else 0

/-- One where draw `d` of row `i` is among the `n` wanted and category `j`'s value is the least, zero elsewhere. -/
def hit (θ : Fin 1024 → EReal) (n : BitVec 32) (i d : ℕ) (j : Fin 1024) : EReal :=
  pick (valOf θ i d) (IntOp.cmpi .slt (BitVec.ofNat 32 d) n) j

/-- A hit, its values spelled out. -/
theorem hit_eq (θ : Fin 1024 → EReal) (n : BitVec 32) (i d : ℕ) (j : Fin 1024) :
    hit θ n i d j = pick (fun k => val (expo (word (ctr i d k.val))) (θ k)) (IntOp.cmpi .slt (BitVec.ofNat 32 d) n) j := rfl

/-- A wanted draw hits the category whose value is least, -/
theorem hit_one (θ : Fin 1024 → EReal) (n : BitVec 32) (i d : ℕ) (j : Fin 1024) (hc : IntOp.cmpi .slt (BitVec.ofNat 32 d) n = 1#1)
    (h : ∀ k, valOf θ i d j ≤ valOf θ i d k) : hit θ n i d j = 1 := if_pos ⟨hc, h⟩

/-- and no other; -/
theorem hit_zero_of (θ : Fin 1024 → EReal) (n : BitVec 32) (i d : ℕ) (j : Fin 1024) (h : ¬ ∀ k, valOf θ i d j ≤ valOf θ i d k) :
    hit θ n i d j = 0 := if_neg fun e => h e.2

/-- a draw past the wanted ones hits nothing. -/
theorem hit_masked (θ : Fin 1024 → EReal) (n : BitVec 32) (i d : ℕ) (j : Fin 1024) (hc : ¬ IntOp.cmpi .slt (BitVec.ofNat 32 d) n = 1#1) :
    hit θ n i d j = 0 := if_neg fun e => hc e.1

/-- How often category `j` of row `i` is hit in the hundred draws. -/
def counts (θ : Fin 1024 → EReal) (n : BitVec 32) (i : ℕ) (j : Fin 1024) : EReal := ∑ d : Fin 100, hit θ n i d.val j

end Cert.Draws

end
-- ==== Proof.Argmax.lean ====
/- The host's arg-max over the categories, and the precondition's count of the winners, read over the extended reals: where one
   category alone attains the maximum, the arg-max is it. -/
module

public import proofs.«01_k».proof.Proof.PreFn
public import Idealize.ShloMosaic.Lib.Pointwise
public import Idealize.ShloMosaic.PureOps.Ideal.Laws

@[expose] public section

noncomputable section

namespace Cert.Draws

open Cert.ReferenceIdeal Cert.ReferenceIdeal.Gen Cert.ReferenceIdeal.Value Idealize.ShloMosaic Idealize.ShloMosaic.TcCoe

/-- One step of the arg-max keeps one of the two pairs, the one with the greater value. -/
theorem reducer_cases (a b : Ideal .f32 × BitVec 32) :
    (reducer_argmax_f32_i32 a b = a ∧ b.1 ≤ a.1) ∨ (reducer_argmax_f32_i32 a b = b ∧ a.1 ≤ b.1) := by
  obtain ⟨x, m⟩ := a
  obtain ⟨y, n⟩ := b
  have hun : FloatOps.cmpf (F := Ideal) .une x x = 0#1 := by simp [Ideal.cmpf_def, Ideal.cmp]
  rcases lt_trichotomy x y with h | h | h
  · right
    refine ⟨?_, h.le⟩
    have h1 : FloatOps.cmpf (F := Ideal) .ogt x y = 0#1 := by
      show BitVec.ofBool (decide (y < x)) = 0#1
      rw [decide_eq_false h.not_gt]; rfl
    have h2 : FloatOps.cmpf (F := Ideal) .oeq x y = 0#1 := by simp [Ideal.cmpf_def, Ideal.cmp, h.ne]
    unfold reducer_argmax_f32_i32
    simp only [hun, h1, h2]
    simp [IntOp.ori, IntOp.andi, Scalar.select]
  · subst h
    have h1 : FloatOps.cmpf (F := Ideal) .ogt x x = 0#1 := by simp [Ideal.cmpf_def, Ideal.cmp]
    have h2 : FloatOps.cmpf (F := Ideal) .oeq x x = 1#1 := by simp [Ideal.cmpf_def, Ideal.cmp]
    unfold reducer_argmax_f32_i32
    simp only [hun, h1, h2]
    by_cases hc : IntOp.cmpi .slt m n = 1#1
    · left; simp [IntOp.ori, IntOp.andi, Scalar.select, hc]
    · right; simp [IntOp.ori, IntOp.andi, Scalar.select, (BitVec.eq_zero_or_eq_one _).resolve_right hc]
  · left
    refine ⟨?_, h.le⟩
    have h1 : FloatOps.cmpf (F := Ideal) .ogt x y = 1#1 := by simp [Ideal.cmpf_def, Ideal.cmp, h]
    unfold reducer_argmax_f32_i32
    simp only [hun, h1]
    generalize IntOp.andi _ _ = z
    rcases BitVec.eq_zero_or_eq_one z with rfl | rfl <;> simp [IntOp.ori, Scalar.select]

/-- The arg-max's fold over a list: its result is the start or one of the list's pairs, and no pair has a greater value. -/
theorem foldl_reducer (l : List (Ideal .f32 × BitVec 32)) (a : Ideal .f32 × BitVec 32) :
    (l.foldl reducer_argmax_f32_i32 a = a ∨ l.foldl reducer_argmax_f32_i32 a ∈ l) ∧ a.1 ≤ (l.foldl reducer_argmax_f32_i32 a).1
      ∧ ∀ p ∈ l, p.1 ≤ (l.foldl reducer_argmax_f32_i32 a).1 := by
  induction l generalizing a with
  | nil => exact ⟨.inl rfl, le_rfl, by simp⟩
  | cons p l ih =>
    rw [List.foldl_cons]
    obtain ⟨h1, h2, h3⟩ := ih (reducer_argmax_f32_i32 a p)
    rcases reducer_cases a p with ⟨e, hle⟩ | ⟨e, hle⟩
    · rw [e] at h1 h2 h3 ⊢
      refine ⟨h1.imp_right (List.mem_cons_of_mem _), h2, fun q hq => ?_⟩
      rcases List.mem_cons.mp hq with rfl | hq
      · exact hle.trans h2
      · exact h3 q hq
    · rw [e] at h1 h2 h3 ⊢
      refine ⟨.inr ?_, hle.trans h2, fun q hq => ?_⟩
      · rcases h1 with h | h
        · rw [h]; exact List.mem_cons_self
        · exact List.mem_cons_of_mem _ h
      · rcases List.mem_cons.mp hq with rfl | hq
        · exact h2
        · exact h3 q hq

/-- Dropping the category of an index. -/
theorem drop_ix3 (i : Fin 4096) (d : Fin 100) (j : Fin 1024) :
    reducesTo_S4096x100x1024_S4096x100_d2.drop (ix3 i d j) = ix2 i d := by
  funext a; fin_cases a <;> rfl

/-- The word of negative infinity reads as the least extended real. -/
theorem negInf : Ideal.ofBits .f32 0xFF800000#32 = ⊥ := by
  simp [Ideal.ofBits, Ideal.ieee]

/-- The arg-max of scores none of which is `-∞`: a category whose score no other exceeds. -/
theorem argmax_spec (s : FVec Ideal S4096x100x1024 .f32) (i : Fin 4096) (d : Fin 100) (hs : ∀ j, s (ix3 i d j) ≠ ⊥) :
    ∃ j : Fin 1024, (Host.argReduce reducer_argmax_f32_i32 s (iotaInDim S4096x100x1024 32 2) (constant S_ .f32 0xFF800000#32) (constantI S_ 32 0#32)
        reducesTo_S4096x100x1024_S4096x100_d2 h_S_ (ix2 i d)).2 = BitVec.ofNat 32 j.val ∧ ∀ k, s (ix3 i d k) ≤ s (ix3 i d j) := by
  rw [Ideal.argReduce_eq_reduce2, Host.reduce2_eq_foldl_fiber]
  set l := Host.argReduceFiber s (iotaInDim S4096x100x1024 32 2) reducesTo_S4096x100x1024_S4096x100_d2 (ix2 i d) with hl
  have hmem : ∀ k : Fin 1024, (s (ix3 i d k), BitVec.ofNat 32 k.val) ∈ l := fun k => by
    rw [hl, Host.argReduceFiber, List.mem_map]
    refine ⟨S4096x100x1024.rowMajor (ix3 i d k), ?_, ?_⟩
    · rw [List.mem_filter]
      refine ⟨List.mem_finRange _, ?_⟩
      rw [Equiv.symm_apply_apply, drop_ix3]; simp
    · rw [Equiv.symm_apply_apply]; rfl
  have hback : ∀ p ∈ l, ∃ k : Fin 1024, p = (s (ix3 i d k), BitVec.ofNat 32 k.val) := fun p hp => by
    rw [hl, Host.argReduceFiber, List.mem_map] at hp
    obtain ⟨n, hn, rfl⟩ := hp
    have hn := of_decide_eq_true (List.mem_filter.mp hn).2
    generalize S4096x100x1024.rowMajor.symm n = y at hn
    obtain ⟨a, b, k, rfl⟩ : ∃ a b k, y = ix3 a b k := ⟨y 0, y 1, y 2, eq_ix3 y⟩
    rw [drop_ix3] at hn
    have ha : a = i := congrFun hn 0
    have hb : b = d := congrFun hn 1
    subst ha hb
    exact ⟨k, rfl⟩
  obtain ⟨h1, -, h3⟩ := foldl_reducer l ((constant S_ .f32 0xFF800000#32 : FVec Ideal S_ .f32) (Shape.Idx.first h_S_), constantI S_ 32 0#32 (Shape.Idx.first h_S_))
  have hin : l.foldl reducer_argmax_f32_i32 ((constant S_ .f32 0xFF800000#32 : FVec Ideal S_ .f32) (Shape.Idx.first h_S_), constantI S_ 32 0#32 (Shape.Idx.first h_S_)) ∈ l := by
    rcases h1 with h | h
    · exfalso
      have h0 := h3 _ (hmem 0)
      rw [h] at h0
      have hb : (constant S_ .f32 0xFF800000#32 : FVec Ideal S_ .f32) (Shape.Idx.first h_S_) = (⊥ : EReal) := negInf
      exact hs 0 (le_bot_iff.mp (h0.trans hb.le))
    · exact h
  obtain ⟨j, hj⟩ := hback _ hin
  refine ⟨j, congrArg Prod.snd hj, fun k => ?_⟩
  have := h3 _ (hmem k)
  rw [hj] at this
  exact this

/-- A value is the maximum of a family exactly when no member exceeds it. -/
theorem eq_fold_max_iff (f : Fin 1024 → EReal) (j : Fin 1024) :
    f j = Finset.univ.fold max (⊥ : EReal) f ↔ ∀ k, f k ≤ f j := by
  constructor
  · intro h k
    rw [h, Finset.le_fold_max]
    exact .inr ⟨k, Finset.mem_univ k, le_rfl⟩
  · intro h
    apply le_antisymm
    · rw [Finset.le_fold_max]
      exact .inr ⟨j, Finset.mem_univ j, le_rfl⟩
    · rw [Finset.fold_max_le]
      exact ⟨bot_le, fun k _ => h k⟩

/-- A value is the minimum of a family exactly when it exceeds no member. -/
theorem eq_fold_min_iff (f : Fin 1024 → EReal) (j : Fin 1024) :
    f j = Finset.univ.fold min (⊤ : EReal) f ↔ ∀ k, f j ≤ f k := by
  constructor
  · intro h k
    rw [h, Finset.fold_min_le]
    exact .inr ⟨k, Finset.mem_univ k, le_rfl⟩
  · intro h
    apply le_antisymm
    · rw [Finset.le_fold_min]
      exact ⟨le_top, fun k _ => h k⟩
    · rw [Finset.fold_min_le]
      exact .inr ⟨j, Finset.mem_univ j, le_rfl⟩

/-- A sum of zero-one words counts. -/
theorem fold_count (p : Fin 1024 → Prop) [DecidablePred p] (S : Finset (Fin 1024)) :
    Finset.fold IntOp.addi 0#32 (fun x => BitVec.setWidth 32 (BitVec.ofBool (decide (p x)))) S = BitVec.ofNat 32 (S.filter p).card := by
  induction S using Finset.induction_on with
  | empty => rfl
  | insert a S ha ih =>
    rw [Finset.fold_insert ha, ih, Finset.filter_insert]
    by_cases h : p a
    · rw [if_pos h, Finset.card_insert_of_notMem (fun hh => ha (Finset.mem_of_mem_filter _ hh))]
      simp only [h, decide_true, IntOp.addi]
      rw [BitVec.ofNat_add, BitVec.add_comm]; rfl
    · rw [if_neg h]
      simp only [h, decide_false, IntOp.addi]
      exact BitVec.zero_add _

/-- Where the winners count one, two categories no other exceeds are one category. -/
theorem winners_unique (s : FVec Ideal S4096x100x1024 .f32) (i : Fin 4096) (d : Fin 100) (h : Cert.Pre.winners s (ix2 i d) = 1#32)
    (j j' : Fin 1024) (hj : ∀ k, s (ix3 i d k) ≤ s (ix3 i d j)) (hj' : ∀ k, s (ix3 i d k) ≤ s (ix3 i d j')) : j = j' := by
  pointwise [Cert.Pre.winners] at h
  rw [negInf] at h
  rw [fold_count (fun x => s (ix3 i d x) = Finset.fold max ⊥ (fun x => s (ix3 i d x)) Finset.univ)] at h
  have hc : (Finset.univ.filter (fun x => s (ix3 i d x) = Finset.fold max ⊥ (fun x => s (ix3 i d x)) Finset.univ)).card = 1 := by
    have hle := Finset.card_le_univ (Finset.univ.filter (fun x : Fin 1024 => s (ix3 i d x) = Finset.fold max ⊥ (fun x => s (ix3 i d x)) Finset.univ))
    rw [Fintype.card_fin] at hle
    have := congrArg BitVec.toNat h
    rw [BitVec.toNat_ofNat] at this
    have h1 : (1#32).toNat = 1 := rfl
    omega
  obtain ⟨a, ha⟩ := Finset.card_eq_one.mp hc
  have e := fun x hx => Finset.mem_singleton.mp (ha ▸ Finset.mem_filter.mpr ⟨Finset.mem_univ x, (eq_fold_max_iff (fun x => s (ix3 i d x)) x).mpr hx⟩ : x ∈ ({a} : Finset (Fin 1024)))
  rw [e j hj, e j' hj']

end Cert.Draws

end
-- ==== Proof.RefWords.lean ====
/- The random word the reference computes at row `i`, draw `d`, category `j` is the generator's word at their counter. -/
module

public import proofs.«01_k».proof.Proof.Words
public import proofs.«01_k».proof.Proof.RefTerms
public import Idealize.ShloMosaic.Lib.Pointwise

@[expose] public section

noncomputable section

namespace Cert.ReferenceIdeal.Words

open Cert.ReferenceIdeal Cert.ReferenceIdeal.Gen Cert.ReferenceIdeal.Value Idealize.ShloMosaic Idealize.ShloMosaic.TcCoe Cert.Draws

/-- A word at every index. -/
abbrev bc (w : BitVec 32) : IVec S4096x100x1024 32 := broadcastInDim S4096x100x1024 ![] bcast_S_S4096x100x1024 (constantI S_ 32 w)

/-- A vector of words at row `i`, draw `d`, category `j`; a scalar word. -/
abbrev at3 (v : IVec S4096x100x1024 32) (i : Fin 4096) (d : Fin 100) (j : Fin 1024) : BitVec 32 := v (ix3 i d j)
abbrev at0 (v : IVec S_ 32) (y : S_.Idx) : BitVec 32 := v y

/-- The reference's mixing step at an index. -/
theorem mix_apply (s x : IVec S4096x100x1024 32) (a b : BitVec 32) (ha : a.toNat < 32) (hb : b.toNat < 32) (i : S4096x100x1024.Idx) :
    xori s (ori (Host.shli x (bc a)) (Host.shrui x (bc b))) i = mix (s i) (x i) a b := by
  show s i ^^^ ((if a.toNat < 32 then x i <<< a else _) ||| (if b.toNat < 32 then x i >>> b else _)) = _
  rw [if_pos ha, if_pos hb]; rfl

variable {F : FTy → Type} [FloatOps F] (V0 : Valuation τ sig (Elt F))

/-- The key's two words, 0 and 42, and the third word of the key schedule. -/
theorem key0 (y : S_.Idx) : at0 (res_main_call1_v5 V0) y = 0#32 := by
  pointwise [res_main_call1_v5, res_main_v9, res_main_c]
  rfl
/-- the second key word, -/
theorem key1 (y : S_.Idx) : at0 (res_main_call1_v7 V0) y = 42#32 := by
  pointwise [res_main_call1_v7, res_main_v9, res_main_c]
  rfl
/-- and the third word of the key schedule. -/
theorem key2 (y : S_.Idx) : at0 (res_main_call1_call0_v1 V0) y = 466689008#32 := by
  show (at0 (res_main_call1_v5 V0) y ^^^ at0 (res_main_call1_v7 V0) y) ^^^ 466688986#32 = _
  rw [key0, key1]; decide

/-- The 64-bit counter. -/
theorem counter64 (i : Fin 4096) (d : Fin 100) (j : Fin 1024) :
    (res_main_call1_v18 V0 (ix3 i d j) : BitVec 64) = BitVec.ofNat 64 ((i.val * 100 + d.val) * 1024 + j.val) := by
  show (102400#64 * BitVec.ofNat 64 i.val + 1024#64 * BitVec.ofNat 64 d.val) + 1#64 * BitVec.ofNat 64 j.val = _
  apply BitVec.eq_of_toNat_eq
  simp only [BitVec.toNat_add, BitVec.toNat_mul, BitVec.toNat_ofNat]
  omega

variable (i : Fin 4096) (d : Fin 100) (j : Fin 1024)

/-- Its low word, plus the key's second word. -/
theorem r5 : at3 (res_main_call1_call0_v5 V0) i d j = a5 (ctr i d j) := by
  show ((res_main_call1_v18 V0 (ix3 i d j) : BitVec 64)).setWidth 32 + at0 (res_main_call1_v7 V0) _ = _
  rw [counter64, key1]
  apply BitVec.eq_of_toNat_eq
  simp only [a5, ctr, BitVec.toNat_add, BitVec.toNat_setWidth, BitVec.toNat_ofNat]
  omega

/-- Its high word is zero. -/
theorem r6 : at3 (res_main_call1_call0_v6 V0) i d j = a5 (ctr i d j) := by
  show ((IntOp.shrui .host ((res_main_call1_v18 V0 (ix3 i d j) : BitVec 64)) 32#64).setWidth 32 + at0 (res_main_call1_v5 V0) _) + at3 (res_main_call1_call0_v5 V0) i d j = _
  rw [counter64, key0, r5]
  have hz : (IntOp.shrui .host (BitVec.ofNat 64 ((i.val * 100 + d.val) * 1024 + j.val)) 32#64).setWidth 32 = 0#32 := by
    show (if (32#64).toNat < 64 then (BitVec.ofNat 64 ((i.val * 100 + d.val) * 1024 + j.val)) >>> 32#64 else _).setWidth 32 = _
    rw [if_pos (by decide)]
    apply BitVec.eq_of_toNat_eq
    have hi := i.isLt
    have hd := d.isLt
    have hj := j.isLt
    have : (BitVec.ofNat 64 ((i.val * 100 + d.val) * 1024 + j.val) >>> 32#64).toNat = 0 := by
      rw [BitVec.ushiftRight_eq', BitVec.toNat_ushiftRight]
      show (BitVec.ofNat 64 ((i.val * 100 + d.val) * 1024 + j.val)).toNat >>> 32 = 0
      rw [BitVec.toNat_ofNat, Nat.shiftRight_eq_div_pow]
      omega
    rw [BitVec.toNat_setWidth, this]; rfl
  rw [hz]; simp

/-- The reference's intermediate word here is `a12` of the counter. -/
theorem r12 : at3 (res_main_call1_call0_v12 V0) i d j = a12 (ctr i d j) := by
  refine (mix_apply (res_main_call1_call0_v6 V0) (res_main_call1_call0_v5 V0) 13#32 19#32 (by decide) (by decide) (ix3 i d j)).trans ?_
  show mix (at3 (res_main_call1_call0_v6 V0) i d j) (at3 (res_main_call1_call0_v5 V0) i d j) _ _ = _
  rw [r6, r5]; rfl
/-- The reference's intermediate word here is `a13` of the counter. -/
theorem r13 : at3 (res_main_call1_call0_v13 V0) i d j = a13 (ctr i d j) := by
  show at3 (res_main_call1_call0_v6 V0) i d j + at3 (res_main_call1_call0_v12 V0) i d j = _
  rw [r6, r12]; rfl
/-- The reference's intermediate word here is `a19` of the counter. -/
theorem r19 : at3 (res_main_call1_call0_v19 V0) i d j = a19 (ctr i d j) := by
  refine (mix_apply (res_main_call1_call0_v13 V0) (res_main_call1_call0_v12 V0) 15#32 17#32 (by decide) (by decide) (ix3 i d j)).trans ?_
  show mix (at3 (res_main_call1_call0_v13 V0) i d j) (at3 (res_main_call1_call0_v12 V0) i d j) _ _ = _
  rw [r13, r12]; rfl
/-- The reference's intermediate word here is `a20` of the counter. -/
theorem r20 : at3 (res_main_call1_call0_v20 V0) i d j = a20 (ctr i d j) := by
  show at3 (res_main_call1_call0_v13 V0) i d j + at3 (res_main_call1_call0_v19 V0) i d j = _
  rw [r13, r19]; rfl
/-- The reference's intermediate word here is `a26` of the counter. -/
theorem r26 : at3 (res_main_call1_call0_v26 V0) i d j = a26 (ctr i d j) := by
  refine (mix_apply (res_main_call1_call0_v20 V0) (res_main_call1_call0_v19 V0) 26#32 6#32 (by decide) (by decide) (ix3 i d j)).trans ?_
  show mix (at3 (res_main_call1_call0_v20 V0) i d j) (at3 (res_main_call1_call0_v19 V0) i d j) _ _ = _
  rw [r20, r19]; rfl
/-- The reference's intermediate word here is `a27` of the counter. -/
theorem r27 : at3 (res_main_call1_call0_v27 V0) i d j = a27 (ctr i d j) := by
  show at3 (res_main_call1_call0_v20 V0) i d j + at3 (res_main_call1_call0_v26 V0) i d j = _
  rw [r20, r26]; rfl
/-- The reference's intermediate word here is `a39` of the counter. -/
theorem r39 : at3 (res_main_call1_call0_v39 V0) i d j = a39 (ctr i d j) := by
  refine (congrArg (fun w => w + broadcastInDim S4096x100x1024 ![] bcast_S_S4096x100x1024 (res_main_call1_call0_v1 V0) (ix3 i d j) + 1#32) (mix_apply (res_main_call1_call0_v27 V0) (res_main_call1_call0_v26 V0) 6#32 26#32 (by decide) (by decide) (ix3 i d j))).trans ?_
  show mix (at3 (res_main_call1_call0_v27 V0) i d j) (at3 (res_main_call1_call0_v26 V0) i d j) _ _ + at0 (res_main_call1_call0_v1 V0) _ + _ = _
  rw [r27, r26, key2]; rfl
/-- The reference's intermediate word here is `a40` of the counter. -/
theorem r40 : at3 (res_main_call1_call0_v40 V0) i d j = a40 (ctr i d j) := by
  show at3 (res_main_call1_call0_v27 V0) i d j + at0 (res_main_call1_v7 V0) _ + at3 (res_main_call1_call0_v39 V0) i d j = _
  rw [r27, key1, r39]; rfl
/-- The reference's intermediate word here is `a46` of the counter. -/
theorem r46 : at3 (res_main_call1_call0_v46 V0) i d j = a46 (ctr i d j) := by
  refine (mix_apply (res_main_call1_call0_v40 V0) (res_main_call1_call0_v39 V0) 17#32 15#32 (by decide) (by decide) (ix3 i d j)).trans ?_
  show mix (at3 (res_main_call1_call0_v40 V0) i d j) (at3 (res_main_call1_call0_v39 V0) i d j) _ _ = _
  rw [r40, r39]; rfl
/-- The reference's intermediate word here is `a47` of the counter. -/
theorem r47 : at3 (res_main_call1_call0_v47 V0) i d j = a47 (ctr i d j) := by
  show at3 (res_main_call1_call0_v40 V0) i d j + at3 (res_main_call1_call0_v46 V0) i d j = _
  rw [r40, r46]; rfl
/-- The reference's intermediate word here is `a53` of the counter. -/
theorem r53 : at3 (res_main_call1_call0_v53 V0) i d j = a53 (ctr i d j) := by
  refine (mix_apply (res_main_call1_call0_v47 V0) (res_main_call1_call0_v46 V0) 29#32 3#32 (by decide) (by decide) (ix3 i d j)).trans ?_
  show mix (at3 (res_main_call1_call0_v47 V0) i d j) (at3 (res_main_call1_call0_v46 V0) i d j) _ _ = _
  rw [r47, r46]; rfl
/-- The reference's intermediate word here is `a54` of the counter. -/
theorem r54 : at3 (res_main_call1_call0_v54 V0) i d j = a54 (ctr i d j) := by
  show at3 (res_main_call1_call0_v47 V0) i d j + at3 (res_main_call1_call0_v53 V0) i d j = _
  rw [r47, r53]; rfl
/-- The reference's intermediate word here is `a60` of the counter. -/
theorem r60 : at3 (res_main_call1_call0_v60 V0) i d j = a60 (ctr i d j) := by
  refine (mix_apply (res_main_call1_call0_v54 V0) (res_main_call1_call0_v53 V0) 16#32 16#32 (by decide) (by decide) (ix3 i d j)).trans ?_
  show mix (at3 (res_main_call1_call0_v54 V0) i d j) (at3 (res_main_call1_call0_v53 V0) i d j) _ _ = _
  rw [r54, r53]; rfl
/-- The reference's intermediate word here is `a61` of the counter. -/
theorem r61 : at3 (res_main_call1_call0_v61 V0) i d j = a61 (ctr i d j) := by
  show at3 (res_main_call1_call0_v54 V0) i d j + at3 (res_main_call1_call0_v60 V0) i d j = _
  rw [r54, r60]; rfl
/-- The reference's intermediate word here is `a73` of the counter. -/
theorem r73 : at3 (res_main_call1_call0_v73 V0) i d j = a73 (ctr i d j) := by
  refine (congrArg (fun w => w + broadcastInDim S4096x100x1024 ![] bcast_S_S4096x100x1024 (res_main_call1_v5 V0) (ix3 i d j) + 2#32) (mix_apply (res_main_call1_call0_v61 V0) (res_main_call1_call0_v60 V0) 24#32 8#32 (by decide) (by decide) (ix3 i d j))).trans ?_
  show mix (at3 (res_main_call1_call0_v61 V0) i d j) (at3 (res_main_call1_call0_v60 V0) i d j) _ _ + at0 (res_main_call1_v5 V0) _ + _ = _
  rw [r61, r60, key0]; rfl
/-- The reference's intermediate word here is `a74` of the counter. -/
theorem r74 : at3 (res_main_call1_call0_v74 V0) i d j = a74 (ctr i d j) := by
  show at3 (res_main_call1_call0_v61 V0) i d j + at0 (res_main_call1_call0_v1 V0) _ + at3 (res_main_call1_call0_v73 V0) i d j = _
  rw [r61, key2, r73]; rfl
/-- The reference's intermediate word here is `a80` of the counter. -/
theorem r80 : at3 (res_main_call1_call0_v80 V0) i d j = a80 (ctr i d j) := by
  refine (mix_apply (res_main_call1_call0_v74 V0) (res_main_call1_call0_v73 V0) 13#32 19#32 (by decide) (by decide) (ix3 i d j)).trans ?_
  show mix (at3 (res_main_call1_call0_v74 V0) i d j) (at3 (res_main_call1_call0_v73 V0) i d j) _ _ = _
  rw [r74, r73]; rfl
/-- The reference's intermediate word here is `a81` of the counter. -/
theorem r81 : at3 (res_main_call1_call0_v81 V0) i d j = a81 (ctr i d j) := by
  show at3 (res_main_call1_call0_v74 V0) i d j + at3 (res_main_call1_call0_v80 V0) i d j = _
  rw [r74, r80]; rfl
/-- The reference's intermediate word here is `a87` of the counter. -/
theorem r87 : at3 (res_main_call1_call0_v87 V0) i d j = a87 (ctr i d j) := by
  refine (mix_apply (res_main_call1_call0_v81 V0) (res_main_call1_call0_v80 V0) 15#32 17#32 (by decide) (by decide) (ix3 i d j)).trans ?_
  show mix (at3 (res_main_call1_call0_v81 V0) i d j) (at3 (res_main_call1_call0_v80 V0) i d j) _ _ = _
  rw [r81, r80]; rfl
/-- The reference's intermediate word here is `a88` of the counter. -/
theorem r88 : at3 (res_main_call1_call0_v88 V0) i d j = a88 (ctr i d j) := by
  show at3 (res_main_call1_call0_v81 V0) i d j + at3 (res_main_call1_call0_v87 V0) i d j = _
  rw [r81, r87]; rfl
/-- The reference's intermediate word here is `a94` of the counter. -/
theorem r94 : at3 (res_main_call1_call0_v94 V0) i d j = a94 (ctr i d j) := by
  refine (mix_apply (res_main_call1_call0_v88 V0) (res_main_call1_call0_v87 V0) 26#32 6#32 (by decide) (by decide) (ix3 i d j)).trans ?_
  show mix (at3 (res_main_call1_call0_v88 V0) i d j) (at3 (res_main_call1_call0_v87 V0) i d j) _ _ = _
  rw [r88, r87]; rfl
/-- The reference's intermediate word here is `a95` of the counter. -/
theorem r95 : at3 (res_main_call1_call0_v95 V0) i d j = a95 (ctr i d j) := by
  show at3 (res_main_call1_call0_v88 V0) i d j + at3 (res_main_call1_call0_v94 V0) i d j = _
  rw [r88, r94]; rfl
/-- The reference's intermediate word here is `a107` of the counter. -/
theorem r107 : at3 (res_main_call1_call0_v107 V0) i d j = a107 (ctr i d j) := by
  refine (congrArg (fun w => w + broadcastInDim S4096x100x1024 ![] bcast_S_S4096x100x1024 (res_main_call1_v7 V0) (ix3 i d j) + 3#32) (mix_apply (res_main_call1_call0_v95 V0) (res_main_call1_call0_v94 V0) 6#32 26#32 (by decide) (by decide) (ix3 i d j))).trans ?_
  show mix (at3 (res_main_call1_call0_v95 V0) i d j) (at3 (res_main_call1_call0_v94 V0) i d j) _ _ + at0 (res_main_call1_v7 V0) _ + _ = _
  rw [r95, r94, key1]; rfl
/-- The reference's intermediate word here is `a108` of the counter. -/
theorem r108 : at3 (res_main_call1_call0_v108 V0) i d j = a108 (ctr i d j) := by
  show at3 (res_main_call1_call0_v95 V0) i d j + at0 (res_main_call1_v5 V0) _ + at3 (res_main_call1_call0_v107 V0) i d j = _
  rw [r95, key0, r107]; rfl
/-- The reference's intermediate word here is `a114` of the counter. -/
theorem r114 : at3 (res_main_call1_call0_v114 V0) i d j = a114 (ctr i d j) := by
  refine (mix_apply (res_main_call1_call0_v108 V0) (res_main_call1_call0_v107 V0) 17#32 15#32 (by decide) (by decide) (ix3 i d j)).trans ?_
  show mix (at3 (res_main_call1_call0_v108 V0) i d j) (at3 (res_main_call1_call0_v107 V0) i d j) _ _ = _
  rw [r108, r107]; rfl
/-- The reference's intermediate word here is `a115` of the counter. -/
theorem r115 : at3 (res_main_call1_call0_v115 V0) i d j = a115 (ctr i d j) := by
  show at3 (res_main_call1_call0_v108 V0) i d j + at3 (res_main_call1_call0_v114 V0) i d j = _
  rw [r108, r114]; rfl
/-- The reference's intermediate word here is `a121` of the counter. -/
theorem r121 : at3 (res_main_call1_call0_v121 V0) i d j = a121 (ctr i d j) := by
  refine (mix_apply (res_main_call1_call0_v115 V0) (res_main_call1_call0_v114 V0) 29#32 3#32 (by decide) (by decide) (ix3 i d j)).trans ?_
  show mix (at3 (res_main_call1_call0_v115 V0) i d j) (at3 (res_main_call1_call0_v114 V0) i d j) _ _ = _
  rw [r115, r114]; rfl
/-- The reference's intermediate word here is `a122` of the counter. -/
theorem r122 : at3 (res_main_call1_call0_v122 V0) i d j = a122 (ctr i d j) := by
  show at3 (res_main_call1_call0_v115 V0) i d j + at3 (res_main_call1_call0_v121 V0) i d j = _
  rw [r115, r121]; rfl
/-- The reference's intermediate word here is `a128` of the counter. -/
theorem r128 : at3 (res_main_call1_call0_v128 V0) i d j = a128 (ctr i d j) := by
  refine (mix_apply (res_main_call1_call0_v122 V0) (res_main_call1_call0_v121 V0) 16#32 16#32 (by decide) (by decide) (ix3 i d j)).trans ?_
  show mix (at3 (res_main_call1_call0_v122 V0) i d j) (at3 (res_main_call1_call0_v121 V0) i d j) _ _ = _
  rw [r122, r121]; rfl
/-- The reference's intermediate word here is `a129` of the counter. -/
theorem r129 : at3 (res_main_call1_call0_v129 V0) i d j = a129 (ctr i d j) := by
  show at3 (res_main_call1_call0_v122 V0) i d j + at3 (res_main_call1_call0_v128 V0) i d j = _
  rw [r122, r128]; rfl
/-- The reference's intermediate word here is `a141` of the counter. -/
theorem r141 : at3 (res_main_call1_call0_v141 V0) i d j = a141 (ctr i d j) := by
  refine (congrArg (fun w => w + broadcastInDim S4096x100x1024 ![] bcast_S_S4096x100x1024 (res_main_call1_call0_v1 V0) (ix3 i d j) + 4#32) (mix_apply (res_main_call1_call0_v129 V0) (res_main_call1_call0_v128 V0) 24#32 8#32 (by decide) (by decide) (ix3 i d j))).trans ?_
  show mix (at3 (res_main_call1_call0_v129 V0) i d j) (at3 (res_main_call1_call0_v128 V0) i d j) _ _ + at0 (res_main_call1_call0_v1 V0) _ + _ = _
  rw [r129, r128, key2]; rfl
/-- The reference's intermediate word here is `a142` of the counter. -/
theorem r142 : at3 (res_main_call1_call0_v142 V0) i d j = a142 (ctr i d j) := by
  show at3 (res_main_call1_call0_v129 V0) i d j + at0 (res_main_call1_v7 V0) _ + at3 (res_main_call1_call0_v141 V0) i d j = _
  rw [r129, key1, r141]; rfl
/-- The reference's intermediate word here is `a148` of the counter. -/
theorem r148 : at3 (res_main_call1_call0_v148 V0) i d j = a148 (ctr i d j) := by
  refine (mix_apply (res_main_call1_call0_v142 V0) (res_main_call1_call0_v141 V0) 13#32 19#32 (by decide) (by decide) (ix3 i d j)).trans ?_
  show mix (at3 (res_main_call1_call0_v142 V0) i d j) (at3 (res_main_call1_call0_v141 V0) i d j) _ _ = _
  rw [r142, r141]; rfl
/-- The reference's intermediate word here is `a149` of the counter. -/
theorem r149 : at3 (res_main_call1_call0_v149 V0) i d j = a149 (ctr i d j) := by
  show at3 (res_main_call1_call0_v142 V0) i d j + at3 (res_main_call1_call0_v148 V0) i d j = _
  rw [r142, r148]; rfl
/-- The reference's intermediate word here is `a155` of the counter. -/
theorem r155 : at3 (res_main_call1_call0_v155 V0) i d j = a155 (ctr i d j) := by
  refine (mix_apply (res_main_call1_call0_v149 V0) (res_main_call1_call0_v148 V0) 15#32 17#32 (by decide) (by decide) (ix3 i d j)).trans ?_
  show mix (at3 (res_main_call1_call0_v149 V0) i d j) (at3 (res_main_call1_call0_v148 V0) i d j) _ _ = _
  rw [r149, r148]; rfl
/-- The reference's intermediate word here is `a156` of the counter. -/
theorem r156 : at3 (res_main_call1_call0_v156 V0) i d j = a156 (ctr i d j) := by
  show at3 (res_main_call1_call0_v149 V0) i d j + at3 (res_main_call1_call0_v155 V0) i d j = _
  rw [r149, r155]; rfl
/-- The reference's intermediate word here is `a162` of the counter. -/
theorem r162 : at3 (res_main_call1_call0_v162 V0) i d j = a162 (ctr i d j) := by
  refine (mix_apply (res_main_call1_call0_v156 V0) (res_main_call1_call0_v155 V0) 26#32 6#32 (by decide) (by decide) (ix3 i d j)).trans ?_
  show mix (at3 (res_main_call1_call0_v156 V0) i d j) (at3 (res_main_call1_call0_v155 V0) i d j) _ _ = _
  rw [r156, r155]; rfl
/-- The reference's intermediate word here is `a163` of the counter. -/
theorem r163 : at3 (res_main_call1_call0_v163 V0) i d j = a163 (ctr i d j) := by
  show at3 (res_main_call1_call0_v156 V0) i d j + at3 (res_main_call1_call0_v162 V0) i d j = _
  rw [r156, r162]; rfl

/-- The reference's random words. -/
def words : IVec S4096x100x1024 32 :=
  xori (addi (res_main_call1_call0_v163 V0) (broadcastInDim S4096x100x1024 ![] bcast_S_S4096x100x1024 (res_main_call1_call0_v1 V0))) (addi (addi (xori (res_main_call1_call0_v163 V0) (ori (Host.shli (res_main_call1_call0_v162 V0) (broadcastInDim S4096x100x1024 ![] bcast_S_S4096x100x1024 (constantI S_ 32 6#32))) (Host.shrui (res_main_call1_call0_v162 V0) (broadcastInDim S4096x100x1024 ![] bcast_S_S4096x100x1024 (constantI S_ 32 26#32))))) (broadcastInDim S4096x100x1024 ![] bcast_S_S4096x100x1024 (res_main_call1_v5 V0))) (broadcastInDim S4096x100x1024 ![] bcast_S_S4096x100x1024 (constantI S_ 32 5#32)))

/-- The reference's random word at row `i`, draw `d`, category `j` is the generator's word at their counter. -/
theorem words_apply : at3 (words V0) i d j = word (ctr i d j) := by
  refine (congrArg (fun w => (at3 (res_main_call1_call0_v163 V0) i d j + at0 (res_main_call1_call0_v1 V0) _) ^^^ (w + at0 (res_main_call1_v5 V0) _ + 5#32)) (mix_apply (res_main_call1_call0_v163 V0) (res_main_call1_call0_v162 V0) 6#32 26#32 (by decide) (by decide) (ix3 i d j))).trans ?_
  show (_ + _) ^^^ (mix (at3 (res_main_call1_call0_v163 V0) i d j) (at3 (res_main_call1_call0_v162 V0) i d j) _ _ + _ + _) = _
  rw [r163, r162, key2, key0]; rfl

end Cert.ReferenceIdeal.Words

end
-- ==== Proof.RefReads.lean ====
/- The reference's scores, arg-max and counts over named arrays: the random words, the index pairs and the weights they are made from. -/
module

public import proofs.«01_k».proof.Proof.RefWords

@[expose] public section

set_option maxRecDepth 16384

noncomputable section

namespace Cert.ReferenceIdeal.Counts

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (V0 : Valuation τ sig (Elt F))

/-- The parameters, the wants of the rows and of the columns, the factor: the arguments. -/
def theta : FVec F S4096x1024 .f32 := V0 (Proc.devRef .tc main_arg0)
/-- The rows' wants, -/
def want : FVec F S4096 .f32 := V0 (Proc.devRef .tc main_arg1)
/-- the columns' wants, -/
def colWant : FVec F S1024 .f32 := V0 (Proc.devRef .tc main_arg2)
/-- and the factor of the loss. -/
def factor : FVec F S_ .f32 := V0 (Proc.devRef .tc main_arg3)
/-- The scores, the arg-max and the counts. -/
def scores : FVec F S4096x100x1024 .f32 := res_main_v21 V0
/-- The arg-max of each draw's scores, -/
def best : IVec S4096x100 32 := res_main_v22 V0
/-- and the counts. -/
def drawn : FVec F S4096x1024 .f32 := res_main_v47 V0

/-- The scores over a table of words and an array of parameters. -/
def scoresOf (W : IVec S4096x100x1024 32) (T : FVec F S4096x1024 .f32) : FVec F S4096x100x1024 .f32 :=
  addf (Host.negf (Host.log (Host.negf (Host.log (maximumf (broadcastInDim S4096x100x1024 ![] bcast_S_S4096x100x1024 (constant S_ .f32 0x00800000#32)) (addf (maximumf (broadcastInDim S4096x100x1024 ![0, 1, 2] bcast_S1x1x1_S4096x100x1024_0_1_2 (broadcastInDim S1x1x1 ![] bcast_S_S1x1x1 (constant S_ .f32 0x00000000#32))) (addf (mulf (subf (bitcastToFloat (F := F) .f32 (ori (Host.shrui W (broadcastInDim S4096x100x1024 ![] bcast_S_S4096x100x1024 (constantI S_ 32 9#32))) (broadcastInDim S4096x100x1024 ![] bcast_S_S4096x100x1024 (constantI S_ 32 1065353216#32)))) (broadcastInDim S4096x100x1024 ![] bcast_S_S4096x100x1024 (constant S_ .f32 0x3F800000#32))) (broadcastInDim S4096x100x1024 ![0, 1, 2] bcast_S1x1x1_S4096x100x1024_0_1_2 (subf (broadcastInDim S1x1x1 ![] bcast_S_S1x1x1 (constant S_ .f32 0x3F800000#32)) (broadcastInDim S1x1x1 ![] bcast_S_S1x1x1 (constant S_ .f32 0x00000000#32))))) (broadcastInDim S4096x100x1024 ![0, 1, 2] bcast_S1x1x1_S4096x100x1024_0_1_2 (broadcastInDim S1x1x1 ![] bcast_S_S1x1x1 (constant S_ .f32 0x00000000#32))))) (broadcastInDim S4096x100x1024 ![] bcast_S_S4096x100x1024 (constant S_ .f32 0x00800000#32)))))))) (broadcastInDim S4096x100x1024 ![0, 1, 2] bcast_S4096x1x1024_S4096x100x1024_0_1_2 (broadcastInDim S4096x1x1024 ![0, 2] bcast_S4096x1024_S4096x1x1024_0_2 (Host.log (maximumf (broadcastInDim S4096x1024 ![] bcast_S_S4096x1024 (constant S_ .f32 0x0DA24260#32)) T))))

/-- The scores are those over the random words. -/
theorem scores_eq : scores V0 = scoresOf (Words.words V0) (theta V0) := rfl

/-- The arg-maxes are those of the scores. -/
theorem best_eq : best V0
    = fun j => (Host.argReduce reducer_argmax_f32_i32 (scores V0) (iotaInDim S4096x100x1024 32 2) (constant S_ .f32 0xFF800000#32) (constantI S_ 32 0#32)
        reducesTo_S4096x100x1024_S4096x100_d2 h_S_ j).2 := rfl

/-- The pairs of index words the scatter reads: the row, and the arg-max, each wrapped where it is negative. -/
def pairs (best : IVec S4096x100 32) : IVec S4096x100x2 32 :=
  concatenate S4096x100x2 2 [⟨S4096x100x1, (broadcastInDim S4096x100x1 ![0, 1] bcast_S4096x100_S4096x100x1_0_1 (broadcastInDim S4096x100 ![0, 1] bcast_S4096x1_S4096x100_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x100x1, (broadcastInDim S4096x100x1 ![0, 1] bcast_S4096x100_S4096x100x1_0_1 (select (cmpi .slt best (broadcastInDim S4096x100 ![] bcast_S_S4096x100 (constantI S_ 32 0#32))) (addi best (broadcastInDim S4096x100 ![] bcast_S_S4096x100 (constantI S_ 32 1024#32))) best))⟩] concatenates_S4096x100x1_S4096x100x1_S4096x100x2_d2

/-- The draws' weights: one where the draw is wanted. -/
def weights (yt : FVec F S4096 .f32) : FVec F S4096x100 .f32 :=
  uitofp .f32 (cmpi .slt (broadcastInDim S4096x100 ![0, 1] bcast_S1x100_S4096x100_0_1 (broadcastInDim S1x100 ![1] bcast_S100_S1x100_1 (iotaInDim S100 32 0))) (broadcastInDim S4096x100 ![0, 1] bcast_S4096x1_S4096x100_0_1 (broadcastInDim S4096x1 ![0] bcast_S4096_S4096x1_0 (fptosi 32 yt))))

/-- The counts are the draws' weights scattered to their places. -/
theorem drawn_eq : drawn V0 = Host.scatterAdd scatter_S4096x1024_S4096x100x2_S4096x100_n_01_01_2 (broadcastInDim S4096x1024 ![] bcast_S_S4096x1024 (constant S_ .f32 0x00000000#32)) (pairs (best V0)) (weights (want V0)) := rfl

/-- The loss over named arrays. -/
def lossOver (T : FVec F S4096x1024 .f32) (Y : FVec F S4096 .f32) (Y1 : FVec F S1024 .f32) (lam : FVec F S_ .f32) (Z : FVec F S4096x1024 .f32) :
    FVec F S_ .f32 :=
  let u := subf Y (Host.reduceAdd Z (constant S_ .f32 0x00000000#32) reducesTo_S4096x1024_S4096_d1 h_S_)
  let v := subf Y1 (Host.reduceAdd Z (constant S_ .f32 0x00000000#32) reducesTo_S4096x1024_S1024_d0 h_S_)
  let low := broadcastInDim S4096x1024 ![] bcast_S_S4096x1024 (constant S_ .f32 0xC2D00000#32)
  Host.negf (subf
    (Host.reduceAdd (mulf Z (subf (addf (maximumf low (Host.log T)) (broadcastInDim S4096x1024 ![] bcast_S_S4096x1024 (constant S_ .f32 0x3F800000#32)))
      (maximumf low (Host.log Z)))) (constant S_ .f32 0x00000000#32) reducesTo_S4096x1024_S_d0_1 h_S_)
    (mulf lam (addf (Host.reduceAdd (mulf u u) (constant S_ .f32 0x00000000#32) reducesTo_S4096_S_d0 h_S_)
      (Host.reduceAdd (mulf v v) (constant S_ .f32 0x00000000#32) reducesTo_S1024_S_d0 h_S_))))

end Cert.ReferenceIdeal.Counts

end
-- ==== Proof.RefScores.lean ====
/- The reference's scores in plain terms. -/
module

public import proofs.«01_k».proof.Proof.Hits
public import proofs.«01_k».proof.Proof.RefReads
public import Idealize.ShloMosaic.Lib.Routing.OpsPair

@[expose] public section

noncomputable section

namespace Cert.ReferenceIdeal.Counts

open Cert.ReferenceIdeal Cert.ReferenceIdeal.Gen Cert.ReferenceIdeal.Value Idealize.ShloMosaic Idealize.ShloMosaic.TcCoe Cert.Draws

variable (V0 : Valuation τ sig (Elt Ideal))

/-- A row of parameters; the row's wants as a word. -/
def row (i : Fin 4096) : Fin 1024 → EReal := fun j => theta V0 (ix2 i j)
/-- A row's want as an integer. -/
def wantWord (i : Fin 4096) : BitVec 32 := Ideal.fptosi 32 (want V0 (ix1 i))

/-- The scores over any table of words and any parameters. -/
theorem scores_over (W : IVec S4096x100x1024 32) (T : FVec Ideal S4096x1024 .f32) (i : Fin 4096) (d : Fin 100) (j : Fin 1024) (w : BitVec 32)
    (hw : W (ix3 i d j) = w) (r : EReal)
    (hr : -Ideal.log (-Ideal.log (max (Ideal.ofBits .f32 8388608#32) (max 0 (Ideal.ofBits .f32 (w >>> 9#32 ||| 1065353216#32) - 1)
        + Ideal.ofBits .f32 8388608#32))) + Ideal.log (max (Ideal.ofBits .f32 228737632#32) (T (ix2 i j))) = r) :
    scoresOf W T (ix3 i d j) = r := by
  have hs : ∀ w : BitVec 32, IntOp.shrui .host w 9#32 = w >>> 9#32 := fun w => if_pos (by decide)
  pointwise [scoresOf]
  rw [hw, hs]
  exact hr

/-- The score of category `j` in draw `d` of row `i`. -/
theorem scores_apply (i : Fin 4096) (d : Fin 100) (j : Fin 1024) :
    scores V0 (ix3 i d j) = score (expo (word (ctr i d j))) (row V0 i j) := by
  rw [scores_eq]
  refine scores_over (Words.words V0) (theta V0) i d j _ (Words.words_apply V0 i d j) _ ?_
  have hr := reference_noise (word (ctr i d j))
  rw [Ideal.ofBits_one_f32, Ideal.ofBits_zero_f32, sub_zero, mul_one, add_zero] at hr
  rw [score_eq, ← hr]
  rfl

end Cert.ReferenceIdeal.Counts

end
-- ==== Proof.RefCounts.lean ====
/- The reference's counts: under the precondition, entry (`i`, `j`) is how often category `j` of row `i` is hit. -/
module

public import proofs.«01_k».proof.Proof.Hits
public import proofs.«01_k».proof.Proof.Argmax
public import proofs.«01_k».proof.Proof.RefScores
public import Idealize.ShloMosaic.Lib.Routing.OpsPair

@[expose] public section

noncomputable section

namespace Cert.ReferenceIdeal.Counts

open Cert.ReferenceIdeal Cert.ReferenceIdeal.Gen Cert.ReferenceIdeal.Value Idealize.ShloMosaic Idealize.ShloMosaic.TcCoe Cert.Draws

variable (V0 : Valuation τ sig (Elt Ideal))

/-- No category's score exceeds `j`'s exactly when no category's value is less than `j`'s. -/
theorem best_iff (hθ : ∀ i j, least ≤ row V0 i j) (i : Fin 4096) (d : Fin 100) (j : Fin 1024) :
    (∀ k, scores V0 (ix3 i d k) ≤ scores V0 (ix3 i d j)) ↔ ∀ k, valOf (row V0 i) i.val d.val j ≤ valOf (row V0 i) i.val d.val k := by
  refine forall_congr' fun k => ?_
  rw [scores_apply, scores_apply]
  exact score_le_iff _ _ (expo_pos _) (expo_pos _) _ _ (hθ i j) (hθ i k)

/-- The arg-max is a category no score exceeds. -/
theorem best_spec (hθ : ∀ i j, least ≤ row V0 i j) (i : Fin 4096) (d : Fin 100) :
    ∃ j : Fin 1024, best V0 (ix2 i d) = BitVec.ofNat 32 j.val ∧ ∀ k, scores V0 (ix3 i d k) ≤ scores V0 (ix3 i d j) := by
  rw [best_eq]
  exact argmax_spec (scores V0) i d fun j => by
    rw [scores_apply]
    exact score_ne_bot _ (expo_pos _) _ (hθ i j)

/-- The place a draw's weight goes to: its row, -/
theorem pairs_row (i : Fin 4096) (d : Fin 100) : (pairs (best V0) (ix3 i d 0)).toInt = (i.val : ℤ) := by
  have h : pairs (best V0) (ix3 i d 0) = Scalar.select (IntOp.cmpi .slt (BitVec.ofNat 32 i.val) 0#32) (BitVec.ofNat 32 i.val + 4096#32) (BitVec.ofNat 32 i.val) := by
    pointwise [pairs]
    try rfl
  have hi := i.isLt
  have ht : (BitVec.ofNat 32 i.val).toNat = i.val := by rw [BitVec.toNat_ofNat]; omega
  rw [h, Routing.wrap_of_lt _ _ (by rw [ht]; omega), BitVec.toInt_eq_toNat_of_lt (by rw [ht]; omega), ht]

/-- and its arg-max's category. -/
theorem pairs_best (i : Fin 4096) (d : Fin 100) (j : Fin 1024) (hj : best V0 (ix2 i d) = BitVec.ofNat 32 j.val) :
    (pairs (best V0) (ix3 i d 1)).toInt = (j.val : ℤ) := by
  have h : pairs (best V0) (ix3 i d 1) = Scalar.select (IntOp.cmpi .slt (best V0 (ix2 i d)) 0#32) (best V0 (ix2 i d) + 1024#32) (best V0 (ix2 i d)) := by
    pointwise [pairs]
    try rfl
  have hi := j.isLt
  have ht : (BitVec.ofNat 32 j.val).toNat = j.val := by rw [BitVec.toNat_ofNat]; omega
  rw [h, hj, Routing.wrap_of_lt _ _ (by rw [ht]; omega), BitVec.toInt_eq_toNat_of_lt (by rw [ht]; omega), ht]

/-- A draw's weight: one where it is wanted, zero past the wanted ones. -/
theorem weights_apply (i : Fin 4096) (d : Fin 100) :
    weights (want V0) (ix2 i d) = if IntOp.cmpi .slt (BitVec.ofNat 32 d.val) (wantWord V0 i) = 1#1 then (1 : EReal) else 0 := by
  have h : weights (want V0) (ix2 i d) = (((IntOp.cmpi .slt (BitVec.ofNat 32 d.val) (wantWord V0 i)).toNat : ℝ) : EReal) := by
    pointwise [weights]
    try rfl
  rw [h]
  rcases BitVec.eq_zero_or_eq_one (IntOp.cmpi .slt (BitVec.ofNat 32 d.val) (wantWord V0 i)) with e | e <;> rw [e] <;> simp

/-- Where a draw's weight lands: on its row, at its arg-max. -/
theorem lands (a i : Fin 4096) (d : Fin 100) (j : Fin 1024) :
    scatter_S4096x1024_S4096x100x2_S4096x100_n_01_01_2.resultIdx? (ix2 a d) (pairs (best V0)) = some (ix2 i j)
      ↔ (a = i ∧ (pairs (best V0) (ix3 a d 1)).toInt = (j.val : ℤ)) := by
  refine (Routing.scatter_lands2 scatter_S4096x1024_S4096x100x2_S4096x100_n_01_01_2 rfl rfl rfl (pairs (best V0)) a d i j).trans ?_
  have h : (pairs (best V0) (ValueIdx.ix3 a d 0)).toInt = (a.val : ℤ) := pairs_row V0 a d
  rw [h, Nat.cast_inj, Fin.val_inj]
  exact Iff.rfl

/-- The scatter's sum at an element: the weights of the row's draws whose arg-max it is. -/
theorem scatter_sum (x : FVec Ideal S4096x1024 .f32) (P : IVec S4096x100x2 32) (W : FVec Ideal S4096x100 .f32) (i : Fin 4096) (j : Fin 1024)
    (hl : ∀ a d, scatter_S4096x1024_S4096x100x2_S4096x100_n_01_01_2.resultIdx? (ix2 a d) P = some (ix2 i j)
      ↔ (a = i ∧ (P (ix3 a d 1)).toInt = (j.val : ℤ))) :
    Host.scatterAdd scatter_S4096x1024_S4096x100x2_S4096x100_n_01_01_2 x P W (ix2 i j)
      = (x (ix2 i j) : EReal) + ∑ d : Fin 100, if (P (ix3 i d 1)).toInt = (j.val : ℤ) then (W (ix2 i d) : EReal) else 0 := by
  have h0 : Host.scatterAdd scatter_S4096x1024_S4096x100x2_S4096x100_n_01_01_2 x P W (ix2 i j) = (x (ix2 i j) : EReal)
      + ∑ k ∈ Finset.univ.filter (fun k => scatter_S4096x1024_S4096x100x2_S4096x100_n_01_01_2.resultIdx? k P = some (ix2 i j)), (W k : EReal) := rfl
  rw [h0, Finset.sum_filter, sum_idx2, Finset.sum_eq_single i]
  · congr 1
    refine Finset.sum_congr rfl fun d _ => if_congr ((hl i d).trans (by simp)) rfl rfl
  · intro a _ ha
    exact Finset.sum_eq_zero fun d _ => if_neg fun h => ha ((hl a d).mp h).1
  · intro h; exact absurd (Finset.mem_univ i) h

/-- One draw's weight at its arg-max is the draw's hit. -/
theorem term_eq (hθ : ∀ i j, least ≤ row V0 i j) (i : Fin 4096) (d : Fin 100) (j : Fin 1024)
    (hw : IntOp.cmpi .slt (BitVec.ofNat 32 d.val) (wantWord V0 i) = 1#1 → Cert.Pre.winners (scores V0) (ix2 i d) = 1#32) :
    (if (pairs (best V0) (ix3 i d 1)).toInt = (j.val : ℤ) then (weights (want V0) (ix2 i d) : EReal) else 0)
      = hit (row V0 i) (wantWord V0 i) i.val d.val j := by
  obtain ⟨b, hb, hmax⟩ := best_spec V0 hθ i d
  rw [pairs_best V0 i d b hb, weights_apply]
  generalize hn : wantWord V0 i = n at hw
  by_cases hc : IntOp.cmpi .slt (BitVec.ofNat 32 d.val) n = 1#1
  · rw [if_pos hc]
    by_cases e : (b.val : ℤ) = (j.val : ℤ)
    · have hbj : b = j := Fin.ext (by exact_mod_cast e)
      rw [if_pos e]
      exact (hit_one _ _ _ _ _ hc ((best_iff V0 hθ i d j).mp (hbj ▸ hmax))).symm
    · rw [if_neg e]
      refine (hit_zero_of _ _ _ _ _ fun h => e ?_).symm
      rw [winners_unique (scores V0) i d (hw hc) b j hmax ((best_iff V0 hθ i d j).mpr h)]
  · rw [if_neg hc, ite_self]
    exact (hit_masked _ _ _ _ _ hc).symm

/-- Under the precondition the reference's counts are the hits. -/
theorem drawn_apply (hθ : ∀ i j, least ≤ row V0 i j)
    (hw : ∀ i (d : Fin 100), IntOp.cmpi .slt (BitVec.ofNat 32 d.val) (wantWord V0 i) = 1#1 → Cert.Pre.winners (scores V0) (ix2 i d) = 1#32)
    (i : Fin 4096) (j : Fin 1024) : drawn V0 (ix2 i j) = counts (row V0 i) (wantWord V0 i) i.val j := by
  rw [drawn_eq, scatter_sum _ _ _ i j fun a d => lands V0 a i d j]
  have h0 : broadcastInDim S4096x1024 ![] bcast_S_S4096x1024 (constant (F := Ideal) S_ .f32 0x00000000#32) (ix2 i j) = (0 : EReal) := Ideal.ofBits_zero_f32
  rw [h0, zero_add]
  exact Finset.sum_congr rfl fun d _ => term_eq V0 hθ i d j (hw i d)

end Cert.ReferenceIdeal.Counts

end
-- ==== Proof.PreReads.lean ====
/- What the precondition says of the arguments, entry by entry. -/
module

public import proofs.«01_k».proof.Proof.PreFn
public import proofs.«01_k».proof.Proof.RefCounts
public import Idealize.ShloMosaic.Lib.Pointwise

@[expose] public section

set_option maxRecDepth 16384

noncomputable section

namespace Cert.Pre

open Cert.ReferenceIdeal Cert.ReferenceIdeal.Gen Cert.ReferenceIdeal.Value Cert.ReferenceIdeal.Counts Idealize.ShloMosaic Idealize.ShloMosaic.TcCoe Cert.Draws

attribute [local instance] facts

variable (V0 : Valuation τ sig (Elt Ideal))

/-- Every parameter is at least the least one. -/
theorem least_le
    (h : (Cert.Pre_in_range.fn (F := Ideal) (V0 (Proc.devRef .tc main_arg0)) (V0 (Proc.devRef .tc main_arg1)) (V0 (Proc.devRef .tc main_arg2)) (V0 (Proc.devRef .tc main_arg3))).1 = fun _ => 1#1)
    (i : Fin 4096) (j : Fin 1024) : least ≤ row V0 i j := by
  have h1 := congrFun ((one V0).symm.trans h) (ix2 i j)
  have h2 : FloatOps.cmpf (F := Ideal) (φ := .f32) .oge (row V0 i j) least = 1#1 := h1
  by_contra hc
  simp [Ideal.cmpf_def, Ideal.cmp, hc] at h2

/-- Every want is whole. -/
theorem whole
    (h : (Cert.Pre_in_range.fn (F := Ideal) (V0 (Proc.devRef .tc main_arg0)) (V0 (Proc.devRef .tc main_arg1)) (V0 (Proc.devRef .tc main_arg2)) (V0 (Proc.devRef .tc main_arg3))).2.1 = fun _ => 1#1)
    (i : Fin 4096) : (FloatOps.sitofp (F := Ideal) .f32 (wantWord V0 i) : EReal) = want V0 (ix1 i) := by
  have h1 := congrFun ((two V0).symm.trans h) (ix1 i)
  have h2 : FloatOps.cmpf (F := Ideal) (φ := .f32) .oeq (FloatOps.sitofp (F := Ideal) .f32 (wantWord V0 i)) (want V0 (ix1 i)) = 1#1 := h1
  by_contra hc
  simp [Ideal.cmpf_def, Ideal.cmp, hc] at h2

/-- Every want is at most a hundred. -/
theorem at_most
    (h : (Cert.Pre_in_range.fn (F := Ideal) (V0 (Proc.devRef .tc main_arg0)) (V0 (Proc.devRef .tc main_arg1)) (V0 (Proc.devRef .tc main_arg2)) (V0 (Proc.devRef .tc main_arg3))).2.2.1 = fun _ => 1#1)
    (i : Fin 4096) : IntOp.cmpi .sle (wantWord V0 i) 100#32 = 1#1 :=
  congrFun ((three V0).symm.trans h) (ix1 i)

/-- A bit that is one or excluded. -/
theorem one_of_or (w d n : BitVec 32) (h : IntOp.ori (IntOp.cmpi .eq w 1#32) (IntOp.cmpi .sge d n) = 1#1) (hd : IntOp.cmpi .slt d n = 1#1) : w = 1#32 := by
  simp only [IntOp.ori, IntOp.cmpi] at h hd
  by_cases hw : w = 1#32
  · exact hw
  · exfalso
    have he : (w == 1#32) = false := by simpa using hw
    rw [he] at h
    revert h hd
    cases hs : BitVec.slt d n <;> simp_all [BitVec.sle_eq_not_slt]

/-- Each draw that counts is won by one category. -/
theorem single
    (h : (Cert.Pre_in_range.fn (F := Ideal) (V0 (Proc.devRef .tc main_arg0)) (V0 (Proc.devRef .tc main_arg1)) (V0 (Proc.devRef .tc main_arg2)) (V0 (Proc.devRef .tc main_arg3))).2.2.2 = fun _ => 1#1)
    (i : Fin 4096) (d : Fin 100) (hd : IntOp.cmpi .slt (BitVec.ofNat 32 d.val) (wantWord V0 i) = 1#1) : winners (scores V0) (ix2 i d) = 1#32 := by
  have h1 := congrFun ((four V0).symm.trans h) (ix2 i d)
  refine one_of_or _ (BitVec.ofNat 32 d.val) (wantWord V0 i) ?_ hd
  refine Eq.trans ?_ h1
  have hs : scores V0 = res_main_v21 V0 := rfl
  rw [hs]
  generalize winners (res_main_v21 V0) = w
  unfold wantWord want
  pointwise
  rfl

end Cert.Pre

end
-- ==== Proof.Loss.lean ====
/- The loss in plain terms: of the parameters, the rows' wants, the columns' wants, the factor and the counts; and the loss added up
   in blocks of eight rows. -/
module

public import proofs.«01_k».proof.Proof.Hits

@[expose] public section

noncomputable section

namespace Cert.Draws

open Idealize.ShloMosaic

/-- The least logarithm the loss lets in. -/
def logFloor : EReal := Ideal.ofBits .f32 0xC2D00000#32

/-- An element's gain at parameter `θ` and count `z`. -/
def gain (θ z : EReal) : EReal := z * (max logFloor (Ideal.log θ) + 1 - max logFloor (Ideal.log z))

/-- The squared miss of a want by a sum of counts. -/
def miss (y s : EReal) : EReal := (y - s) * (y - s)

/-- The loss. -/
def loss (T : Fin 4096 → Fin 1024 → EReal) (Y : Fin 4096 → EReal) (Y1 : Fin 1024 → EReal) (lam : EReal) (Z : Fin 4096 → Fin 1024 → EReal) : EReal :=
  -((∑ i, ∑ j, gain (T i j) (Z i j)) - lam * ((∑ i, miss (Y i) (∑ j, Z i j)) + ∑ j, miss (Y1 j) (∑ i, Z i j)))

/-- Row `r` of block `t`. -/
def rowOf (t : Fin 512) (r : Fin 8) : Fin 4096 := ⟨8 * t.val + r.val, by omega⟩

/-- A sum over the rows is the sum over the blocks and their eight rows. -/
theorem sum_rows (f : Fin 4096 → EReal) : ∑ i, f i = ∑ t : Fin 512, ∑ r : Fin 8, f (rowOf t r) := by
  rw [← Fintype.sum_prod_type' (f := fun t r => f (rowOf t r))]
  refine (Fintype.sum_equiv (finProdFinEquiv (m := 512) (n := 8)) _ _ fun x => congrArg f (Fin.ext ?_)).symm
  show 8 * x.1.val + x.2.val = x.2.val + 8 * x.1.val
  omega

/-- The loss from sums over the blocks. -/
theorem loss_blocks (T : Fin 4096 → Fin 1024 → EReal) (Y : Fin 4096 → EReal) (Y1 : Fin 1024 → EReal) (lam : EReal) (Z : Fin 4096 → Fin 1024 → EReal) :
    0 - ((∑ t : Fin 512, ∑ r : Fin 8, ∑ j, gain (T (rowOf t r) j) (Z (rowOf t r) j))
      - lam * ((∑ t : Fin 512, ∑ r : Fin 8, miss (Y (rowOf t r)) (∑ j, Z (rowOf t r) j))
        + ∑ j, miss (Y1 j) (∑ t : Fin 512, ∑ r : Fin 8, Z (rowOf t r) j))) = loss T Y Y1 lam Z := by
  unfold loss
  rw [sum_rows (fun i => ∑ j, gain (T i j) (Z i j)), sum_rows (fun i => miss (Y i) (∑ j, Z i j)), zero_sub]
  simp only [sum_rows (fun i => Z i _)]

end Cert.Draws

end
-- ==== Proof.RefLoss.lean ====
/- The reference's loss is the loss in plain terms. -/
module

public import proofs.«01_k».proof.Proof.Loss
public import proofs.«01_k».proof.Proof.RefReads
public import Idealize.ShloMosaic.Lib.Pointwise

@[expose] public section

noncomputable section

namespace Cert.ReferenceIdeal.Counts

open Cert.ReferenceIdeal Cert.ReferenceIdeal.Gen Idealize.ShloMosaic Idealize.ShloMosaic.TcCoe Cert.Draws

/-- The one index of an array without axes. -/
def here : S_.Idx := fun a => a.elim0

/-- A scalar array has one index. -/
theorem eq_here (x : S_.Idx) : x = here := funext fun a => a.elim0

/-- The loss over named arrays, read. -/
theorem loss_apply (T : FVec Ideal S4096x1024 .f32) (Y : FVec Ideal S4096 .f32) (Y1 : FVec Ideal S1024 .f32) (lam : FVec Ideal S_ .f32)
    (Z : FVec Ideal S4096x1024 .f32) :
    lossOver T Y Y1 lam Z here = loss (fun i j => T (ix2 i j)) (fun i => Y (ix1 i)) (fun j => Y1 (ix1 j)) (lam here) (fun i j => Z (ix2 i j)) := by
  unfold loss gain miss logFloor
  pointwise [lossOver]

end Cert.ReferenceIdeal.Counts

end
-- ==== Proof.RefResult.lean ====
/- The reference's run over the named arrays. -/
module

public import proofs.«01_k».proof.Proof.RefReads
public import proofs.«01_k».proof.Proof.RefRun

@[expose] public section

noncomputable section

namespace Cert.ReferenceIdeal.Counts

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The run over the named arrays: the loss, the counts and the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = lossOver (theta (launchContents m c)) (want (launchContents m c)) (colWant (launchContents m c)) (factor (launchContents m c)) (drawn (launchContents m c))
      ∧ r.2.mem ((c.tc : Thread nD τ).loc main_v47) = drawn (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run m ρ

end Cert.ReferenceIdeal.Counts

end
-- ==== Proof.KerBlocks.lean ====
/- The kernel's blocks: what each input block holds of the arguments, at a place. -/
module

public import proofs.«01_k».proof.Proof.KiFrame
public import proofs.«01_k».proof.Proof.Loss
public import Idealize.ShloMosaic.Lib.Pipeline.ValueKit
public import Idealize.ShloMosaic.Lib.Pointwise

@[expose] public section

set_option maxRecDepth 16384

noncomputable section

namespace Cert.KernelIdeal.Arrays

open Cert.KernelIdeal Cert.KernelIdeal.Gen Cert.KernelIdeal.Body Idealize.ShloMosaic Idealize.ShloMosaic.TcCoe Cert.Draws

variable {F : FTy → Type} [FloatOps F] (m : (ℓ : Loc nD τ sig) → Buf (Elt F) ℓ)

/-- The arguments on a core. -/
def theta (c : Dev nD) : FVec F S4096x1024 .f32 := m ((c.tc : Thread nD τ).loc main_arg0)
/-- The rows' wants, -/
def want (c : Dev nD) : FVec F S4096 .f32 := m ((c.tc : Thread nD τ).loc main_arg1)
/-- the columns' wants, -/
def colWant (c : Dev nD) : FVec F S1024 .f32 := m ((c.tc : Thread nD τ).loc main_arg2)
/-- and the factor of the loss. -/
def factor (c : Dev nD) : FVec F S_ .f32 := m ((c.tc : Thread nD τ).loc main_arg3)

/-- The point as a block number. -/
def pt (t : Fin cfg0.N) : Fin 512 := ⟨t.val, Nat.lt_of_lt_of_eq t.isLt N_0⟩

/-- A point's one coordinate is its number. -/
theorem coord (t : Fin cfg0.N) : (grid0.coords t 0).val = t.val := by
  have ht : t.val < 512 := Nat.lt_of_lt_of_eq t.isLt N_0
  have e0 : (grid0.coords t 0).val = t.val / 1 % 512 := Pipeline.Grid.coords_val t 0 (by decide) rfl
  rw [e0]; omega

/-- At point `t` the parameters' window is at block row `t`, -/
theorem idx0 : ∀ t : Fin cfg0.N, win0_0.index t = ![t.val, 0] := by decide +kernel
/-- the rows' wants' at block `t`, -/
theorem idx1 : ∀ t : Fin cfg0.N, win0_1.index t = ![t.val, 0, 0] := by decide +kernel
/-- the columns' wants' stays, -/
theorem idx2 : ∀ t : Fin cfg0.N, win0_2.index t = ![0, 0] := by decide +kernel
/-- the factor's stays, -/
theorem idx3 : ∀ t : Fin cfg0.N, win0_3.index t = ![0, 0] := by decide +kernel
/-- and the counts' is at block row `t`. -/
theorem idx4 : ∀ t : Fin cfg0.N, win0_4.index t = ![t.val, 0] := by decide +kernel

/-- Block `t` of the parameters holds rows `8 t` to `8 t + 7`. -/
theorem block0 (c : Dev nD) (t : Fin cfg0.N) (r : Fin 8) (j : Fin 1024) : iblk m c 0 t (ix2 r j) = theta m c (ix2 (rowOf (pt t) r) j) := by
  unfold theta
  have hr : (rowOf (pt t) r).val = 8 * t.val + r.val := rfl
  blk_ext [iblk, V, idx0 t]

/-- The wants as the launch stages them: the rows' in blocks of eight, the columns' as one row, the factor as one entry. -/
theorem staged1 (c : Dev nD) : V m c main_v0 = shapeCast S512x1x8 (want m c) shapeCasts_S4096_S512x1x8 := by
  unfold want
  rfl
/-- The columns' wants are staged as one row. -/
theorem staged2 (c : Dev nD) : V m c main_v1 = shapeCast S1x1024 (colWant m c) shapeCasts_S1024_S1x1024 := by
  unfold colWant
  rfl
/-- The factor is staged as one entry. -/
theorem staged3 (c : Dev nD) : V m c main_v2 = shapeCast S1x1 (factor m c) shapeCasts_S_S1x1 := by
  unfold factor
  rfl

/-- Block `t` of the rows' wants holds those of rows `8 t` to `8 t + 7`. -/
theorem block1 (c : Dev nD) (t : Fin cfg0.N) (r : Fin 8) : iblk m c 1 t (ix3 0 0 r) = want m c (ix1 (rowOf (pt t) r)) := by
  have he : ((win0_1.blk t).view.emb (ix3 0 0 r) : S512x1x8.Idx) = ix3 (pt t) 0 r := by
    have hp : (pt t).val = t.val := rfl
    blk_ext [idx1 t]
  have h : iblk m c 1 t (ix3 0 0 r) = V m c main_v0 ((win0_1.blk t).view.emb (ix3 0 0 r)) := rfl
  rw [h, staged1]
  refine (congrArg (shapeCast S512x1x8 (want m c) shapeCasts_S4096_S512x1x8) he).trans ?_
  have hr : (rowOf (pt t) r).val = 8 * (pt t).val + r.val := rfl
  pointwise []
  congr 2
  exact Fin.ext (by rw [hr]; show _ * 8 + _ = _; omega)

/-- The block of the columns' wants holds all of them. -/
theorem block2 (c : Dev nD) (t : Fin cfg0.N) (j : Fin 1024) : iblk m c 2 t (ix2 0 j) = colWant m c (ix1 j) := by
  have he : ((win0_2.blk t).view.emb (ix2 0 j) : S1x1024.Idx) = ix2 0 j := by
    blk_ext [idx2 t]
  have h : iblk m c 2 t (ix2 0 j) = V m c main_v1 ((win0_2.blk t).view.emb (ix2 0 j)) := rfl
  rw [h, staged2]
  refine (congrArg (shapeCast S1x1024 (colWant m c) shapeCasts_S1024_S1x1024) he).trans ?_
  pointwise []

/-- The one index of an array without axes. -/
def here : S_.Idx := fun a => a.elim0

/-- The block of the factor holds it. -/
theorem block3 (c : Dev nD) (t : Fin cfg0.N) : iblk m c 3 t entry = factor m c here := by
  have h : iblk m c 3 t entry = V m c main_v2 ((win0_3.blk t).view.emb entry) := rfl
  rw [h, staged3]
  exact congrArg (factor m c) (funext fun a => a.elim0)

end Cert.KernelIdeal.Arrays

end
-- ==== Proof.KerWords.lean ====
/- The random word the kernel computes at an index of a block's draws is the generator's word at the index's counter. -/
module

public import proofs.«01_k».proof.Proof.Words
public import proofs.«01_k».proof.Proof.Gen.KernelIdeal.Skeleton

@[expose] public section

noncomputable section

namespace Cert.KernelIdeal.Words

open Cert.KernelIdeal Cert.KernelIdeal.Gen Idealize.ShloMosaic Cert.Draws

/-- The kernel's mixing step at an index. -/
theorem mix_apply (s x : IVec S8x8x1024 32) (a b : BitVec 32) (ha : a.toNat < 32) (hb : b.toNat < 32) (i : S8x8x1024.Idx) :
    xori s (ori (shli x (broadcast S8x8x1024 a)) (shrui x (broadcast S8x8x1024 b))) i = mix (s i) (x i) a b := by
  show s i ^^^ ((if a.toNat < 32 then x i <<< a else _) ||| (if b.toNat < 32 then x i >>> b else _)) = _
  rw [if_pos ha, if_pos hb]; rfl

section
variable (v9 v10 v11 : IVec S8x8x1024 32) (v12 : BitVec 32) (k : Fin k0_t1_loop.trips) (i : S8x8x1024.Idx) (n : BitVec 32)
  (h : k0_pay6 v9 v10 v11 v12 0#32 1#32 k i = a5 n)
include h
/-- The kernel's intermediate word here is `a12` of the counter. -/
theorem p7 : k0_pay7 v9 v10 v11 v12 0#32 1#32 k i = a12 n := by
  refine (mix_apply (k0_pay6 v9 v10 v11 v12 0#32 1#32 k) (k0_pay6 v9 v10 v11 v12 0#32 1#32 k) 13#32 19#32 (by decide) (by decide) i).trans ?_
  rw [h]; rfl
/-- The kernel's intermediate word here is `a13` of the counter. -/
theorem p8 : k0_pay8 v9 v10 v11 v12 0#32 1#32 k i = a13 n := by
  show (k0_pay6 v9 v10 v11 v12 0#32 1#32 k) i + (k0_pay7 v9 v10 v11 v12 0#32 1#32 k) i = _
  rw [h, p7 v9 v10 v11 v12 k i n h]; rfl
/-- The kernel's intermediate word here is `a19` of the counter. -/
theorem p9 : k0_pay9 v9 v10 v11 v12 0#32 1#32 k i = a19 n := by
  refine (mix_apply (k0_pay8 v9 v10 v11 v12 0#32 1#32 k) (k0_pay7 v9 v10 v11 v12 0#32 1#32 k) 15#32 17#32 (by decide) (by decide) i).trans ?_
  rw [p8 v9 v10 v11 v12 k i n h, p7 v9 v10 v11 v12 k i n h]; rfl
/-- The kernel's intermediate word here is `a20` of the counter. -/
theorem p10 : k0_pay10 v9 v10 v11 v12 0#32 1#32 k i = a20 n := by
  show (k0_pay8 v9 v10 v11 v12 0#32 1#32 k) i + (k0_pay9 v9 v10 v11 v12 0#32 1#32 k) i = _
  rw [p8 v9 v10 v11 v12 k i n h, p9 v9 v10 v11 v12 k i n h]; rfl
/-- The kernel's intermediate word here is `a26` of the counter. -/
theorem p11 : k0_pay11 v9 v10 v11 v12 0#32 1#32 k i = a26 n := by
  refine (mix_apply (k0_pay10 v9 v10 v11 v12 0#32 1#32 k) (k0_pay9 v9 v10 v11 v12 0#32 1#32 k) 26#32 6#32 (by decide) (by decide) i).trans ?_
  rw [p10 v9 v10 v11 v12 k i n h, p9 v9 v10 v11 v12 k i n h]; rfl
/-- The kernel's intermediate word here is `a27` of the counter. -/
theorem p12 : k0_pay12 v9 v10 v11 v12 0#32 1#32 k i = a27 n := by
  show (k0_pay10 v9 v10 v11 v12 0#32 1#32 k) i + (k0_pay11 v9 v10 v11 v12 0#32 1#32 k) i = _
  rw [p10 v9 v10 v11 v12 k i n h, p11 v9 v10 v11 v12 k i n h]; rfl

/-- The kernel's intermediate word here, in terms of the counter's. -/
theorem p13 : k0_pay13 v9 v10 v11 v12 0#32 1#32 k i = a27 n + 42#32 := by
  show k0_pay12 v9 v10 v11 v12 0#32 1#32 k i + 42#32 = _
  rw [p12 v9 v10 v11 v12 k i n h]
/-- The kernel's intermediate word here, in terms of the counter's. -/
theorem p14 : k0_pay14 v9 v10 v11 v12 0#32 1#32 k i = mix (a27 n) (a26 n) 6#32 26#32 + 466689008#32 := by
  refine (congrArg (· + 466689008#32) (mix_apply (k0_pay12 v9 v10 v11 v12 0#32 1#32 k) (k0_pay11 v9 v10 v11 v12 0#32 1#32 k) 6#32 26#32 (by decide) (by decide) i)).trans ?_
  show mix _ _ _ _ + 466689008#32 = _
  rw [p12 v9 v10 v11 v12 k i n h, p11 v9 v10 v11 v12 k i n h]

end

section
variable (v98 : IVec S8x8x1024 32) (i : S8x8x1024.Idx) (n : BitVec 32)
  (h98 : v98 i = mix (a27 n) (a26 n) 6#32 26#32 + 466689008#32)
include h98
/-- The kernel's intermediate word here is `a39` of the counter. -/
theorem p15 : k0_pay15 v98 1#32 i = a39 n := by
  show v98 i + 1#32 = _
  rw [h98]; rfl
end

section
variable (v96 v98 : IVec S8x8x1024 32) (i : S8x8x1024.Idx) (n : BitVec 32)
  (h96 : v96 i = a27 n + 42#32) (h98 : v98 i = mix (a27 n) (a26 n) 6#32 26#32 + 466689008#32)
include h96 h98
/-- The kernel's intermediate word here is `a40` of the counter. -/
theorem p16 : k0_pay16 v96 v98 1#32 i = a40 n := by
  show v96 i + k0_pay15 v98 1#32 i = _
  rw [h96, p15 v98 i n h98]; rfl
/-- The kernel's intermediate word here is `a46` of the counter. -/
theorem p17 : k0_pay17 v96 v98 1#32 i = a46 n := by
  refine (mix_apply (k0_pay16 v96 v98 1#32) (k0_pay15 v98 1#32) 17#32 15#32 (by decide) (by decide) i).trans ?_
  rw [p16 v96 v98 i n h96 h98, p15 v98 i n h98]; rfl
/-- The kernel's intermediate word here is `a47` of the counter. -/
theorem p18 : k0_pay18 v96 v98 1#32 i = a47 n := by
  show (k0_pay16 v96 v98 1#32) i + (k0_pay17 v96 v98 1#32) i = _
  rw [p16 v96 v98 i n h96 h98, p17 v96 v98 i n h96 h98]; rfl
/-- The kernel's intermediate word here is `a53` of the counter. -/
theorem p19 : k0_pay19 v96 v98 1#32 i = a53 n := by
  refine (mix_apply (k0_pay18 v96 v98 1#32) (k0_pay17 v96 v98 1#32) 29#32 3#32 (by decide) (by decide) i).trans ?_
  rw [p18 v96 v98 i n h96 h98, p17 v96 v98 i n h96 h98]; rfl
/-- The kernel's intermediate word here is `a54` of the counter. -/
theorem p20 : k0_pay20 v96 v98 1#32 i = a54 n := by
  show (k0_pay18 v96 v98 1#32) i + (k0_pay19 v96 v98 1#32) i = _
  rw [p18 v96 v98 i n h96 h98, p19 v96 v98 i n h96 h98]; rfl
/-- The kernel's intermediate word here is `a60` of the counter. -/
theorem p21 : k0_pay21 v96 v98 1#32 i = a60 n := by
  refine (mix_apply (k0_pay20 v96 v98 1#32) (k0_pay19 v96 v98 1#32) 16#32 16#32 (by decide) (by decide) i).trans ?_
  rw [p20 v96 v98 i n h96 h98, p19 v96 v98 i n h96 h98]; rfl
/-- The kernel's intermediate word here is `a61` of the counter. -/
theorem p22 : k0_pay22 v96 v98 1#32 i = a61 n := by
  show (k0_pay20 v96 v98 1#32) i + (k0_pay21 v96 v98 1#32) i = _
  rw [p20 v96 v98 i n h96 h98, p21 v96 v98 i n h96 h98]; rfl
/-- The kernel's intermediate word here is `a73` of the counter. -/
theorem p23 : k0_pay23 v96 v98 1#32 i = a73 n := by
  refine (congrArg (· + 0#32 + 2#32) (mix_apply (k0_pay22 v96 v98 1#32) (k0_pay21 v96 v98 1#32) 24#32 8#32 (by decide) (by decide) i)).trans ?_
  show mix _ _ _ _ + _ + _ = _
  rw [p22 v96 v98 i n h96 h98, p21 v96 v98 i n h96 h98]; rfl
/-- The kernel's intermediate word here is `a74` of the counter. -/
theorem p24 : k0_pay24 v96 v98 1#32 i = a74 n := by
  show (k0_pay22 v96 v98 1#32) i + 466689008#32 + (k0_pay23 v96 v98 1#32) i = _
  rw [p22 v96 v98 i n h96 h98, p23 v96 v98 i n h96 h98]; rfl
/-- The kernel's intermediate word here is `a80` of the counter. -/
theorem p25 : k0_pay25 v96 v98 1#32 i = a80 n := by
  refine (mix_apply (k0_pay24 v96 v98 1#32) (k0_pay23 v96 v98 1#32) 13#32 19#32 (by decide) (by decide) i).trans ?_
  rw [p24 v96 v98 i n h96 h98, p23 v96 v98 i n h96 h98]; rfl
/-- The kernel's intermediate word here is `a81` of the counter. -/
theorem p26 : k0_pay26 v96 v98 1#32 i = a81 n := by
  show (k0_pay24 v96 v98 1#32) i + (k0_pay25 v96 v98 1#32) i = _
  rw [p24 v96 v98 i n h96 h98, p25 v96 v98 i n h96 h98]; rfl

/-- The kernel's intermediate word here, in terms of the counter's. -/
theorem p27 : k0_pay27 v96 v98 1#32 i = a80 n <<< 15#32 := by
  show IntOp.shli .vector (k0_pay25 v96 v98 1#32 i) 15#32 = _
  rw [p25 v96 v98 i n h96 h98]; rfl
end

section
variable (v141 v142 v144 : IVec S8x8x1024 32) (i : S8x8x1024.Idx) (n : BitVec 32)
  (h141 : v141 i = a80 n) (h142 : v142 i = a81 n) (h144 : v144 i = a80 n <<< 15#32)
include h141 h142 h144
/-- The kernel's intermediate word here is `a87` of the counter. -/
theorem p28 : k0_pay28 v141 v142 v144 i = a87 n := by
  show v142 i ^^^ (v144 i ||| IntOp.shrui .vector (v141 i) 17#32) = _
  rw [h141, h142, h144]; rfl
/-- The kernel's intermediate word here is `a88` of the counter. -/
theorem p29 : k0_pay29 v141 v142 v144 i = a88 n := by
  show v142 i + (k0_pay28 v141 v142 v144) i = _
  rw [h142, p28 v141 v142 v144 i n h141 h142 h144]; rfl
/-- The kernel's intermediate word here is `a94` of the counter. -/
theorem p30 : k0_pay30 v141 v142 v144 i = a94 n := by
  refine (mix_apply (k0_pay29 v141 v142 v144) (k0_pay28 v141 v142 v144) 26#32 6#32 (by decide) (by decide) i).trans ?_
  rw [p29 v141 v142 v144 i n h141 h142 h144, p28 v141 v142 v144 i n h141 h142 h144]; rfl
/-- The kernel's intermediate word here is `a95` of the counter. -/
theorem p31 : k0_pay31 v141 v142 v144 i = a95 n := by
  show (k0_pay29 v141 v142 v144) i + (k0_pay30 v141 v142 v144) i = _
  rw [p29 v141 v142 v144 i n h141 h142 h144, p30 v141 v142 v144 i n h141 h142 h144]; rfl
/-- The kernel's intermediate word here is `a107` of the counter. -/
theorem p32 : k0_pay32 v141 v142 v144 i = a107 n := by
  refine (congrArg (· + 42#32 + 3#32) (mix_apply (k0_pay31 v141 v142 v144) (k0_pay30 v141 v142 v144) 6#32 26#32 (by decide) (by decide) i)).trans ?_
  show mix _ _ _ _ + _ + _ = _
  rw [p31 v141 v142 v144 i n h141 h142 h144, p30 v141 v142 v144 i n h141 h142 h144]; rfl
/-- The kernel's intermediate word here is `a108` of the counter. -/
theorem p33 : k0_pay33 v141 v142 v144 i = a108 n := by
  show (k0_pay31 v141 v142 v144) i + 0#32 + (k0_pay32 v141 v142 v144) i = _
  rw [p31 v141 v142 v144 i n h141 h142 h144, p32 v141 v142 v144 i n h141 h142 h144]; rfl
/-- The kernel's intermediate word here is `a114` of the counter. -/
theorem p34 : k0_pay34 v141 v142 v144 i = a114 n := by
  refine (mix_apply (k0_pay33 v141 v142 v144) (k0_pay32 v141 v142 v144) 17#32 15#32 (by decide) (by decide) i).trans ?_
  rw [p33 v141 v142 v144 i n h141 h142 h144, p32 v141 v142 v144 i n h141 h142 h144]; rfl
/-- The kernel's intermediate word here is `a115` of the counter. -/
theorem p35 : k0_pay35 v141 v142 v144 i = a115 n := by
  show (k0_pay33 v141 v142 v144) i + (k0_pay34 v141 v142 v144) i = _
  rw [p33 v141 v142 v144 i n h141 h142 h144, p34 v141 v142 v144 i n h141 h142 h144]; rfl
/-- The kernel's intermediate word here is `a121` of the counter. -/
theorem p36 : k0_pay36 v141 v142 v144 i = a121 n := by
  refine (mix_apply (k0_pay35 v141 v142 v144) (k0_pay34 v141 v142 v144) 29#32 3#32 (by decide) (by decide) i).trans ?_
  rw [p35 v141 v142 v144 i n h141 h142 h144, p34 v141 v142 v144 i n h141 h142 h144]; rfl
/-- The kernel's intermediate word here is `a122` of the counter. -/
theorem p37 : k0_pay37 v141 v142 v144 i = a122 n := by
  show (k0_pay35 v141 v142 v144) i + (k0_pay36 v141 v142 v144) i = _
  rw [p35 v141 v142 v144 i n h141 h142 h144, p36 v141 v142 v144 i n h141 h142 h144]; rfl
/-- The kernel's intermediate word here is `a128` of the counter. -/
theorem p38 : k0_pay38 v141 v142 v144 i = a128 n := by
  refine (mix_apply (k0_pay37 v141 v142 v144) (k0_pay36 v141 v142 v144) 16#32 16#32 (by decide) (by decide) i).trans ?_
  rw [p37 v141 v142 v144 i n h141 h142 h144, p36 v141 v142 v144 i n h141 h142 h144]; rfl
/-- The kernel's intermediate word here is `a129` of the counter. -/
theorem p39 : k0_pay39 v141 v142 v144 i = a129 n := by
  show (k0_pay37 v141 v142 v144) i + (k0_pay38 v141 v142 v144) i = _
  rw [p37 v141 v142 v144 i n h141 h142 h144, p38 v141 v142 v144 i n h141 h142 h144]; rfl

end

section
variable (v189 v190 : IVec S8x8x1024 32) (i : S8x8x1024.Idx) (n : BitVec 32)
  (h189 : v189 i = a128 n) (h190 : v190 i = a129 n)
include h189 h190
/-- The kernel's intermediate word here is `a141` of the counter. -/
theorem p40 : k0_pay40 v189 v190 i = a141 n := by
  refine (congrArg (· + 466689008#32 + 4#32) (mix_apply v190 v189 24#32 8#32 (by decide) (by decide) i)).trans ?_
  show mix _ _ _ _ + _ + _ = _
  rw [h190, h189]; rfl
/-- The kernel's intermediate word here is `a142` of the counter. -/
theorem p41 : k0_pay41 v189 v190 i = a142 n := by
  show v190 i + 42#32 + (k0_pay40 v189 v190) i = _
  rw [h190, p40 v189 v190 i n h189 h190]; rfl
/-- The kernel's intermediate word here is `a148` of the counter. -/
theorem p42 : k0_pay42 v189 v190 i = a148 n := by
  refine (mix_apply (k0_pay41 v189 v190) (k0_pay40 v189 v190) 13#32 19#32 (by decide) (by decide) i).trans ?_
  rw [p41 v189 v190 i n h189 h190, p40 v189 v190 i n h189 h190]; rfl
/-- The kernel's intermediate word here is `a149` of the counter. -/
theorem p43 : k0_pay43 v189 v190 i = a149 n := by
  show (k0_pay41 v189 v190) i + (k0_pay42 v189 v190) i = _
  rw [p41 v189 v190 i n h189 h190, p42 v189 v190 i n h189 h190]; rfl
/-- The kernel's intermediate word here is `a155` of the counter. -/
theorem p44 : k0_pay44 v189 v190 i = a155 n := by
  refine (mix_apply (k0_pay43 v189 v190) (k0_pay42 v189 v190) 15#32 17#32 (by decide) (by decide) i).trans ?_
  rw [p43 v189 v190 i n h189 h190, p42 v189 v190 i n h189 h190]; rfl
/-- The kernel's intermediate word here is `a156` of the counter. -/
theorem p45 : k0_pay45 v189 v190 i = a156 n := by
  show (k0_pay43 v189 v190) i + (k0_pay44 v189 v190) i = _
  rw [p43 v189 v190 i n h189 h190, p44 v189 v190 i n h189 h190]; rfl
/-- The kernel's intermediate word here is `a162` of the counter. -/
theorem p46 : k0_pay46 v189 v190 i = a162 n := by
  refine (mix_apply (k0_pay45 v189 v190) (k0_pay44 v189 v190) 26#32 6#32 (by decide) (by decide) i).trans ?_
  rw [p45 v189 v190 i n h189 h190, p44 v189 v190 i n h189 h190]; rfl
/-- The kernel's intermediate word here is `a163` of the counter. -/
theorem p47 : k0_pay47 v189 v190 i = a163 n := by
  show (k0_pay45 v189 v190) i + (k0_pay46 v189 v190) i = _
  rw [p45 v189 v190 i n h189 h190, p46 v189 v190 i n h189 h190]; rfl
/-- The kernel's intermediate word here, in terms of the counter's. -/
theorem p48 : k0_pay48 v189 v190 i = a163 n + 466689008#32 := by
  show k0_pay47 v189 v190 i + 466689008#32 = _
  rw [p47 v189 v190 i n h189 h190]
/-- The kernel's intermediate word here, in terms of the counter's. -/
theorem p49 : k0_pay49 v189 v190 i = mix (a163 n) (a162 n) 6#32 26#32 + 0#32 := by
  refine (congrArg (· + 0#32) (mix_apply (k0_pay47 v189 v190) (k0_pay46 v189 v190) 6#32 26#32 (by decide) (by decide) i)).trans ?_
  show mix _ _ _ _ + 0#32 = _
  rw [p47 v189 v190 i n h189 h190, p46 v189 v190 i n h189 h190]
end

/-- The exclusive-or of the two words the trip hands to the counting is the generator's word. -/
theorem word_apply (v9 v10 v11 : IVec S8x8x1024 32) (v12 : BitVec 32) (k : Fin k0_t1_loop.trips) (i : S8x8x1024.Idx) (n : BitVec 32)
    (h : k0_pay6 v9 v10 v11 v12 0#32 1#32 k i = a5 n) :
    let v96 := k0_pay13 v9 v10 v11 v12 0#32 1#32 k
    let v98 := k0_pay14 v9 v10 v11 v12 0#32 1#32 k
    let v141 := k0_pay25 v96 v98 1#32
    let v142 := k0_pay26 v96 v98 1#32
    let v144 := k0_pay27 v96 v98 1#32
    let v189 := k0_pay38 v141 v142 v144
    let v190 := k0_pay39 v141 v142 v144
    k0_pay48 v189 v190 i ^^^ (k0_pay49 v189 v190 i + 5#32) = word n := by
  intro v96 v98 v141 v142 v144 v189 v190
  have h96 : v96 i = _ := p13 v9 v10 v11 v12 k i n h
  have h98 : v98 i = _ := p14 v9 v10 v11 v12 k i n h
  have h141 : v141 i = _ := p25 v96 v98 i n h96 h98
  have h142 : v142 i = _ := p26 v96 v98 i n h96 h98
  have h144 : v144 i = _ := p27 v96 v98 i n h96 h98
  have h189 : v189 i = _ := p38 v141 v142 v144 i n h141 h142 h144
  have h190 : v190 i = _ := p39 v141 v142 v144 i n h141 h142 h144
  rw [p48 v189 v190 i n h189 h190, p49 v189 v190 i n h189 h190]; rfl

end Cert.KernelIdeal.Words

end
-- ==== Proof.KerCounts.lean ====
/- The kernel's counts: one trip of the loop over the draws adds its eight draws' hits, and thirteen trips over an
   array of wants no larger than a hundred add the hundred draws' hits. -/
module

public import proofs.«01_k».proof.Proof.Hits
public import proofs.«01_k».proof.Proof.Argmax
public import proofs.«01_k».proof.Proof.KerWords
public import proofs.«01_k».proof.Proof.KiBody

@[expose] public section

noncomputable section

namespace Cert.KernelIdeal.Counts

open Cert.KernelIdeal Cert.KernelIdeal.Gen Cert.KernelIdeal.Body Idealize.ShloMosaic Idealize.ShloMosaic.TcCoe Cert.Draws

/-- The noise of a word, as a trip computes it. -/
theorem noise_at (w : BitVec 32) :
    0 - Ideal.log (max (Ideal.ofBits .f32 (IntOp.ori (IntOp.shrui .vector w 9#32) 1065353216#32) - 1 + Ideal.ofBits .f32 8388608#32)
      (Ideal.ofBits .f32 8388608#32)) = ((expo w : ℝ) : EReal) := by
  have hs : IntOp.shrui .vector w 9#32 = w >>> 9#32 := if_pos (by decide)
  have h := kernel_noise w
  rw [Ideal.ofBits_one_f32, Ideal.ofBits_zero_f32] at h
  rw [hs]
  exact h

/-- The starting value of a minimum. -/
theorem posInf : Ideal.ofBits .f32 2139095040#32 = ⊤ := by
  simp [Ideal.ofBits, Ideal.ieee]

/-- The summand of a draw: one where the draw is wanted and the value is the row's least. -/
theorem summand (f : Fin 1024 → EReal) (j : Fin 1024) (c : BitVec 1) :
    (FloatOps.sitofp (F := Ideal) .f32 (BitVec.setWidth 32 (IntOp.andi (BitVec.ofBool (decide (f j = Finset.univ.fold min ⊤ f))) c)) : EReal)
      = pick f c j := by
  have h1 : (FloatOps.sitofp (F := Ideal) .f32 (1#32) : EReal) = 1 := by
    show (((1#32 : BitVec 32).toInt : ℝ) : EReal) = 1
    rw [show (1#32 : BitVec 32).toInt = 1 from rfl]; norm_num
  have h0 : (FloatOps.sitofp (F := Ideal) .f32 (0#32) : EReal) = 0 := by
    show (((0#32 : BitVec 32).toInt : ℝ) : EReal) = 0
    rw [show (0#32 : BitVec 32).toInt = 0 from rfl]; norm_num
  unfold pick
  have hiff := eq_fold_min_iff f j
  by_cases h : f j = Finset.univ.fold min ⊤ f
  · rcases BitVec.eq_zero_or_eq_one c with hc | hc
    · rw [if_neg (by rw [hc]; simp), decide_eq_true h, hc]; exact h0
    · rw [if_pos ⟨hc, hiff.mp h⟩, decide_eq_true h, hc]; exact h1
  · rw [if_neg (fun e => h (hiff.mpr e.2)), decide_eq_false h]
    rcases BitVec.eq_zero_or_eq_one c with hc | hc <;> rw [hc] <;> exact h0

/-- The counting of a trip over any words and draw numbers. -/
theorem count_over (x0 : Vec Ideal S8x1024 .f32) (x1 : Vec Ideal S1x1x8 .f32) (acc : FVec Ideal S8x1024 .f32) (P A B : IVec S8x8x1024 32)
    (r : Fin 8) (j : Fin 1024) (w : Fin 8 → Fin 1024 → BitVec 32) (q : Fin 8 → BitVec 32)
    (hw : ∀ d j, IntOp.xori (A (ix3 r d j)) (IntOp.addi (B (ix3 r d j)) 5#32) = w d j) (hP : ∀ d, P (ix3 r d j) = q d) :
    k0_pay53 x0 x1 acc P A B 5#32 (ix2 r j)
      = (acc (ix2 r j) : EReal) + ∑ d : Fin 8, pick (fun k => val (expo (w d k)) (x0 (ix2 r k)))
          (IntOp.cmpi .slt (q d) (Ideal.fptosi 32 (x1 (ix3 0 0 r)))) j := by
  pointwise [k0_pay53, k0_pay51]
  simp only [hw, noise_at, posInf, hP]
  refine congrArg (acc (ix2 r j) + ·) (Finset.sum_congr rfl fun d _ => ?_)
  exact summand (fun k => val (expo (w d k)) (x0 (ix2 r k))) j _

/-- The counting of a trip, its words and draw numbers known: the running count and the eight draws' hits. -/
theorem count_read (x0 : Vec Ideal S8x1024 .f32) (x1 : Vec Ideal S1x1x8 .f32) (acc : FVec Ideal S8x1024 .f32) (P A B : IVec S8x8x1024 32)
    (r : Fin 8) (j : Fin 1024) (i : ℕ) (e : Fin 8 → ℕ)
    (hw : ∀ d j, IntOp.xori (A (ix3 r d j)) (IntOp.addi (B (ix3 r d j)) 5#32) = word (ctr i (e d) j.val))
    (hP : ∀ d, P (ix3 r d j) = BitVec.ofNat 32 (e d)) :
    k0_pay53 x0 x1 acc P A B 5#32 (ix2 r j)
      = (acc (ix2 r j) : EReal) + ∑ d : Fin 8, hit (fun j => x0 (ix2 r j)) (Ideal.fptosi 32 (x1 (ix3 0 0 r))) i (e d) j := by
  rw [count_over x0 x1 acc P A B r j _ _ hw hP]
  simp only [hit_eq]

/-- The draw numbers of a trip. -/
theorem draw_read (k : Fin k0_t1_loop.trips) (r d : Fin 8) (j : Fin 1024) :
    k0_pay5 (iota .tc S8x8x1024 32 [1] iota_S8x8x1024_d1_w32) 0#32 1#32 k (ix3 r d j) = BitVec.ofNat 32 (8 * k.val + d.val) := by
  pointwise [k0_pay5]
  show BitVec.ofNat 32 d.val + ((0#32 + BitVec.ofNat 32 k.val * 1#32) * 8#32) = _
  rw [BitVec.zero_add, BitVec.mul_one, show (8#32 : BitVec 32) = BitVec.ofNat 32 8 from rfl, ← BitVec.ofNat_mul, ← BitVec.ofNat_add]
  congr 1; omega

/-- The counters of a trip. -/
theorem ctr_read (b : ℕ) (k : Fin k0_t1_loop.trips) (r d : Fin 8) (j : Fin 1024) :
    k0_pay6 (iota .tc S8x8x1024 32 [0] iota_S8x8x1024_d0_w32) (iota .tc S8x8x1024 32 [1] iota_S8x8x1024_d1_w32)
      (iota .tc S8x8x1024 32 [2] iota_S8x8x1024_d2_w32) (Scalar.muli (BitVec.ofNat 32 b) 8#32) 0#32 1#32 k (ix3 r d j)
      = a5 (ctr (8 * b + r.val) (8 * k.val + d.val) j.val) := by
  have h := draw_read k r d j
  pointwise [k0_pay6]
  rw [h]
  show ((BitVec.ofNat 32 b * 8#32 + BitVec.ofNat 32 r.val) * 100#32 + BitVec.ofNat 32 (8 * k.val + d.val)) * 1024#32 + BitVec.ofNat 32 j.val + 42#32
    = BitVec.ofNat 32 (((8 * b + r.val) * 100 + (8 * k.val + d.val)) * 1024 + j.val) + 42#32
  rw [show (8#32 : BitVec 32) = BitVec.ofNat 32 8 from rfl, show (100#32 : BitVec 32) = BitVec.ofNat 32 100 from rfl,
    show (1024#32 : BitVec 32) = BitVec.ofNat 32 1024 from rfl, ← BitVec.ofNat_mul, ← BitVec.ofNat_add, ← BitVec.ofNat_mul, ← BitVec.ofNat_add,
    ← BitVec.ofNat_mul, ← BitVec.ofNat_add, Nat.mul_comm b 8]

/-- A trip over the block's index tables adds its eight draws' hits. -/
theorem trip_apply (b : ℕ) (x0 : Vec Ideal S8x1024 .f32) (x1 : Vec Ideal S1x1x8 .f32) (k : Fin k0_t1_loop.trips) (acc : FVec Ideal S8x1024 .f32)
    (r : Fin 8) (j : Fin 1024) :
    tripOf (iota .tc S8x8x1024 32 [0] iota_S8x8x1024_d0_w32) (iota .tc S8x8x1024 32 [1] iota_S8x8x1024_d1_w32)
      (iota .tc S8x8x1024 32 [2] iota_S8x8x1024_d2_w32) (Scalar.muli (BitVec.ofNat 32 b) 8#32) x0 x1 k acc (ix2 r j)
      = (acc (ix2 r j) : EReal)
        + ∑ d : Fin 8, hit (fun j => x0 (ix2 r j)) (Ideal.fptosi 32 (x1 (ix3 0 0 r))) (8 * b + r.val) (8 * k.val + d.val) j := by
  unfold tripOf
  exact count_read x0 x1 acc _ _ _ r j _ (fun d => 8 * k.val + d.val)
    (fun d j => Words.word_apply _ _ _ _ k _ _ (ctr_read b k r d j)) (fun d => draw_read k r d j)

/-- A fold whose every step adds a term at an element adds the terms' sum there. -/
theorem foldl_apply {ι : Type} (l : List ι) (f : ι → FVec Ideal S8x1024 .f32 → FVec Ideal S8x1024 .f32) (s : ι → EReal) (x : S8x1024.Idx)
    (h : ∀ k acc, f k acc x = (acc x : EReal) + s k) (acc : FVec Ideal S8x1024 .f32) :
    (l.foldl (fun a k => f k a) acc) x = (acc x : EReal) + (l.map s).sum := by
  induction l generalizing acc with
  | nil => simp
  | cons k l ih =>
    rw [List.foldl_cons, ih, h, List.map_cons, List.sum_cons]
    exact add_assoc _ _ _

/-- A sum over blocks of eight is the sum over the whole. -/
theorem sum_blocks (h : ℕ → EReal) (n : ℕ) : ∑ k ∈ Finset.range n, ∑ d ∈ Finset.range 8, h (8 * k + d) = ∑ d ∈ Finset.range (8 * n), h d := by
  induction n with
  | zero => rfl
  | succ n ih => rw [Finset.sum_range_succ, ih, Nat.mul_succ, Finset.sum_range_add]

/-- No draw from the hundredth on is wanted where at most a hundred are. -/
theorem masked (n : BitVec 32) (hn : IntOp.cmpi .sle n 100#32 = 1#1) (d : ℕ) (h : 100 ≤ d) (h' : d < 104) :
    ¬ IntOp.cmpi .slt (BitVec.ofNat 32 d) n = 1#1 := by
  intro hc
  have h1 : n.toInt ≤ 100 := by
    have : (n.sle 100#32) = true := by
      by_contra e
      rw [Bool.not_eq_true] at e
      exact absurd (hn.symm.trans (congrArg BitVec.ofBool e)) (by decide)
    rw [BitVec.sle_iff_toInt_le] at this
    exact this
  have h2 : (BitVec.ofNat 32 d).toInt < n.toInt := by
    have : ((BitVec.ofNat 32 d).slt n) = true := by
      by_contra e
      rw [Bool.not_eq_true] at e
      exact absurd (hc.symm.trans (congrArg BitVec.ofBool e)) (by decide)
    rw [BitVec.slt_iff_toInt_lt] at this
    exact this
  have h3 : (BitVec.ofNat 32 d).toInt = d := by
    rw [BitVec.toInt_ofNat', ]
    rw [Int.bmod_eq_of_le] <;> omega
  omega

/-- The hundred draws' hits and four masked draws are the thirteen trips' hits. -/
theorem sum_draws (θ : Fin 1024 → EReal) (n : BitVec 32) (hn : IntOp.cmpi .sle n 100#32 = 1#1) (i : ℕ) (j : Fin 1024) :
    ∑ d ∈ Finset.range 104, hit θ n i d j = counts θ n i j := by
  unfold counts
  rw [show (104 : ℕ) = 100 + 4 from rfl, Finset.sum_range_add, Finset.sum_range (n := 100)]
  rw [Finset.sum_eq_zero (s := Finset.range 4), add_zero]
  intro d hd
  exact hit_masked _ _ _ _ _ (masked n hn _ (by omega) (by have := Finset.mem_range.mp hd; omega))

/-- The kernel's loop runs thirteen times. -/
theorem trips_eq : k0_t1_loop.trips = 13 := by decide

/-- The trips' sums of eight are the sum over a hundred and four. -/
theorem sum_trips (h : ℕ → EReal) : ∑ k : Fin k0_t1_loop.trips, ∑ d : Fin 8, h (8 * k.val + d.val) = ∑ d ∈ Finset.range 104, h d := by
  rw [show (104 : ℕ) = 8 * k0_t1_loop.trips from by rw [trips_eq], ← sum_blocks, Finset.sum_range]
  exact Finset.sum_congr rfl fun k _ => (Finset.sum_range (fun d => h (8 * k.val + d))).symm

/-- The counts of a block: those of its eight rows. -/
theorem block_apply (t : grid0.Coords) (x0 : Vec Ideal S8x1024 .f32) (x1 : Vec Ideal S1x1x8 .f32) (r : Fin 8) (j : Fin 1024)
    (hn : IntOp.cmpi .sle (Ideal.fptosi 32 (x1 (ix3 0 0 r))) 100#32 = 1#1) :
    blockCounts t x0 x1 (ix2 r j)
      = counts (fun j => x0 (ix2 r j)) (Ideal.fptosi 32 (x1 (ix3 0 0 r))) (8 * (t 0).val + r.val) j := by
  unfold blockCounts countsOf
  rw [Scf.fold_eq]
  obtain ⟨H, hH⟩ : ∃ H : ℕ → EReal, ∀ d, H d = hit (fun j => x0 (ix2 r j)) (Ideal.fptosi 32 (x1 (ix3 0 0 r))) (8 * (t 0).val + r.val) d j :=
    ⟨_, fun _ => rfl⟩
  refine (foldl_apply _ _ (fun k => ∑ d : Fin 8, H (8 * k.val + d.val)) (ix2 r j) (fun k acc => ?_) _).trans ?_
  · rw [trip_apply (t 0).val x0 x1 k acc r j]
    simp only [hH]
  · have h0 : (k0_pay52 (F := Ideal) (ix2 r j) : EReal) = 0 := Ideal.ofBits_zero_f32
    rw [h0, zero_add, ← List.ofFn_eq_map, List.sum_ofFn, sum_trips, Finset.sum_congr rfl fun d _ => hH d]
    exact sum_draws _ _ hn _ _

end Cert.KernelIdeal.Counts

end
-- ==== Proof.KerValue.lean ====
/- What the kernel's points leave: each point's counts, the column sums, the two running sums and the loss, in plain terms of the
   arguments. -/
module

public import proofs.«01_k».proof.Proof.KerBlocks
public import proofs.«01_k».proof.Proof.KerCounts

@[expose] public section

noncomputable section

namespace Cert.KernelIdeal.Arrays

open Cert.KernelIdeal Cert.KernelIdeal.Gen Cert.KernelIdeal.Body Idealize.ShloMosaic Idealize.ShloMosaic.TcCoe Cert.Draws

variable (m : (ℓ : Loc nD τ sig) → Buf (Elt Ideal) ℓ) (c : Dev nD)

/-- The counts of the launch in plain terms. -/
def Z (i : Fin 4096) (j : Fin 1024) : EReal := counts (fun j => theta m c (ix2 i j)) (Ideal.fptosi 32 (want m c (ix1 i))) i.val j

/-! ## One point's terms over any blocks -/

section
variable (x0 z : Vec Ideal S8x1024 .f32) (x1 : Vec Ideal S1x1x8 .f32) (cs x2 : Vec Ideal S1x1024 .f32) (a : Vec Ideal S2 .f32)

/-- A point adds its block's gains to the first running scalar, -/
theorem next0 : accNext x0 x1 z a cell0 = (a cell0 : EReal) + ∑ r : Fin 8, ∑ j : Fin 1024, gain (x0 (ix2 r j)) (z (ix2 r j)) := by
  have h : accNext x0 x1 z a cell0 = k0_pay1 (k0_pay54 x0 z) (a cell0) := if_neg (by decide)
  rw [h]
  have hp : (k0_pay54 x0 z : EReal) = ∑ r : Fin 8, ∑ j : Fin 1024, gain (x0 (ix2 r j)) (z (ix2 r j)) := by
    unfold gain logFloor
    pointwise [k0_pay54]
    simp only [max_comm (Ideal.ofBits .f32 3268411392#32)]
  rw [← hp]
  rfl

/-- its rows' squared misses to the second, -/
theorem next1 (Y : Fin 8 → EReal) (hY : ∀ r, (FloatOps.sitofp (F := Ideal) .f32 (Ideal.fptosi 32 (x1 (ix3 0 0 r))) : EReal) = Y r) :
    accNext x0 x1 z a cell1 = (a cell1 : EReal) + ∑ r : Fin 8, miss (Y r) (∑ j : Fin 1024, z (ix2 r j)) := by
  have h : accNext x0 x1 z a cell1 = k0_pay2 (k0_pay55 x1 z) (a cell1) := if_pos (by decide)
  rw [h]
  unfold miss
  pointwise [k0_pay55, k0_pay2, k0_pay51]
  refine congrArg (HAdd.hAdd _) (Finset.sum_congr rfl fun r _ => ?_)
  rw [← hY r]
  rfl

/-- and its counts to the column sums. -/
theorem nextCol (j : Fin 1024) : k0_pay3 z cs (ix2 0 j) = (cs (ix2 0 j) : EReal) + ∑ r : Fin 8, z (ix2 r j) := by
  pointwise [k0_pay3]

/-- The loss as the last point computes it from the two running scalars and the column sums. -/
theorem lossOf_apply (x3 : Vec Ideal S1x1 .f32) (y) :
    lossOf x2 x3 cs a y = 0 - ((a cell0 : EReal) - x3 entry * ((a cell1 : EReal) + ∑ j : Fin 1024, miss (x2 (ix2 0 j)) (cs (ix2 0 j)))) := by
  have h : lossOf x2 x3 cs a y = k0_pay4 cs x2 (a cell0) (x3 entry) (a cell1) := rfl
  rw [h]
  unfold miss
  generalize (a cell0 : EReal) = a0
  generalize (a cell1 : EReal) = a1
  generalize (x3 entry : EReal) = l
  pointwise [k0_pay4]
  simp

end

/-! ## The points -/

variable (hn : ∀ i, IntOp.cmpi .sle (Ideal.fptosi 32 (want m c (ix1 i))) 100#32 = 1#1)
include hn

/-- The counts of a point's block. -/
theorem zAt_apply (t : Fin cfg0.N) (r : Fin 8) (j : Fin 1024) : zAt m c t (ix2 r j) = Z m c (rowOf (pt t) r) j := by
  unfold zAt Z
  rw [Counts.block_apply (grid0.coords t) (iblk m c 0 t) (iblk m c 1 t) r j (by rw [block1]; exact hn _), block1, coord,
    show (fun j => iblk m c 0 t (ix2 r j)) = fun j => theta m c (ix2 (rowOf (pt t) r) j) from funext fun j => block0 m c t r j]
  rfl

/-- The column sums after point `n`: the counts of the rows so far. -/
theorem colAt_apply (j : Fin 1024) : ∀ (n : ℕ) (h : n < cfg0.N),
    colAt m c n h (ix2 0 j) = ∑ k : Fin (n + 1), ∑ r : Fin 8, Z m c (rowOf (pt ⟨k.val, lt_of_lt_of_le k.isLt h⟩) r) j
  | 0, h => by
    have h0 : (k0_pay50 (F := Ideal) (ix2 0 j) : EReal) = 0 := Ideal.ofBits_zero_f32
    rw [colAt, nextCol, h0, zero_add, Fin.sum_univ_one]
    exact Finset.sum_congr rfl fun r _ => zAt_apply m c hn _ r j
  | n + 1, h => by
    rw [colAt, nextCol, Fin.sum_univ_castSucc (n := n + 1), colAt_apply j n]
    exact congrArg (HAdd.hAdd _) (Finset.sum_congr rfl fun r _ => zAt_apply m c hn _ r j)

/-- The first running sum after point `n`: the gains of the rows so far. -/
theorem acc0_apply : ∀ (n : ℕ) (h : n < cfg0.N),
    accAt m c n h cell0 = ∑ k : Fin (n + 1), ∑ r : Fin 8, ∑ j : Fin 1024,
      gain (theta m c (ix2 (rowOf (pt ⟨k.val, lt_of_lt_of_le k.isLt h⟩) r) j)) (Z m c (rowOf (pt ⟨k.val, lt_of_lt_of_le k.isLt h⟩) r) j)
  | 0, h => by
    have h0 : (zeroAcc (F := Ideal) cell0 : EReal) = 0 := Ideal.ofBits_zero_f32
    rw [accAt, next0, h0, zero_add, Fin.sum_univ_one]
    exact Finset.sum_congr rfl fun r _ => Finset.sum_congr rfl fun j _ => by rw [zAt_apply m c hn, block0]; rfl
  | n + 1, h => by
    rw [accAt, next0, Fin.sum_univ_castSucc (n := n + 1), acc0_apply n]
    exact congrArg (HAdd.hAdd _) (Finset.sum_congr rfl fun r _ => Finset.sum_congr rfl fun j _ => by rw [zAt_apply m c hn, block0]; rfl)

variable (hy : ∀ i, (FloatOps.sitofp (F := Ideal) .f32 (Ideal.fptosi 32 (want m c (ix1 i))) : EReal) = want m c (ix1 i))
include hy

/-- The second running sum after point `n`: the squared misses of the rows so far. -/
theorem acc1_apply : ∀ (n : ℕ) (h : n < cfg0.N),
    accAt m c n h cell1 = ∑ k : Fin (n + 1), ∑ r : Fin 8,
      miss (want m c (ix1 (rowOf (pt ⟨k.val, lt_of_lt_of_le k.isLt h⟩) r))) (∑ j : Fin 1024, Z m c (rowOf (pt ⟨k.val, lt_of_lt_of_le k.isLt h⟩) r) j)
  | 0, h => by
    have h0 : (zeroAcc (F := Ideal) cell1 : EReal) = 0 := Ideal.ofBits_zero_f32
    rw [accAt, next1 _ _ _ _ (fun r => want m c (ix1 (rowOf (pt ⟨0, h⟩) r))) (fun r => by rw [block1]; exact hy _), h0, zero_add, Fin.sum_univ_one]
    exact Finset.sum_congr rfl fun r _ => congrArg (miss _) (Finset.sum_congr rfl fun j _ => zAt_apply m c hn _ r j)
  | n + 1, h => by
    rw [accAt, next1 _ _ _ _ (fun r => want m c (ix1 (rowOf (pt ⟨n + 1, h⟩) r))) (fun r => by rw [block1]; exact hy _), Fin.sum_univ_castSucc (n := n + 1),
      acc1_apply n]
    exact congrArg (HAdd.hAdd _) (Finset.sum_congr rfl fun r _ => congrArg (miss _) (Finset.sum_congr rfl fun j _ => zAt_apply m c hn _ r j))

/-- The loss the last point stores. -/
theorem lossAt_apply (t : Fin cfg0.N) (ht : t.val = 511) (y) :
    lossAt m c t y = loss (fun i j => theta m c (ix2 i j)) (fun i => want m c (ix1 i)) (fun j => colWant m c (ix1 j)) (factor m c here) (Z m c) := by
  obtain ⟨n, hN⟩ := t
  subst ht
  unfold lossAt
  rw [lossOf_apply, acc0_apply m c hn, acc1_apply m c hn hy, block3, ← loss_blocks]
  simp only [block2, colAt_apply m c hn]
  rfl

end Cert.KernelIdeal.Arrays

end
-- ==== Proof.KerArrays.lean ====
/- What the kernel's arrays hold after the run: the counts and the loss in plain terms of the arguments. -/
module

public import proofs.«01_k».proof.Proof.KerValue
public import Idealize.ShloMosaic.Lib.Pipeline.Covers

@[expose] public section

set_option maxRecDepth 16384

noncomputable section

namespace Cert.KernelIdeal.Arrays

open Cert.KernelIdeal Cert.KernelIdeal.Gen Cert.KernelIdeal.Body Idealize.ShloMosaic Idealize.ShloMosaic.TcCoe Cert.Draws

variable (m : (ℓ : Loc nD τ sig) → Buf (Elt Ideal) ℓ) (c : Dev nD)

/-- The last point. -/
def lastPt : Fin cfg0.N := ⟨511, Nat.lt_of_lt_of_eq (by decide) N_0.symm⟩

variable (hn : ∀ i, IntOp.cmpi .sle (Ideal.fptosi 32 (want m c (ix1 i))) 100#32 = 1#1)
include hn

/-- The counts' array after the run. -/
theorem counts_arr : (dats m 0 c).arrAt 4 cfg0.N = fun x : S4096x1024.Idx => Z m c (x 0) (x 1) := by
  refine (dats m 0 c).arrAt_eq_of_covers 4 _ (by decide +kernel) fun t hf y => ?_
  blk_simp
  rw [after4]
  have hyy : (y : S8x1024.Idx) = ix2 (y 0) (y 1) := eq_ix2 y
  refine (congrArg (zAt m c t) hyy).trans ((zAt_apply m c hn t (y 0) (y 1)).trans ?_)
  have h0 : rowOf (pt t) (y 0) = (win0_4.blk t).view.emb y 0 := Fin.ext (by
    have hr : (rowOf (pt t) (y 0)).val = 8 * t.val + (y 0).val := rfl
    rw [hr]; blk_simp [idx4 t]; omega)
  have h1 : (y 1 : Fin 1024) = (win0_4.blk t).view.emb y 1 := Fin.ext (by blk_simp [idx4 t])
  exact congr (congrArg (Z m c) h0) h1

variable (hy : ∀ i, (FloatOps.sitofp (F := Ideal) .f32 (Ideal.fptosi 32 (want m c (ix1 i))) : EReal) = want m c (ix1 i))
include hy

/-- The loss's array after the run. -/
theorem loss_arr : (dats m 0 c).arrAt 5 cfg0.N = fun _ : S1x1.Idx =>
    loss (fun i j => theta m c (ix2 i j)) (fun i => want m c (ix1 i)) (fun j => colWant m c (ix1 j)) (factor m c here) (Z m c) := by
  refine (dats m 0 c).arrAt_eq_of_after_last 5 lastPt (by decide +kernel) _ fun j => ?_
  blk_simp
  rw [after5]
  exact lossAt_apply m c hn hy lastPt rfl _

end Cert.KernelIdeal.Arrays

end
-- ==== Proof.KerResult.lean ====
/- The kernel's run, in plain terms of the arguments: the loss, the counts, and the arguments unchanged. -/
module

public import proofs.«01_k».proof.Proof.KerArrays

@[expose] public section

set_option maxRecDepth 16384

noncomputable section

namespace Cert.KernelIdeal.Arrays

open Cert.KernelIdeal Cert.KernelIdeal.Gen Cert.KernelIdeal.Body Idealize.ShloMosaic Idealize.ShloMosaic.TcCoe Idealize.SL.Sem Cert.Draws

variable (m : (ℓ : Loc nD τ sig) → Buf (Elt Ideal) ℓ) (ρ : Dev nD → PrngReg)

/-- The loss that the host reads off the run's last array. -/
def lossOut (c : Dev nD) : EReal :=
  loss (fun i j => theta m c (ix2 i j)) (fun i => want m c (ix1 i)) (fun j => colWant m c (ix1 j)) (factor m c here) (Z m c)

/-- The host's reading of the loss's one entry. -/
theorem tail_loss (c : Dev nD) (hn : ∀ i, IntOp.cmpi .sle (Ideal.fptosi 32 (want m c (ix1 i))) 100#32 = 1#1)
    (hy : ∀ i, (FloatOps.sitofp (F := Ideal) .f32 (Ideal.fptosi 32 (want m c (ix1 i))) : EReal) = want m c (ix1 i)) :
    Pipeline.afterTail₀ cfgs (dats m) 0 (V0 m) [hostOps1] c main_v4 = fun _ : S_.Idx => lossOut m c := by
  have h : Pipeline.afterTail₀ cfgs (dats m) 0 (V0 m) [hostOps1] c main_v4
      = shapeCast S_ ((dats m 0 c).arrAt 5 cfg0.N : FVec Ideal S1x1 .f32) shapeCasts_S1x1_S_ := by
    unfold Pipeline.afterTail₀
    simp only [hostOps1, List.flatten_cons, List.flatten_nil, List.append_nil, StableHlo.after_cons, StableHlo.after_nil]
    refine (StableHlo.reshape_result main_v3_1 main_v4 _ _ _ _ _).trans ?_
    have ha : Pipeline.withArrays (cfgs 0).spec c (V0 m c) (fun w => (dats m 0 c).arrAt w (cfgs 0).N) (Proc.devRef .tc main_v3_1)
        = (dats m 0 c).arrAt 5 cfg0.N := Pipeline.withArrays_arr (cfgs 0).spec (by decide) c (V0 m c) _ 5
    exact congrArg (fun a : FVec Ideal S1x1 .f32 => shapeCast S_ a shapeCasts_S1x1_S_) ha
  rw [h, loss_arr m c hn hy]
  rfl

/-- The run: the loss, the counts and the arguments. -/
theorem run (hn : ∀ c i, IntOp.cmpi .sle (Ideal.fptosi 32 (want m c (ix1 i))) 100#32 = 1#1)
    (hy : ∀ c i, (FloatOps.sitofp (F := Ideal) .f32 (Ideal.fptosi 32 (want m c (ix1 i))) : EReal) = want m c (ix1 i)) :
    θ_run defs (onTc (τ := τ) (main (F := Ideal))) ⟨m, fun _ => 0, ρ⟩ fun r => ∀ c : Dev nD,
      r.2.mem ((c.tc : Thread nD τ).loc main_v4) = (fun _ : S_.Idx => lossOut m c)
      ∧ r.2.mem ((c.tc : Thread nD τ).loc main_v3_0) = (fun x : S4096x1024.Idx => Z m c (x 0) (x 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from (run_main m ρ)
  · exact tail_loss m c (hn c) (hy c)
  · exact counts_arr m c (hn c)
  · exact W_main_arg1 m (dats m) c
  · exact W_main_arg2 m (dats m) c
  · exact W_main_arg3 m (dats m) c

end Cert.KernelIdeal.Arrays

end
-- ==== Proof.Equation.lean ====
/- The equation: on the same arguments, within the precondition, the kernel and the reference give the same loss and the same
   counts. -/
module

public import proofs.«01_k».proof.Defs
public import proofs.«01_k».proof.Proof.PreReads
public import proofs.«01_k».proof.Proof.RefLoss
public import proofs.«01_k».proof.Proof.RefResult
public import proofs.«01_k».proof.Proof.KerResult

@[expose] public section

set_option maxRecDepth 16384

noncomputable section

namespace Cert.Equation

open Idealize.ShloMosaic Idealize.ShloMosaic.TcCoe Idealize.ShloMosaic.StableHlo Idealize.SL.Sem Cert.Draws

attribute [local instance] Cert.Pre.facts

open Cert.ReferenceIdeal.Counts (theta want colWant factor drawn scores row wantWord lossOver)
open Cert.KernelIdeal.Arrays (Z lossOut)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on core `c`. -/
structure Agree (c : Dev Cert.KernelIdeal.nD) : Prop where
  theta : Cert.KernelIdeal.Arrays.theta m c = theta (launchContents m' c)
  want : Cert.KernelIdeal.Arrays.want m c = want (launchContents m' c)
  colWant : Cert.KernelIdeal.Arrays.colWant m c = colWant (launchContents m' c)
  factor : Cert.KernelIdeal.Arrays.factor m c = factor (launchContents m' c)

/-- What the precondition gives on core `c`, of the reference's arguments. -/
structure Good (V0 : Valuation Cert.ReferenceIdeal.τ Cert.ReferenceIdeal.sig (Elt Ideal)) : Prop where
  least_le : ∀ i j, least ≤ row V0 i j
  whole : ∀ i, (FloatOps.sitofp (F := Ideal) .f32 (wantWord V0 i) : EReal) = want V0 (ix1 i)
  at_most : ∀ i, IntOp.cmpi .sle (wantWord V0 i) 100#32 = 1#1
  single : ∀ i (d : Fin 100), IntOp.cmpi .slt (BitVec.ofNat 32 d.val) (wantWord V0 i) = 1#1 → Cert.Pre.winners (scores V0) (ix2 i d) = 1#32

/-- Equal arguments, by name. -/
theorem agree (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : Agree m m' c :=
  ⟨h.1.symm, h.2.1.symm, h.2.2.1.symm, h.2.2.2.symm⟩

/-- The precondition on the kernel's memory, read at the reference's. -/
theorem good (c : Dev Cert.KernelIdeal.nD) (hp : Pre_KernelIdeal_in_range m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : Good (launchContents m' c) := by
  obtain ⟨h0, h1, h2, h3⟩ := h
  have p := hp c
  rw [← h0, ← h1, ← h2, ← h3] at p
  obtain ⟨p1, p2, p3, p4⟩ := p
  exact ⟨Cert.Pre.least_le (launchContents m' c) p1, Cert.Pre.whole (launchContents m' c) p2,
    Cert.Pre.at_most (launchContents m' c) p3, Cert.Pre.single (launchContents m' c) p4⟩

variable {m m'} {c : Dev Cert.KernelIdeal.nD} (ha : Agree m m' c) (hg : Good (launchContents m' c))
include ha hg

/-- The counts are equal, row by row. -/
theorem counts_eq (i : Fin 4096) (j : Fin 1024) : drawn (launchContents m' c) (ix2 i j) = Z m c i j := by
  rw [Cert.ReferenceIdeal.Counts.drawn_apply _ hg.least_le hg.single]
  unfold Z wantWord
  rw [ha.theta, ha.want]
  rfl

/-- The counts are equal as arrays. -/
theorem drawn_eq : drawn (launchContents m' c) = fun x : Cert.KernelIdeal.S4096x1024.Idx => Z m c (x 0) (x 1) := by
  funext x
  obtain ⟨i, j, rfl⟩ : ∃ i j, x = ix2 i j := ⟨x 0, x 1, eq_ix2 x⟩
  exact counts_eq ha hg i j

/-- The losses are equal. -/
theorem loss_eq : lossOver (theta (launchContents m' c)) (want (launchContents m' c)) (colWant (launchContents m' c)) (factor (launchContents m' c)) (drawn (launchContents m' c))
    = fun _ : Cert.KernelIdeal.S_.Idx => lossOut m c := by
  funext x
  rw [Cert.ReferenceIdeal.Counts.eq_here x, Cert.ReferenceIdeal.Counts.loss_apply]
  have hz : (fun i j => drawn (launchContents m' c) (ix2 i j)) = Z m c := funext fun i => funext fun j => counts_eq ha hg i j
  rw [hz]
  unfold lossOut
  rw [ha.theta, ha.want, ha.colWant, ha.factor]
  rfl

/-- The wants that the kernel stages are whole and at most a hundred. -/
theorem ker_at_most (i : Fin 4096) : IntOp.cmpi .sle (Ideal.fptosi 32 (Cert.KernelIdeal.Arrays.want m c (ix1 i))) 100#32 = 1#1 := by
  rw [ha.want]
  exact hg.at_most i
/-- Casting a staged want to an integer and back changes nothing. -/
theorem ker_whole (i : Fin 4096) :
    (FloatOps.sitofp (F := Ideal) .f32 (Ideal.fptosi 32 (Cert.KernelIdeal.Arrays.want m c (ix1 i))) : EReal) = Cert.KernelIdeal.Arrays.want m c (ix1 i) := by
  rw [ha.want]
  exact hg.whole i

omit ha hg in
/-- The algebraic claim: both run, with the same loss and the same counts, and leave the arguments as they were. -/
theorem algebraic : algebraic_KernelIdeal_ReferenceIdeal_pre_in_range := by
  intro m g m' g' hp hargs
  have ha := fun c => agree m m' c (hargs c)
  have hg := fun c => good m m' c hp (hargs c)
  refine ⟨fun c => (fun _ : Cert.KernelIdeal.S_.Idx => lossOut m c), fun c => (fun x : Cert.KernelIdeal.S4096x1024.Idx => Z m c (x 0) (x 1)),
    Cert.KernelIdeal.Arrays.run m g (fun c => ker_at_most (ha c) (hg c)) (fun c => ker_whole (ha c) (hg c)), ?_⟩
  refine (θ_run _ _ _).mono (fun r h c => ?_) (Cert.ReferenceIdeal.Counts.run m' g')
  obtain ⟨e0, e1, er⟩ := h c
  exact ⟨e0.trans (loss_eq (ha c) (hg c)), e1.trans (drawn_eq (ha c) (hg c)), er⟩

end Cert.Equation

end
-- ==== Proof.lean ====
module

public import proofs.«01_k».proof.Defs
public import proofs.«01_k».proof.Proof.KpFrame
public import proofs.«01_k».proof.Proof.KiFrame
public import proofs.«01_k».proof.Proof.RefRun
public import proofs.«01_k».proof.Proof.Gen.ReferenceIdeal
public import proofs.«01_k».proof.Proof.Equation

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre.facts,
    fun m g _ => Cert.Kernel.Body.quiescent m g,
    fun m g _ => Cert.KernelIdeal.Body.quiescent m g,
    fun m g _ => Cert.KernelIdeal.Body.quiescent m g,
    fun m g _ => Cert.ReferenceIdeal.Value.quiescent m g,
    fun m g _ => Cert.ReferenceIdeal.Value.quiescent m g,
    trivial,
    Cert.Equation.algebraic⟩

end Cert.Proof

end
